-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_draws [hPre_clear_draws : Cert.Pre_clear_draws.Facts] (m : (ℓ : Loc Cert.KernelIdeal.nD Cert.KernelIdeal.τ Cert.KernelIdeal.sig) → Buf (Elt Ideal) ℓ) : Prop :=
  ∀ c : Dev Cert.KernelIdeal.nD,
    (Cert.Pre_clear_draws.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_clear_draws.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_draws [hPre_clear_draws : Cert.Pre_clear_draws.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_draws.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_clear_draws.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_clear_draws [hKernelIdeal : Cert.KernelIdeal.Facts] [hPre_clear_draws : Cert.Pre_clear_draws.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_draws m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_clear_draws [hReferenceIdeal : Cert.ReferenceIdeal.Facts] [hPre_clear_draws : Cert.Pre_clear_draws.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_draws m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_clear_draws [hKernelIdeal : Cert.KernelIdeal.Facts] [hReferenceIdeal : Cert.ReferenceIdeal.Facts] [hPre_clear_draws : Cert.Pre_clear_draws.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_draws m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_clear_draws : Cert.Pre_clear_draws.Facts),
    quiescent_Kernel (hKernel := hKernel)
    ∧ quiescent_KernelIdeal (hKernelIdeal := hKernelIdeal)
    ∧ quiescent_KernelIdeal_pre_clear_draws (hKernelIdeal := hKernelIdeal) (hPre_clear_draws := hPre_clear_draws)
    ∧ quiescent_ReferenceIdeal (hReferenceIdeal := hReferenceIdeal)
    ∧ quiescent_ReferenceIdeal_pre_clear_draws (hReferenceIdeal := hReferenceIdeal) (hPre_clear_draws := hPre_clear_draws)
    ∧ preserves_Kernel_KernelIdeal
    ∧ algebraic_KernelIdeal_ReferenceIdeal_pre_clear_draws (hKernelIdeal := hKernelIdeal) (hReferenceIdeal := hReferenceIdeal) (hPre_clear_draws := hPre_clear_draws)
-- ==== Pre_clear_draws.lean ====
abbrev S16384x1000 : Shape := ⟨2, ![16384, 1000]⟩
abbrev S_ : Shape := ⟨0, ![]⟩
abbrev S16384000 : Shape := ⟨1, ![16384000]⟩
abbrev S1 : Shape := ⟨1, ![1]⟩
abbrev S2 : Shape := ⟨1, ![2]⟩
abbrev S1x1 : Shape := ⟨2, ![1, 1]⟩
abbrev S4096x16384000 : Shape := ⟨2, ![4096, 16384000]⟩
abbrev S1x16384000 : Shape := ⟨2, ![1, 16384000]⟩
abbrev S4096 : Shape := ⟨1, ![4096]⟩
abbrev S4096x1 : Shape := ⟨2, ![4096, 1]⟩

class Facts : Prop where
  bcast_S_S16384x1000 : S_.BroadcastsInDim S16384x1000 (![] : Fin 0 → Fin S16384x1000.rank)
  shapeCasts_S16384x1000_S16384000 : S16384x1000.ShapeCasts S16384000
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S4096x16384000 : S_.BroadcastsInDim S4096x16384000 (![] : Fin 0 → Fin S4096x16384000.rank)
  natLt_32_64 : 32 < 64
  bcast_S1x1_S4096x16384000_0_1 : S1x1.BroadcastsInDim S4096x16384000 (![0, 1] : Fin 2 → Fin S4096x16384000.rank)
  bcast_S16384000_S1x16384000_1 : S16384000.BroadcastsInDim S1x16384000 (![1] : Fin 1 → Fin S1x16384000.rank)
  bcast_S1x16384000_S4096x16384000_0_1 : S1x16384000.BroadcastsInDim S4096x16384000 (![0, 1] : Fin 2 → Fin S4096x16384000.rank)
  reducesTo_S4096x16384000_S4096_d1 : S4096x16384000.ReducesTo [1] S4096
  h_S_ : 0 < S_.numel
  bcast_S4096_S4096x1_0 : S4096.BroadcastsInDim S4096x1 (![0] : Fin 1 → Fin S4096x1.rank)
  bcast_S4096x1_S4096x16384000_0_1 : S4096x1.BroadcastsInDim S4096x16384000 (![0, 1] : Fin 2 → Fin S4096x16384000.rank)
  bcast_S16384000_S4096x16384000_1 : S16384000.BroadcastsInDim S4096x16384000 (![1] : Fin 1 → Fin S4096x16384000.rank)
  slices_S16384x1000_S1x1_0_0 : S16384x1000.Slices ![0, 0] S1x1
  shapeCasts_S1x1_S_ : S1x1.ShapeCasts S_
  reducesTo_S16384x1000_S_d0_1 : S16384x1000.ReducesTo [0, 1] S_
  bcast_S_S4096 : S_.BroadcastsInDim S4096 (![] : Fin 0 → Fin S4096.rank)

variable [Facts]

def fn_clip {F : FTy → Type} [FloatOps F] (arg0 : FVec F S16384x1000 .f32) (arg1 : FVec F S_ .f32) (arg2 : FVec F S_ .f32) : FVec F S16384x1000 .f32 :=
  let v0 : FVec F S_ .f32 := id arg1
  let v1 : FVec F S16384x1000 .f32 := broadcastInDim S16384x1000 ![] bcast_S_S16384x1000 v0
  let v2 : FVec F S16384x1000 .f32 := maximumf v1 arg0
  let v3 : FVec F S_ .f32 := id arg2
  let v4 : FVec F S16384x1000 .f32 := broadcastInDim S16384x1000 ![] bcast_S_S16384x1000 v3
  let v5 : FVec F S16384x1000 .f32 := minimumf v4 v2
  v5

def fn_where {F : FTy → Type} [FloatOps F] (arg0 : IVec S16384x1000 1) (arg1 : FVec F S_ .f32) (arg2 : FVec F S16384x1000 .f32) : FVec F S16384x1000 .f32 :=
  let v0 : FVec F S_ .f32 := id arg1
  let v1 : FVec F S16384x1000 .f32 := broadcastInDim S16384x1000 ![] bcast_S_S16384x1000 v0
  let v2 : FVec F S16384x1000 .f32 := select arg0 v1 arg2
  v2

def fn_threefry2x32_part9 {F : FTy → Type} [FloatOps F] (arg0 : IVec S_ 32) (v163 : IVec S4096x16384000 32) (v169 : IVec S4096x16384000 32) (v170 : IVec S4096x16384000 32) : IVec S4096x16384000 32 × IVec S4096x16384000 32 :=
  let v171 : IVec S4096x16384000 32 := addi v163 v170
  let v172 : IVec S4096x16384000 32 := broadcastInDim S4096x16384000 ![] bcast_S_S4096x16384000 arg0
  let v173 : IVec S4096x16384000 32 := addi v169 v172
  let c_44 : IVec S_ 32 := constantI S_ 32 5#32
  let v174 : IVec S4096x16384000 32 := broadcastInDim S4096x16384000 ![] bcast_S_S4096x16384000 c_44
  let v175 : IVec S4096x16384000 32 := addi v173 v174
  (v171, v175)

def fn_threefry2x32_part8 {F : FTy → Type} [FloatOps F] (arg0 : IVec S_ 32) (v1 : IVec S_ 32) (v148 : IVec S4096x16384000 32) (v149 : IVec S4096x16384000 32) (v151 : IVec S4096x16384000 32) : IVec S4096x16384000 32 × IVec S4096x16384000 32 :=
  let c_39 : IVec S_ 32 := constantI S_ 32 17#32
  let v152 : IVec S4096x16384000 32 := broadcastInDim S4096x16384000 ![] bcast_S_S4096x16384000 c_39
  let v153 : IVec S4096x16384000 32 := Host.shrui v148 v152
  let v154 : IVec S4096x16384000 32 := ori v151 v153
  let v155 : IVec S4096x16384000 32 := xori v149 v154
  let v156 : IVec S4096x16384000 32 := addi v149 v155
  let c_40 : IVec S_ 32 := constantI S_ 32 26#32
  let v157 : IVec S4096x16384000 32 := broadcastInDim S4096x16384000 ![] bcast_S_S4096x16384000 c_40
  let v158 : IVec S4096x16384000 32 := Host.shli v155 v157
  let c_41 : IVec S_ 32 := constantI S_ 32 6#32
  let v159 : IVec S4096x16384000 32 := broadcastInDim S4096x16384000 ![] bcast_S_S4096x16384000 c_41
  let v160 : IVec S4096x16384000 32 := Host.shrui v155 v159
  let v161 : IVec S4096x16384000 32 := ori v158 v160
  let v162 : IVec S4096x16384000 32 := xori v156 v161
  let v163 : IVec S4096x16384000 32 := addi v156 v162
  let c_42 : IVec S_ 32 := constantI S_ 32 6#32
  let v164 : IVec S4096x16384000 32 := broadcastInDim S4096x16384000 ![] bcast_S_S4096x16384000 c_42
  let v165 : IVec S4096x16384000 32 := Host.shli v162 v164
  let c_43 : IVec S_ 32 := constantI S_ 32 26#32
  let v166 : IVec S4096x16384000 32 := broadcastInDim S4096x16384000 ![] bcast_S_S4096x16384000 c_43
  let v167 : IVec S4096x16384000 32 := Host.shrui v162 v166
  let v168 : IVec S4096x16384000 32 := ori v165 v167
  let v169 : IVec S4096x16384000 32 := xori v163 v168
  let v170 : IVec S4096x16384000 32 := broadcastInDim S4096x16384000 ![] bcast_S_S4096x16384000 v1
  fn_threefry2x32_part9 (F := F) arg0 v163 v169 v170

def fn_threefry2x32_part7 {F : FTy → Type} [FloatOps F] (arg0 : IVec S_ 32) (arg1 : IVec S_ 32) (v1 : IVec S_ 32) (v128 : IVec S4096x16384000 32) (v129 : IVec S4096x16384000 32) (v131 : IVec S4096x16384000 32) (c_34 : IVec S_ 32) : IVec S4096x16384000 32 × IVec S4096x16384000 32 :=
  let v132 : IVec S4096x16384000 32 := broadcastInDim S4096x16384000 ![] bcast_S_S4096x16384000 c_34
  let v133 : IVec S4096x16384000 32 := Host.shrui v128 v132
  let v134 : IVec S4096x16384000 32 := ori v131 v133
  let v135 : IVec S4096x16384000 32 := xori v129 v134
  let v136 : IVec S4096x16384000 32 := broadcastInDim S4096x16384000 ![] bcast_S_S4096x16384000 arg1
  let v137 : IVec S4096x16384000 32 := addi v129 v136
  let v138 : IVec S4096x16384000 32 := broadcastInDim S4096x16384000 ![] bcast_S_S4096x16384000 v1
  let v139 : IVec S4096x16384000 32 := addi v135 v138
  let c_35 : IVec S_ 32 := constantI S_ 32 4#32
  let v140 : IVec S4096x16384000 32 := broadcastInDim S4096x16384000 ![] bcast_S_S4096x16384000 c_35
  let v141 : IVec S4096x16384000 32 := addi v139 v140
  let v142 : IVec S4096x16384000 32 := addi v137 v141
  let c_36 : IVec S_ 32 := constantI S_ 32 13#32
  let v143 : IVec S4096x16384000 32 := broadcastInDim S4096x16384000 ![] bcast_S_S4096x16384000 c_36
  let v144 : IVec S4096x16384000 32 := Host.shli v141 v143
  let c_37 : IVec S_ 32 := constantI S_ 32 19#32
  let v145 : IVec S4096x16384000 32 := broadcastInDim S4096x16384000 ![] bcast_S_S4096x16384000 c_37
  let v146 : IVec S4096x16384000 32 := Host.shrui v141 v145
  let v147 : IVec S4096x16384000 32 := ori v144 v146
  let v148 : IVec S4096x16384000 32 := xori v142 v147
  let v149 : IVec S4096x16384000 32 := addi v142 v148
  let c_38 : IVec S_ 32 := constantI S_ 32 15#32
  let v150 : IVec S4096x16384000 32 := broadcastInDim S4096x16384000 ![] bcast_S_S4096x16384000 c_38
  let v151 : IVec S4096x16384000 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S4096x16384000 32) (v113 : IVec S4096x16384000 32) : IVec S4096x16384000 32 × IVec S4096x16384000 32 :=
  let v114 : IVec S4096x16384000 32 := xori v108 v113
  let v115 : IVec S4096x16384000 32 := addi v108 v114
  let c_29 : IVec S_ 32 := constantI S_ 32 29#32
  let v116 : IVec S4096x16384000 32 := broadcastInDim S4096x16384000 ![] bcast_S_S4096x16384000 c_29
  let v117 : IVec S4096x16384000 32 := Host.shli v114 v116
  let c_30 : IVec S_ 32 := constantI S_ 32 3#32
  let v118 : IVec S4096x16384000 32 := broadcastInDim S4096x16384000 ![] bcast_S_S4096x16384000 c_30
  let v119 : IVec S4096x16384000 32 := Host.shrui v114 v118
  let v120 : IVec S4096x16384000 32 := ori v117 v119
  let v121 : IVec S4096x16384000 32 := xori v115 v120
  let v122 : IVec S4096x16384000 32 := addi v115 v121
  let c_31 : IVec S_ 32 := constantI S_ 32 16#32
  let v123 : IVec S4096x16384000 32 := broadcastInDim S4096x16384000 ![] bcast_S_S4096x16384000 c_31
  let v124 : IVec S4096x16384000 32 := Host.shli v121 v123
  let c_32 : IVec S_ 32 := constantI S_ 32 16#32
  let v125 : IVec S4096x16384000 32 := broadcastInDim S4096x16384000 ![] bcast_S_S4096x16384000 c_32
  let v126 : IVec S4096x16384000 32 := Host.shrui v121 v125
  let v127 : IVec S4096x16384000 32 := ori v124 v126
  let v128 : IVec S4096x16384000 32 := xori v122 v127
  let v129 : IVec S4096x16384000 32 := addi v122 v128
  let c_33 : IVec S_ 32 := constantI S_ 32 24#32
  let v130 : IVec S4096x16384000 32 := broadcastInDim S4096x16384000 ![] bcast_S_S4096x16384000 c_33
  let v131 : IVec S4096x16384000 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S4096x16384000 32) (v94 : IVec S4096x16384000 32) : IVec S4096x16384000 32 × IVec S4096x16384000 32 :=
  let v95 : IVec S4096x16384000 32 := addi v88 v94
  let c_24 : IVec S_ 32 := constantI S_ 32 6#32
  let v96 : IVec S4096x16384000 32 := broadcastInDim S4096x16384000 ![] bcast_S_S4096x16384000 c_24
  let v97 : IVec S4096x16384000 32 := Host.shli v94 v96
  let c_25 : IVec S_ 32 := constantI S_ 32 26#32
  let v98 : IVec S4096x16384000 32 := broadcastInDim S4096x16384000 ![] bcast_S_S4096x16384000 c_25
  let v99 : IVec S4096x16384000 32 := Host.shrui v94 v98
  let v100 : IVec S4096x16384000 32 := ori v97 v99
  let v101 : IVec S4096x16384000 32 := xori v95 v100
  let v102 : IVec S4096x16384000 32 := broadcastInDim S4096x16384000 ![] bcast_S_S4096x16384000 arg0
  let v103 : IVec S4096x16384000 32 := addi v95 v102
  let v104 : IVec S4096x16384000 32 := broadcastInDim S4096x16384000 ![] bcast_S_S4096x16384000 arg1
  let v105 : IVec S4096x16384000 32 := addi v101 v104
  let c_26 : IVec S_ 32 := constantI S_ 32 3#32
  let v106 : IVec S4096x16384000 32 := broadcastInDim S4096x16384000 ![] bcast_S_S4096x16384000 c_26
  let v107 : IVec S4096x16384000 32 := addi v105 v106
  let v108 : IVec S4096x16384000 32 := addi v103 v107
  let c_27 : IVec S_ 32 := constantI S_ 32 17#32
  let v109 : IVec S4096x16384000 32 := broadcastInDim S4096x16384000 ![] bcast_S_S4096x16384000 c_27
  let v110 : IVec S4096x16384000 32 := Host.shli v107 v109
  let c_28 : IVec S_ 32 := constantI S_ 32 15#32
  let v111 : IVec S4096x16384000 32 := broadcastInDim S4096x16384000 ![] bcast_S_S4096x16384000 c_28
  let v112 : IVec S4096x16384000 32 := Host.shrui v107 v111
  let v113 : IVec S4096x16384000 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S4096x16384000 32) (v74 : IVec S4096x16384000 32) (v75 : IVec S4096x16384000 32) : IVec S4096x16384000 32 × IVec S4096x16384000 32 :=
  let v76 : IVec S4096x16384000 32 := Host.shli v73 v75
  let c_19 : IVec S_ 32 := constantI S_ 32 19#32
  let v77 : IVec S4096x16384000 32 := broadcastInDim S4096x16384000 ![] bcast_S_S4096x16384000 c_19
  let v78 : IVec S4096x16384000 32 := Host.shrui v73 v77
  let v79 : IVec S4096x16384000 32 := ori v76 v78
  let v80 : IVec S4096x16384000 32 := xori v74 v79
  let v81 : IVec S4096x16384000 32 := addi v74 v80
  let c_20 : IVec S_ 32 := constantI S_ 32 15#32
  let v82 : IVec S4096x16384000 32 := broadcastInDim S4096x16384000 ![] bcast_S_S4096x16384000 c_20
  let v83 : IVec S4096x16384000 32 := Host.shli v80 v82
  let c_21 : IVec S_ 32 := constantI S_ 32 17#32
  let v84 : IVec S4096x16384000 32 := broadcastInDim S4096x16384000 ![] bcast_S_S4096x16384000 c_21
  let v85 : IVec S4096x16384000 32 := Host.shrui v80 v84
  let v86 : IVec S4096x16384000 32 := ori v83 v85
  let v87 : IVec S4096x16384000 32 := xori v81 v86
  let v88 : IVec S4096x16384000 32 := addi v81 v87
  let c_22 : IVec S_ 32 := constantI S_ 32 26#32
  let v89 : IVec S4096x16384000 32 := broadcastInDim S4096x16384000 ![] bcast_S_S4096x16384000 c_22
  let v90 : IVec S4096x16384000 32 := Host.shli v87 v89
  let c_23 : IVec S_ 32 := constantI S_ 32 6#32
  let v91 : IVec S4096x16384000 32 := broadcastInDim S4096x16384000 ![] bcast_S_S4096x16384000 c_23
  let v92 : IVec S4096x16384000 32 := Host.shrui v87 v91
  let v93 : IVec S4096x16384000 32 := ori v90 v92
  let v94 : IVec S4096x16384000 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S4096x16384000 32) (v54 : IVec S4096x16384000 32) (v56 : IVec S4096x16384000 32) : IVec S4096x16384000 32 × IVec S4096x16384000 32 :=
  let c_14 : IVec S_ 32 := constantI S_ 32 16#32
  let v57 : IVec S4096x16384000 32 := broadcastInDim S4096x16384000 ![] bcast_S_S4096x16384000 c_14
  let v58 : IVec S4096x16384000 32 := Host.shrui v53 v57
  let v59 : IVec S4096x16384000 32 := ori v56 v58
  let v60 : IVec S4096x16384000 32 := xori v54 v59
  let v61 : IVec S4096x16384000 32 := addi v54 v60
  let c_15 : IVec S_ 32 := constantI S_ 32 24#32
  let v62 : IVec S4096x16384000 32 := broadcastInDim S4096x16384000 ![] bcast_S_S4096x16384000 c_15
  let v63 : IVec S4096x16384000 32 := Host.shli v60 v62
  let c_16 : IVec S_ 32 := constantI S_ 32 8#32
  let v64 : IVec S4096x16384000 32 := broadcastInDim S4096x16384000 ![] bcast_S_S4096x16384000 c_16
  let v65 : IVec S4096x16384000 32 := Host.shrui v60 v64
  let v66 : IVec S4096x16384000 32 := ori v63 v65
  let v67 : IVec S4096x16384000 32 := xori v61 v66
  let v68 : IVec S4096x16384000 32 := broadcastInDim S4096x16384000 ![] bcast_S_S4096x16384000 v1
  let v69 : IVec S4096x16384000 32 := addi v61 v68
  let v70 : IVec S4096x16384000 32 := broadcastInDim S4096x16384000 ![] bcast_S_S4096x16384000 arg0
  let v71 : IVec S4096x16384000 32 := addi v67 v70
  let c_17 : IVec S_ 32 := constantI S_ 32 2#32
  let v72 : IVec S4096x16384000 32 := broadcastInDim S4096x16384000 ![] bcast_S_S4096x16384000 c_17
  let v73 : IVec S4096x16384000 32 := addi v71 v72
  let v74 : IVec S4096x16384000 32 := addi v69 v73
  let c_18 : IVec S_ 32 := constantI S_ 32 13#32
  let v75 : IVec S4096x16384000 32 := broadcastInDim S4096x16384000 ![] bcast_S_S4096x16384000 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S4096x16384000 32) (v37 : IVec S4096x16384000 32) (c_8 : IVec S_ 32) : IVec S4096x16384000 32 × IVec S4096x16384000 32 :=
  let v38 : IVec S4096x16384000 32 := broadcastInDim S4096x16384000 ![] bcast_S_S4096x16384000 c_8
  let v39 : IVec S4096x16384000 32 := addi v37 v38
  let v40 : IVec S4096x16384000 32 := addi v35 v39
  let c_9 : IVec S_ 32 := constantI S_ 32 17#32
  let v41 : IVec S4096x16384000 32 := broadcastInDim S4096x16384000 ![] bcast_S_S4096x16384000 c_9
  let v42 : IVec S4096x16384000 32 := Host.shli v39 v41
  let c_10 : IVec S_ 32 := constantI S_ 32 15#32
  let v43 : IVec S4096x16384000 32 := broadcastInDim S4096x16384000 ![] bcast_S_S4096x16384000 c_10
  let v44 : IVec S4096x16384000 32 := Host.shrui v39 v43
  let v45 : IVec S4096x16384000 32 := ori v42 v44
  let v46 : IVec S4096x16384000 32 := xori v40 v45
  let v47 : IVec S4096x16384000 32 := addi v40 v46
  let c_11 : IVec S_ 32 := constantI S_ 32 29#32
  let v48 : IVec S4096x16384000 32 := broadcastInDim S4096x16384000 ![] bcast_S_S4096x16384000 c_11
  let v49 : IVec S4096x16384000 32 := Host.shli v46 v48
  let c_12 : IVec S_ 32 := constantI S_ 32 3#32
  let v50 : IVec S4096x16384000 32 := broadcastInDim S4096x16384000 ![] bcast_S_S4096x16384000 c_12
  let v51 : IVec S4096x16384000 32 := Host.shrui v46 v50
  let v52 : IVec S4096x16384000 32 := ori v49 v51
  let v53 : IVec S4096x16384000 32 := xori v47 v52
  let v54 : IVec S4096x16384000 32 := addi v47 v53
  let c_13 : IVec S_ 32 := constantI S_ 32 16#32
  let v55 : IVec S4096x16384000 32 := broadcastInDim S4096x16384000 ![] bcast_S_S4096x16384000 c_13
  let v56 : IVec S4096x16384000 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S4096x16384000 32) (v18 : IVec S4096x16384000 32) : IVec S4096x16384000 32 × IVec S4096x16384000 32 :=
  let v19 : IVec S4096x16384000 32 := xori v13 v18
  let v20 : IVec S4096x16384000 32 := addi v13 v19
  let c_4 : IVec S_ 32 := constantI S_ 32 26#32
  let v21 : IVec S4096x16384000 32 := broadcastInDim S4096x16384000 ![] bcast_S_S4096x16384000 c_4
  let v22 : IVec S4096x16384000 32 := Host.shli v19 v21
  let c_5 : IVec S_ 32 := constantI S_ 32 6#32
  let v23 : IVec S4096x16384000 32 := broadcastInDim S4096x16384000 ![] bcast_S_S4096x16384000 c_5
  let v24 : IVec S4096x16384000 32 := Host.shrui v19 v23
  let v25 : IVec S4096x16384000 32 := ori v22 v24
  let v26 : IVec S4096x16384000 32 := xori v20 v25
  let v27 : IVec S4096x16384000 32 := addi v20 v26
  let c_6 : IVec S_ 32 := constantI S_ 32 6#32
  let v28 : IVec S4096x16384000 32 := broadcastInDim S4096x16384000 ![] bcast_S_S4096x16384000 c_6
  let v29 : IVec S4096x16384000 32 := Host.shli v26 v28
  let c_7 : IVec S_ 32 := constantI S_ 32 26#32
  let v30 : IVec S4096x16384000 32 := broadcastInDim S4096x16384000 ![] bcast_S_S4096x16384000 c_7
  let v31 : IVec S4096x16384000 32 := Host.shrui v26 v30
  let v32 : IVec S4096x16384000 32 := ori v29 v31
  let v33 : IVec S4096x16384000 32 := xori v27 v32
  let v34 : IVec S4096x16384000 32 := broadcastInDim S4096x16384000 ![] bcast_S_S4096x16384000 arg1
  let v35 : IVec S4096x16384000 32 := addi v27 v34
  let v36 : IVec S4096x16384000 32 := broadcastInDim S4096x16384000 ![] bcast_S_S4096x16384000 v1
  let v37 : IVec S4096x16384000 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S4096x16384000 32) (arg3 : IVec S4096x16384000 32) : IVec S4096x16384000 32 × IVec S4096x16384000 32 :=
  let v0 : IVec S_ 32 := xori arg0 arg1
  let c : IVec S_ 32 := constantI S_ 32 466688986#32
  let v1 : IVec S_ 32 := xori v0 c
  let v2 : IVec S4096x16384000 32 := broadcastInDim S4096x16384000 ![] bcast_S_S4096x16384000 arg0
  let v3 : IVec S4096x16384000 32 := addi arg2 v2
  let v4 : IVec S4096x16384000 32 := broadcastInDim S4096x16384000 ![] bcast_S_S4096x16384000 arg1
  let v5 : IVec S4096x16384000 32 := addi arg3 v4
  let v6 : IVec S4096x16384000 32 := addi v3 v5
  let c_0 : IVec S_ 32 := constantI S_ 32 13#32
  let v7 : IVec S4096x16384000 32 := broadcastInDim S4096x16384000 ![] bcast_S_S4096x16384000 c_0
  let v8 : IVec S4096x16384000 32 := Host.shli v5 v7
  let c_1 : IVec S_ 32 := constantI S_ 32 19#32
  let v9 : IVec S4096x16384000 32 := broadcastInDim S4096x16384000 ![] bcast_S_S4096x16384000 c_1
  let v10 : IVec S4096x16384000 32 := Host.shrui v5 v9
  let v11 : IVec S4096x16384000 32 := ori v8 v10
  let v12 : IVec S4096x16384000 32 := xori v6 v11
  let v13 : IVec S4096x16384000 32 := addi v6 v12
  let c_2 : IVec S_ 32 := constantI S_ 32 15#32
  let v14 : IVec S4096x16384000 32 := broadcastInDim S4096x16384000 ![] bcast_S_S4096x16384000 c_2
  let v15 : IVec S4096x16384000 32 := Host.shli v12 v14
  let c_3 : IVec S_ 32 := constantI S_ 32 17#32
  let v16 : IVec S4096x16384000 32 := broadcastInDim S4096x16384000 ![] bcast_S_S4096x16384000 c_3
  let v17 : IVec S4096x16384000 32 := Host.shrui v12 v16
  let v18 : IVec S4096x16384000 32 := ori v15 v17
  fn_threefry2x32_part1 (F := F) arg0 arg1 v1 v13 v18

def fn_uniform_part1 {F : FTy → Type} [FloatOps F] (v2 : FVec F S1x1 .f32) (v3 : FVec F S1x1 .f32) (v19_0 : IVec S4096x16384000 32) (v19_1 : IVec S4096x16384000 32) : FVec F S4096x16384000 .f32 :=
  let v20 : IVec S4096x16384000 32 := xori v19_0 v19_1
  let c_2 : IVec S_ 32 := constantI S_ 32 9#32
  let v21 : IVec S4096x16384000 32 := broadcastInDim S4096x16384000 ![] bcast_S_S4096x16384000 c_2
  let v22 : IVec S4096x16384000 32 := Host.shrui v20 v21
  let c_3 : IVec S_ 32 := constantI S_ 32 1065353216#32
  let v23 : IVec S4096x16384000 32 := broadcastInDim S4096x16384000 ![] bcast_S_S4096x16384000 c_3
  let v24 : IVec S4096x16384000 32 := ori v22 v23
  let v25 : FVec F S4096x16384000 .f32 := bitcastToFloat .f32 v24
  let cst : FVec F S_ .f32 := constant S_ .f32 0x3F800000#32
  let v26 : FVec F S4096x16384000 .f32 := broadcastInDim S4096x16384000 ![] bcast_S_S4096x16384000 cst
  let v27 : FVec F S4096x16384000 .f32 := subf v25 v26
  let v28 : FVec F S1x1 .f32 := subf v3 v2
  let v29 : FVec F S4096x16384000 .f32 := broadcastInDim S4096x16384000 ![0, 1] bcast_S1x1_S4096x16384000_0_1 v28
  let v30 : FVec F S4096x16384000 .f32 := mulf v27 v29
  let v31 : FVec F S4096x16384000 .f32 := broadcastInDim S4096x16384000 ![0, 1] bcast_S1x1_S4096x16384000_0_1 v2
  let v32 : FVec F S4096x16384000 .f32 := addf v30 v31
  let v33 : FVec F S4096x16384000 .f32 := broadcastInDim S4096x16384000 ![0, 1] bcast_S1x1_S4096x16384000_0_1 v2
  let v34 : FVec F S4096x16384000 .f32 := maximumf v33 v32
  v34

def fn_uniform {F : FTy → Type} [FloatOps F] (arg0 : IVec S2 32) (arg1 : FVec F S_ .f32) (arg2 : FVec F S_ .f32) : FVec F S4096x16384000 .f32 :=
  let v0 : FVec F S_ .f32 := id arg1
  let v1 : FVec F S_ .f32 := id arg2
  let v2 : FVec F S1x1 .f32 := broadcastInDim S1x1 ![] bcast_S_S1x1 v0
  let v3 : FVec F S1x1 .f32 := broadcastInDim S1x1 ![] bcast_S_S1x1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S4096x16384000 64 := iotaInDim S4096x16384000 64 0
  let v9 : IVec S4096x16384000 64 := iotaInDim S4096x16384000 64 1
  let c : IVec S_ 64 := constantI S_ 64 16384000#64
  let v10 : IVec S4096x16384000 64 := broadcastInDim S4096x16384000 ![] bcast_S_S4096x16384000 c
  let v11 : IVec S4096x16384000 64 := muli v10 v8
  let c_0 : IVec S_ 64 := constantI S_ 64 1#64
  let v12 : IVec S4096x16384000 64 := broadcastInDim S4096x16384000 ![] bcast_S_S4096x16384000 c_0
  let v13 : IVec S4096x16384000 64 := muli v12 v9
  let v14 : IVec S4096x16384000 64 := addi v11 v13
  let c_1 : IVec S_ 64 := constantI S_ 64 32#64
  let v15 : IVec S4096x16384000 64 := broadcastInDim S4096x16384000 ![] bcast_S_S4096x16384000 c_1
  let v16 : IVec S4096x16384000 64 := Host.shrui v14 v15
  let v17 : IVec S4096x16384000 32 := (trunci 32 · natLt_32_64) v14
  let v18 : IVec S4096x16384000 32 := (trunci 32 · natLt_32_64) v16
  let v19_0 : IVec S4096x16384000 32 := (fn_threefry2x32 (F := F) v5 v7 v18 v17).1
  let v19_1 : IVec S4096x16384000 32 := (fn_threefry2x32 (F := F) v5 v7 v18 v17).2
  fn_uniform_part1 (F := F) v2 v3 v19_0 v19_1

def fn_where_0 {F : FTy → Type} [FloatOps F] (arg0 : IVec S4096x16384000 1) (arg1 : FVec F S16384000 .f32) (arg2 : FVec F S_ .f32) : FVec F S4096x16384000 .f32 :=
  let v0 : FVec F S_ .f32 := id arg2
  let v1 : FVec F S4096x16384000 .f32 := broadcastInDim S4096x16384000 ![1] bcast_S16384000_S4096x16384000_1 arg1
  let v2 : FVec F S4096x16384000 .f32 := broadcastInDim S4096x16384000 ![] bcast_S_S4096x16384000 v0
  let v3 : FVec F S4096x16384000 .f32 := select arg0 v1 v2
  v3

def fn_part3 {F : FTy → Type} [FloatOps F] (main_arg1 : IVec S16384x1000 32) (main_v4 : IVec S16384x1000 1) (main_v44 : FVec F S4096 .f32) (main_v46 : FVec F S4096 .f32) (main_v50 : IVec S16384x1000 1) : IVec S16384x1000 1 × IVec S4096 1 :=
  let main_c_19 : IVec S_ 1 := constantI S_ 1 1#1
  let main_v51 : IVec S_ 1 := (fun x v => Host.reduce IntOp.andi x v reducesTo_S16384x1000_S_d0_1 h_S_) main_v50 main_c_19
  let main_v52 : IVec S1x1 32 := (extractStridedSlice S1x1 ![0, 0] · slices_S16384x1000_S1x1_0_0) main_arg1
  let main_v53 : IVec S_ 32 := shapeCast S_ main_v52 shapeCasts_S1x1_S_
  let main_v54 : IVec S16384x1000 32 := broadcastInDim S16384x1000 ![] bcast_S_S16384x1000 main_v53
  let main_v55 : IVec S16384x1000 1 := cmpi .eq main_arg1 main_v54
  let main_c_20 : IVec S_ 1 := constantI S_ 1 1#1
  let main_v56 : IVec S_ 1 := (fun x v => Host.reduce IntOp.andi x v reducesTo_S16384x1000_S_d0_1 h_S_) main_v55 main_c_20
  let main_v57 : IVec S_ 1 := andi main_v51 main_v56
  let main_v58 : IVec S4096 1 := cmpf .oeq main_v44 main_v46
  let main_v59 : IVec S4096 1 := broadcastInDim S4096 ![] bcast_S_S4096 main_v57
  let main_v60 : IVec S4096 1 := ori main_v59 main_v58
  (main_v4, main_v60)

def fn_part2 {F : FTy → Type} [FloatOps F] (main_arg0 : FVec F S16384x1000 .f32) (main_arg1 : IVec S16384x1000 32) (main_v4 : IVec S16384x1000 1) (main_v16 : FVec F S16384000 .f32) (main_v31 : FVec F S4096x16384000 .f32) : IVec S16384x1000 1 × IVec S4096 1 :=
  let main_v32 : FVec F S4096x16384000 .f32 := Host.negf main_v31
  let main_v33 : FVec F S4096x16384000 .f32 := Host.log main_v32
  let main_v34 : FVec F S4096x16384000 .f32 := Host.negf main_v33
  let main_v35 : FVec F S16384000 .f32 := Host.log main_v16
  let main_v36 : FVec F S1x16384000 .f32 := broadcastInDim S1x16384000 ![1] bcast_S16384000_S1x16384000_1 main_v35
  let main_v37 : FVec F S4096x16384000 .f32 := broadcastInDim S4096x16384000 ![0, 1] bcast_S1x16384000_S4096x16384000_0_1 main_v36
  let main_v38 : FVec F S4096x16384000 .f32 := addf main_v34 main_v37
  let main_cst_14 : FVec F S_ .f32 := constant S_ .f32 0xFF800000#32
  let main_v39 : FVec F S4096 .f32 := (fun x v => Host.reduce FloatOps.maximumf x v reducesTo_S4096x16384000_S4096_d1 h_S_) main_v38 main_cst_14
  let main_v40 : FVec F S4096x1 .f32 := broadcastInDim S4096x1 ![0] bcast_S4096_S4096x1_0 main_v39
  let main_v41 : FVec F S4096x16384000 .f32 := broadcastInDim S4096x16384000 ![0, 1] bcast_S4096x1_S4096x16384000_0_1 main_v40
  let main_v42 : IVec S4096x16384000 1 := cmpf .oeq main_v38 main_v41
  let main_cst_15 : FVec F S_ .f32 := constant S_ .f32 0xFF800000#32
  let main_v43 : FVec F S4096x16384000 .f32 := fn_where_0 (F := F) main_v42 main_v16 main_cst_15
  let main_cst_16 : FVec F S_ .f32 := constant S_ .f32 0xFF800000#32
  let main_v44 : FVec F S4096 .f32 := (fun x v => Host.reduce FloatOps.maximumf x v reducesTo_S4096x16384000_S4096_d1 h_S_) main_v43 main_cst_16
  let main_cst_17 : FVec F S_ .f32 := constant S_ .f32 0x7F800000#32
  let main_v45 : FVec F S4096x16384000 .f32 := fn_where_0 (F := F) main_v42 main_v16 main_cst_17
  let main_cst_18 : FVec F S_ .f32 := constant S_ .f32 0x7F800000#32
  let main_v46 : FVec F S4096 .f32 := (fun x v => Host.reduce FloatOps.minimumf x v reducesTo_S4096x16384000_S4096_d1 h_S_) main_v45 main_cst_18
  let main_v47 : FVec F S1x1 .f32 := (extractStridedSlice S1x1 ![0, 0] · slices_S16384x1000_S1x1_0_0) main_arg0
  let main_v48 : FVec F S_ .f32 := shapeCast S_ main_v47 shapeCasts_S1x1_S_
  let main_v49 : FVec F S16384x1000 .f32 := broadcastInDim S16384x1000 ![] bcast_S_S16384x1000 main_v48
  let main_v50 : IVec S16384x1000 1 := cmpf .oeq main_arg0 main_v49
  fn_part3 (F := F) main_arg1 main_v4 main_v44 main_v46 main_v50

def fn_part1 {F : FTy → Type} [FloatOps F] (main_arg0 : FVec F S16384x1000 .f32) (main_arg1 : IVec S16384x1000 32) (main_v4 : IVec S16384x1000 1) (main_v15 : FVec F S16384x1000 .f32) : IVec S16384x1000 1 × IVec S4096 1 :=
  let main_v16 : FVec F S16384000 .f32 := shapeCast S16384000 main_v15 shapeCasts_S16384x1000_S16384000
  let main_c_6 : IVec S_ 32 := constantI S_ 32 42#32
  let main_c_7 : IVec S_ 32 := constantI S_ 32 32#32
  let main_v17 : IVec S_ 32 := Host.shrui main_c_6 main_c_7
  let main_v18 : IVec S_ 32 := id main_v17
  let main_v19 : IVec S1 32 := broadcastInDim S1 ![] bcast_S_S1 main_v18
  let main_c_8 : IVec S_ 32 := constantI S_ 32 4294967295#32
  let main_v20 : IVec S_ 32 := andi main_c_6 main_c_8
  let main_v21 : IVec S_ 32 := id main_v20
  let main_v22 : IVec S1 32 := broadcastInDim S1 ![] bcast_S_S1 main_v21
  let main_v23 : IVec S2 32 := (fun a b => concatenate S2 0 [⟨S1, a⟩, ⟨S1, b⟩] concatenates_S1_S1_S2_d0) main_v19 main_v22
  let main_cst_9 : FVec F S_ .f32 := constant S_ .f32 0x00000000#32
  let main_cst_10 : FVec F S_ .f32 := constant S_ .f32 0x3F800000#32
  let main_v24 : FVec F S4096x16384000 .f32 := fn_uniform (F := F) main_v23 main_cst_9 main_cst_10
  let main_cst_11 : FVec F S_ .f32 := constant S_ .f32 0x3F800000#32
  let main_v25 : FVec F S4096x16384000 .f32 := broadcastInDim S4096x16384000 ![] bcast_S_S4096x16384000 main_cst_11
  let main_v26 : FVec F S4096x16384000 .f32 := mulf main_v24 main_v25
  let main_cst_12 : FVec F S_ .f32 := constant S_ .f32 0x00800000#32
  let main_v27 : FVec F S4096x16384000 .f32 := broadcastInDim S4096x16384000 ![] bcast_S_S4096x16384000 main_cst_12
  let main_v28 : FVec F S4096x16384000 .f32 := addf main_v26 main_v27
  let main_cst_13 : FVec F S_ .f32 := constant S_ .f32 0x00800000#32
  let main_v29 : FVec F S4096x16384000 .f32 := broadcastInDim S4096x16384000 ![] bcast_S_S4096x16384000 main_cst_13
  let main_v30 : FVec F S4096x16384000 .f32 := maximumf main_v29 main_v28
  let main_v31 : FVec F S4096x16384000 .f32 := Host.log main_v30
  fn_part2 (F := F) main_arg0 main_arg1 main_v4 main_v16 main_v31

def fn {F : FTy → Type} [FloatOps F] (main_arg0 : FVec F S16384x1000 .f32) (main_arg1 : IVec S16384x1000 32) : IVec S16384x1000 1 × IVec S4096 1 :=
  let main_c : IVec S_ 32 := constantI S_ 32 0#32
  let main_v0 : IVec S16384x1000 32 := broadcastInDim S16384x1000 ![] bcast_S_S16384x1000 main_c
  let main_v1 : IVec S16384x1000 1 := cmpi .eq main_arg1 main_v0
  let main_c_0 : IVec S_ 32 := constantI S_ 32 1#32
  let main_v2 : IVec S16384x1000 32 := broadcastInDim S16384x1000 ![] bcast_S_S16384x1000 main_c_0
  let main_v3 : IVec S16384x1000 1 := cmpi .eq main_arg1 main_v2
  let main_v4 : IVec S16384x1000 1 := ori main_v1 main_v3
  let main_cst : FVec F S_ .f32 := constant S_ .f32 0x33D6BF95#32
  let main_cst_1 : FVec F S_ .f32 := constant S_ .f32 0x3F7FFFFE#32
  let main_v5 : FVec F S16384x1000 .f32 := fn_clip (F := F) main_arg0 main_cst main_cst_1
  let main_cst_2 : FVec F S_ .f32 := constant S_ .f32 0x3F800000#32
  let main_v6 : FVec F S16384x1000 .f32 := broadcastInDim S16384x1000 ![] bcast_S_S16384x1000 main_cst_2
  let main_c_3 : IVec S_ 32 := constantI S_ 32 4294967295#32
  let main_v7 : IVec S16384x1000 32 := broadcastInDim S16384x1000 ![] bcast_S_S16384x1000 main_c_3
  let main_v8 : IVec S16384x1000 1 := cmpi .eq main_arg1 main_v7
  let main_cst_4 : FVec F S_ .f32 := constant S_ .f32 0x00000000#32
  let main_v9 : FVec F S16384x1000 .f32 := fn_where (F := F) main_v8 main_cst_4 main_v6
  let main_v10 : FVec F S16384x1000 .f32 := sitofp .f32 main_arg1
  let main_v11 : FVec F S16384x1000 .f32 := subf main_v5 main_v10
  let main_v12 : FVec F S16384x1000 .f32 := mulf main_v11 main_v9
  let main_v13 : FVec F S16384x1000 .f32 := Host.absf main_v12
  let main_cst_5 : FVec F S_ .f32 := constant S_ .f32 0x3F800000#32
  let main_v14 : FVec F S16384x1000 .f32 := broadcastInDim S16384x1000 ![] bcast_S_S16384x1000 main_cst_5
  let main_v15 : FVec F S16384x1000 .f32 := Host.powf main_v13 main_v14
  fn_part1 (F := F) main_arg0 main_arg1 main_v4 main_v15
-- ==== Kernel.lean ====
abbrev S16384x1000 : Shape := ⟨2, ![16384, 1000]⟩
abbrev S2000x8x1024 : Shape := ⟨3, ![2000, 8, 1024]⟩
abbrev S2x1x128 : Shape := ⟨3, ![2, 1, 128]⟩
abbrev S1x8x1024 : Shape := ⟨3, ![1, 8, 1024]⟩
abbrev S1x1x128 : Shape := ⟨3, ![1, 1, 128]⟩
abbrev S256x8x1024 : Shape := ⟨3, ![256, 8, 1024]⟩
abbrev S8x1024 : Shape := ⟨2, ![8, 1024]⟩
abbrev S8x1 : Shape := ⟨2, ![8, 1]⟩
abbrev S1x1024 : Shape := ⟨2, ![1, 1024]⟩
abbrev S8 : Shape := ⟨1, ![8]⟩
abbrev S1x8x1 : Shape := ⟨3, ![1, 8, 1]⟩
abbrev S1 : Shape := ⟨1, ![1]⟩
abbrev S1x1x1 : Shape := ⟨3, ![1, 1, 1]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S16384x1000, .f32⟩
  | .hbm, ⟨1, _⟩ => ⟨S16384x1000, .i32⟩
  | .hbm, ⟨2, _⟩ => ⟨S2000x8x1024, .f32⟩
  | .hbm, ⟨3, _⟩ => ⟨S2000x8x1024, .i32⟩
  | .hbm, ⟨4, _⟩ => ⟨S2x1x128, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .i32⟩
  | .local _ .vmem, ⟨3, _⟩ => ⟨S1x8x1024, .i32⟩
  | .local _ .vmem, ⟨4, _⟩ => ⟨S1x1x128, .f32⟩
  | .local _ .vmem, ⟨5, _⟩ => ⟨S1x1x128, .f32⟩
  | .local _ .vmem, ⟨6, _⟩ => ⟨S256x8x1024, .f32⟩
  | .local _ .vmem, ⟨7, _⟩ => ⟨S256x8x1024, .f32⟩
  | .local _ .vmem, ⟨8, _⟩ => ⟨S8x1024, .f32⟩
  | .local _ .vmem, ⟨9, _⟩ => ⟨S8x1024, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2000], ![false, false]⟩

@[reducible] def k0_t1_loop : Scf.Loop 32 :=
  let c0_i32_11 : BitVec 32 := 0#32
  let c256_i32 : BitVec 32 := 256#32
  let v23 : BitVec 32 := Scalar.addi c0_i32_11 c256_i32
  let c1_i32 : BitVec 32 := 1#32
  ⟨c0_i32_11, v23, c1_i32⟩
def k0_off1 (k0_t1 : Fin k0_t1_loop.trips) : Fin 3 → Nat :=
  let c0_i32_11 : BitVec 32 := 0#32
  let c1_i32 : BitVec 32 := 1#32
  let arg9 : BitVec 32 := Scf.iv c0_i32_11 c1_i32 k0_t1
  let v40 : Index := Scalar.indexCast arg9
  let c0_14 : Index := 0#32
  let c0_15 : Index := 0#32
  ![v40.toNat, 0, 0]
@[reducible] def k0_t2_loop : Scf.Loop 32 :=
  let c0_i32_18 : BitVec 32 := 0#32
  let c8_i32_19 : BitVec 32 := 8#32
  let v46 : BitVec 32 := Scalar.addi c0_i32_18 c8_i32_19
  let c1_i32_20 : BitVec 32 := 1#32
  ⟨c0_i32_18, v46, c1_i32_20⟩
def k0_off2 (k0_t2 : Fin k0_t2_loop.trips) : Fin 2 → Nat :=
  let c0_i32_18 : BitVec 32 := 0#32
  let c1_i32_20 : BitVec 32 := 1#32
  let arg10 : BitVec 32 := Scf.iv c0_i32_18 c1_i32_20 k0_t2
  let v254 : Index := Scalar.indexCast arg10
  let c0_71 : Index := 0#32
  ![v254.toNat, 0]
def k0_cond2 (i : grid0.Coords) : BitVec 1 :=
  let arg1 : BitVec 32 := BitVec.ofNat 32 (i 1).val
  let c1999_i32 : BitVec 32 := 1999#32
  let v24 : BitVec 1 := Scalar.cmpi .eq arg1 c1999_i32
  let v25 : BitVec 32 := Scalar.extui v24
  let c0_i32_13 : BitVec 32 := 0#32
  let v26 : BitVec 1 := Scalar.cmpi .ne v25 c0_i32_13
  v26

@[reducible] def k0_t3_loop : Scf.Loop 32 :=
  let c0_i32_15 : BitVec 32 := 0#32
  let c256_i32_16 : BitVec 32 := 256#32
  let v27 : BitVec 32 := Scalar.addi c0_i32_15 c256_i32_16
  let c1_i32_17 : BitVec 32 := 1#32
  ⟨c0_i32_15, v27, c1_i32_17⟩
def k0_off3 (k0_t3 : Fin k0_t3_loop.trips) : Fin 3 → Nat :=
  let c0_i32_15 : BitVec 32 := 0#32
  let c1_i32_17 : BitVec 32 := 1#32
  let arg9 : BitVec 32 := Scf.iv c0_i32_15 c1_i32_17 k0_t3
  let v31 : Index := Scalar.indexCast arg9
  let c0_22 : Index := 0#32
  let c0_23 : Index := 0#32
  ![v31.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S16384x1000 : Shape := ⟨2, ![16384, 1000]⟩
abbrev S_ : Shape := ⟨0, ![]⟩
abbrev S16384000 : Shape := ⟨1, ![16384000]⟩
abbrev S1 : Shape := ⟨1, ![1]⟩
abbrev S2 : Shape := ⟨1, ![2]⟩
abbrev S1x1 : Shape := ⟨2, ![1, 1]⟩
abbrev S4096x16384000 : Shape := ⟨2, ![4096, 16384000]⟩
abbrev S1x16384000 : Shape := ⟨2, ![1, 16384000]⟩
abbrev S4096 : Shape := ⟨1, ![4096]⟩
abbrev S4096x1 : Shape := ⟨2, ![4096, 1]⟩

abbrev nBuf : Space → Nat
  | .hbm => 368
  | .vmem => 0
  | .smem => 0
  | _ => 0

abbrev hbmTy0_0 (i : Nat) : BufTy := match i % 128 with
  | 0 => ⟨S16384x1000, .f32⟩
  | 1 => ⟨S16384x1000, .i32⟩
  | 2 => ⟨S_, .f32⟩
  | 3 => ⟨S_, .f32⟩
  | 4 => ⟨S_, .f32⟩
  | 5 => ⟨S16384x1000, .f32⟩
  | 6 => ⟨S16384x1000, .f32⟩
  | 7 => ⟨S_, .f32⟩
  | 8 => ⟨S16384x1000, .f32⟩
  | 9 => ⟨S16384x1000, .f32⟩
  | 10 => ⟨S16384x1000, .f32⟩
  | 11 => ⟨S_, .f32⟩
  | 12 => ⟨S_, .f32⟩
  | 13 => ⟨S_, .f32⟩
  | 14 => ⟨S16384x1000, .f32⟩
  | 15 => ⟨S16384x1000, .f32⟩
  | 16 => ⟨S_, .f32⟩
  | 17 => ⟨S16384x1000, .f32⟩
  | 18 => ⟨S16384x1000, .f32⟩
  | 19 => ⟨S_, .f32⟩
  | 20 => ⟨S16384x1000, .f32⟩
  | 21 => ⟨S_, .i32⟩
  | 22 => ⟨S16384x1000, .i32⟩
  | 23 => ⟨S16384x1000, .i1⟩
  | 24 => ⟨S_, .f32⟩
  | 25 => ⟨S_, .f32⟩
  | 26 => ⟨S16384x1000, .f32⟩
  | 27 => ⟨S16384x1000, .f32⟩
  | 28 => ⟨S16384x1000, .f32⟩
  | 29 => ⟨S16384x1000, .f32⟩
  | 30 => ⟨S16384x1000, .f32⟩
  | 31 => ⟨S16384x1000, .f32⟩
  | 32 => ⟨S_, .f32⟩
  | 33 => ⟨S16384x1000, .f32⟩
  | 34 => ⟨S16384x1000, .f32⟩
  | 35 => ⟨S16384000, .f32⟩
  | 36 => ⟨S_, .i32⟩
  | 37 => ⟨S_, .i32⟩
  | 38 => ⟨S_, .i32⟩
  | 39 => ⟨S_, .i32⟩
  | 40 => ⟨S1, .i32⟩
  | 41 => ⟨S_, .i32⟩
  | 42 => ⟨S_, .i32⟩
  | 43 => ⟨S_, .i32⟩
  | 44 => ⟨S1, .i32⟩
  | 45 => ⟨S2, .i32⟩
  | 46 => ⟨S_, .f32⟩
  | 47 => ⟨S_, .f32⟩
  | 48 => ⟨S_, .f32⟩
  | 49 => ⟨S_, .f32⟩
  | 50 => ⟨S1x1, .f32⟩
  | 51 => ⟨S1x1, .f32⟩
  | 52 => ⟨S1, .i32⟩
  | 53 => ⟨S_, .i32⟩
  | 54 => ⟨S1, .i32⟩
  | 55 => ⟨S_, .i32⟩
  | 56 => ⟨S4096x16384000, .i64⟩
  | 57 => ⟨S4096x16384000, .i64⟩
  | 58 => ⟨S_, .i64⟩
  | 59 => ⟨S4096x16384000, .i64⟩
  | 60 => ⟨S4096x16384000, .i64⟩
  | 61 => ⟨S_, .i64⟩
  | 62 => ⟨S4096x16384000, .i64⟩
  | 63 => ⟨S4096x16384000, .i64⟩
  | 64 => ⟨S4096x16384000, .i64⟩
  | 65 => ⟨S_, .i64⟩
  | 66 => ⟨S4096x16384000, .i64⟩
  | 67 => ⟨S4096x16384000, .i64⟩
  | 68 => ⟨S4096x16384000, .i32⟩
  | 69 => ⟨S4096x16384000, .i32⟩
  | 70 => ⟨S_, .i32⟩
  | 71 => ⟨S_, .i32⟩
  | 72 => ⟨S_, .i32⟩
  | 73 => ⟨S4096x16384000, .i32⟩
  | 74 => ⟨S4096x16384000, .i32⟩
  | 75 => ⟨S4096x16384000, .i32⟩
  | 76 => ⟨S4096x16384000, .i32⟩
  | 77 => ⟨S4096x16384000, .i32⟩
  | 78 => ⟨S_, .i32⟩
  | 79 => ⟨S4096x16384000, .i32⟩
  | 80 => ⟨S4096x16384000, .i32⟩
  | 81 => ⟨S_, .i32⟩
  | 82 => ⟨S4096x16384000, .i32⟩
  | 83 => ⟨S4096x16384000, .i32⟩
  | 84 => ⟨S4096x16384000, .i32⟩
  | 85 => ⟨S4096x16384000, .i32⟩
  | 86 => ⟨S4096x16384000, .i32⟩
  | 87 => ⟨S_, .i32⟩
  | 88 => ⟨S4096x16384000, .i32⟩
  | 89 => ⟨S4096x16384000, .i32⟩
  | 90 => ⟨S_, .i32⟩
  | 91 => ⟨S4096x16384000, .i32⟩
  | 92 => ⟨S4096x16384000, .i32⟩
  | 93 => ⟨S4096x16384000, .i32⟩
  | 94 => ⟨S4096x16384000, .i32⟩
  | 95 => ⟨S4096x16384000, .i32⟩
  | 96 => ⟨S_, .i32⟩
  | 97 => ⟨S4096x16384000, .i32⟩
  | 98 => ⟨S4096x16384000, .i32⟩
  | 99 => ⟨S_, .i32⟩
  | 100 => ⟨S4096x16384000, .i32⟩
  | 101 => ⟨S4096x16384000, .i32⟩
  | 102 => ⟨S4096x16384000, .i32⟩
  | 103 => ⟨S4096x16384000, .i32⟩
  | 104 => ⟨S4096x16384000, .i32⟩
  | 105 => ⟨S_, .i32⟩
  | 106 => ⟨S4096x16384000, .i32⟩
  | 107 => ⟨S4096x16384000, .i32⟩
  | 108 => ⟨S_, .i32⟩
  | 109 => ⟨S4096x16384000, .i32⟩
  | 110 => ⟨S4096x16384000, .i32⟩
  | 111 => ⟨S4096x16384000, .i32⟩
  | 112 => ⟨S4096x16384000, .i32⟩
  | 113 => ⟨S4096x16384000, .i32⟩
  | 114 => ⟨S4096x16384000, .i32⟩
  | 115 => ⟨S4096x16384000, .i32⟩
  | 116 => ⟨S4096x16384000, .i32⟩
  | 117 => ⟨S_, .i32⟩
  | 118 => ⟨S4096x16384000, .i32⟩
  | 119 => ⟨S4096x16384000, .i32⟩
  | 120 => ⟨S4096x16384000, .i32⟩
  | 121 => ⟨S_, .i32⟩
  | 122 => ⟨S4096x16384000, .i32⟩
  | 123 => ⟨S4096x16384000, .i32⟩
  | 124 => ⟨S_, .i32⟩
  | 125 => ⟨S4096x16384000, .i32⟩
  | 126 => ⟨S4096x16384000, .i32⟩
  | 127 => ⟨S4096x16384000, .i32⟩
  | _ => ⟨S16384x1000, .f32⟩

abbrev hbmTy0_1 (i : Nat) : BufTy := match i % 128 with
  | 0 => ⟨S4096x16384000, .i32⟩
  | 1 => ⟨S4096x16384000, .i32⟩
  | 2 => ⟨S_, .i32⟩
  | 3 => ⟨S4096x16384000, .i32⟩
  | 4 => ⟨S4096x16384000, .i32⟩
  | 5 => ⟨S_, .i32⟩
  | 6 => ⟨S4096x16384000, .i32⟩
  | 7 => ⟨S4096x16384000, .i32⟩
  | 8 => ⟨S4096x16384000, .i32⟩
  | 9 => ⟨S4096x16384000, .i32⟩
  | 10 => ⟨S4096x16384000, .i32⟩
  | 11 => ⟨S_, .i32⟩
  | 12 => ⟨S4096x16384000, .i32⟩
  | 13 => ⟨S4096x16384000, .i32⟩
  | 14 => ⟨S_, .i32⟩
  | 15 => ⟨S4096x16384000, .i32⟩
  | 16 => ⟨S4096x16384000, .i32⟩
  | 17 => ⟨S4096x16384000, .i32⟩
  | 18 => ⟨S4096x16384000, .i32⟩
  | 19 => ⟨S4096x16384000, .i32⟩
  | 20 => ⟨S_, .i32⟩
  | 21 => ⟨S4096x16384000, .i32⟩
  | 22 => ⟨S4096x16384000, .i32⟩
  | 23 => ⟨S_, .i32⟩
  | 24 => ⟨S4096x16384000, .i32⟩
  | 25 => ⟨S4096x16384000, .i32⟩
  | 26 => ⟨S4096x16384000, .i32⟩
  | 27 => ⟨S4096x16384000, .i32⟩
  | 28 => ⟨S4096x16384000, .i32⟩
  | 29 => ⟨S4096x16384000, .i32⟩
  | 30 => ⟨S4096x16384000, .i32⟩
  | 31 => ⟨S4096x16384000, .i32⟩
  | 32 => ⟨S_, .i32⟩
  | 33 => ⟨S4096x16384000, .i32⟩
  | 34 => ⟨S4096x16384000, .i32⟩
  | 35 => ⟨S4096x16384000, .i32⟩
  | 36 => ⟨S_, .i32⟩
  | 37 => ⟨S4096x16384000, .i32⟩
  | 38 => ⟨S4096x16384000, .i32⟩
  | 39 => ⟨S_, .i32⟩
  | 40 => ⟨S4096x16384000, .i32⟩
  | 41 => ⟨S4096x16384000, .i32⟩
  | 42 => ⟨S4096x16384000, .i32⟩
  | 43 => ⟨S4096x16384000, .i32⟩
  | 44 => ⟨S4096x16384000, .i32⟩
  | 45 => ⟨S_, .i32⟩
  | 46 => ⟨S4096x16384000, .i32⟩
  | 47 => ⟨S4096x16384000, .i32⟩
  | 48 => ⟨S_, .i32⟩
  | 49 => ⟨S4096x16384000, .i32⟩
  | 50 => ⟨S4096x16384000, .i32⟩
  | 51 => ⟨S4096x16384000, .i32⟩
  | 52 => ⟨S4096x16384000, .i32⟩
  | 53 => ⟨S4096x16384000, .i32⟩
  | 54 => ⟨S_, .i32⟩
  | 55 => ⟨S4096x16384000, .i32⟩
  | 56 => ⟨S4096x16384000, .i32⟩
  | 57 => ⟨S_, .i32⟩
  | 58 => ⟨S4096x16384000, .i32⟩
  | 59 => ⟨S4096x16384000, .i32⟩
  | 60 => ⟨S4096x16384000, .i32⟩
  | 61 => ⟨S4096x16384000, .i32⟩
  | 62 => ⟨S4096x16384000, .i32⟩
  | 63 => ⟨S_, .i32⟩
  | 64 => ⟨S4096x16384000, .i32⟩
  | 65 => ⟨S4096x16384000, .i32⟩
  | 66 => ⟨S_, .i32⟩
  | 67 => ⟨S4096x16384000, .i32⟩
  | 68 => ⟨S4096x16384000, .i32⟩
  | 69 => ⟨S4096x16384000, .i32⟩
  | 70 => ⟨S4096x16384000, .i32⟩
  | 71 => ⟨S4096x16384000, .i32⟩
  | 72 => ⟨S4096x16384000, .i32⟩
  | 73 => ⟨S4096x16384000, .i32⟩
  | 74 => ⟨S4096x16384000, .i32⟩
  | 75 => ⟨S_, .i32⟩
  | 76 => ⟨S4096x16384000, .i32⟩
  | 77 => ⟨S4096x16384000, .i32⟩
  | 78 => ⟨S4096x16384000, .i32⟩
  | 79 => ⟨S_, .i32⟩
  | 80 => ⟨S4096x16384000, .i32⟩
  | 81 => ⟨S4096x16384000, .i32⟩
  | 82 => ⟨S_, .i32⟩
  | 83 => ⟨S4096x16384000, .i32⟩
  | 84 => ⟨S4096x16384000, .i32⟩
  | 85 => ⟨S4096x16384000, .i32⟩
  | 86 => ⟨S4096x16384000, .i32⟩
  | 87 => ⟨S4096x16384000, .i32⟩
  | 88 => ⟨S_, .i32⟩
  | 89 => ⟨S4096x16384000, .i32⟩
  | 90 => ⟨S4096x16384000, .i32⟩
  | 91 => ⟨S_, .i32⟩
  | 92 => ⟨S4096x16384000, .i32⟩
  | 93 => ⟨S4096x16384000, .i32⟩
  | 94 => ⟨S4096x16384000, .i32⟩
  | 95 => ⟨S4096x16384000, .i32⟩
  | 96 => ⟨S4096x16384000, .i32⟩
  | 97 => ⟨S_, .i32⟩
  | 98 => ⟨S4096x16384000, .i32⟩
  | 99 => ⟨S4096x16384000, .i32⟩
  | 100 => ⟨S_, .i32⟩
  | 101 => ⟨S4096x16384000, .i32⟩
  | 102 => ⟨S4096x16384000, .i32⟩
  | 103 => ⟨S4096x16384000, .i32⟩
  | 104 => ⟨S4096x16384000, .i32⟩
  | 105 => ⟨S4096x16384000, .i32⟩
  | 106 => ⟨S_, .i32⟩
  | 107 => ⟨S4096x16384000, .i32⟩
  | 108 => ⟨S4096x16384000, .i32⟩
  | 109 => ⟨S_, .i32⟩
  | 110 => ⟨S4096x16384000, .i32⟩
  | 111 => ⟨S4096x16384000, .i32⟩
  | 112 => ⟨S4096x16384000, .i32⟩
  | 113 => ⟨S4096x16384000, .i32⟩
  | 114 => ⟨S4096x16384000, .i32⟩
  | 115 => ⟨S4096x16384000, .i32⟩
  | 116 => ⟨S4096x16384000, .i32⟩
  | 117 => ⟨S4096x16384000, .i32⟩
  | 118 => ⟨S_, .i32⟩
  | 119 => ⟨S4096x16384000, .i32⟩
  | 120 => ⟨S4096x16384000, .i32⟩
  | 121 => ⟨S4096x16384000, .i32⟩
  | 122 => ⟨S_, .i32⟩
  | 123 => ⟨S4096x16384000, .i32⟩
  | 124 => ⟨S4096x16384000, .i32⟩
  | 125 => ⟨S_, .i32⟩
  | 126 => ⟨S4096x16384000, .i32⟩
  | 127 => ⟨S4096x16384000, .i32⟩
  | _ => ⟨S16384x1000, .f32⟩

abbrev hbmTy0_2 (i : Nat) : BufTy := match i % 128 with
  | 0 => ⟨S4096x16384000, .i32⟩
  | 1 => ⟨S4096x16384000, .i32⟩
  | 2 => ⟨S4096x16384000, .i32⟩
  | 3 => ⟨S_, .i32⟩
  | 4 => ⟨S4096x16384000, .i32⟩
  | 5 => ⟨S4096x16384000, .i32⟩
  | 6 => ⟨S_, .i32⟩
  | 7 => ⟨S4096x16384000, .i32⟩
  | 8 => ⟨S4096x16384000, .i32⟩
  | 9 => ⟨S4096x16384000, .i32⟩
  | 10 => ⟨S4096x16384000, .i32⟩
  | 11 => ⟨S4096x16384000, .i32⟩
  | 12 => ⟨S_, .i32⟩
  | 13 => ⟨S4096x16384000, .i32⟩
  | 14 => ⟨S4096x16384000, .i32⟩
  | 15 => ⟨S_, .i32⟩
  | 16 => ⟨S4096x16384000, .i32⟩
  | 17 => ⟨S4096x16384000, .i32⟩
  | 18 => ⟨S4096x16384000, .i32⟩
  | 19 => ⟨S4096x16384000, .i32⟩
  | 20 => ⟨S4096x16384000, .i32⟩
  | 21 => ⟨S_, .i32⟩
  | 22 => ⟨S4096x16384000, .i32⟩
  | 23 => ⟨S4096x16384000, .i32⟩
  | 24 => ⟨S_, .i32⟩
  | 25 => ⟨S4096x16384000, .i32⟩
  | 26 => ⟨S4096x16384000, .i32⟩
  | 27 => ⟨S4096x16384000, .i32⟩
  | 28 => ⟨S4096x16384000, .i32⟩
  | 29 => ⟨S4096x16384000, .i32⟩
  | 30 => ⟨S4096x16384000, .i32⟩
  | 31 => ⟨S4096x16384000, .i32⟩
  | 32 => ⟨S4096x16384000, .i32⟩
  | 33 => ⟨S_, .i32⟩
  | 34 => ⟨S4096x16384000, .i32⟩
  | 35 => ⟨S4096x16384000, .i32⟩
  | 36 => ⟨S4096x16384000, .i32⟩
  | 37 => ⟨S_, .i32⟩
  | 38 => ⟨S4096x16384000, .i32⟩
  | 39 => ⟨S4096x16384000, .i32⟩
  | 40 => ⟨S_, .i32⟩
  | 41 => ⟨S4096x16384000, .i32⟩
  | 42 => ⟨S4096x16384000, .i32⟩
  | 43 => ⟨S4096x16384000, .f32⟩
  | 44 => ⟨S_, .f32⟩
  | 45 => ⟨S4096x16384000, .f32⟩
  | 46 => ⟨S4096x16384000, .f32⟩
  | 47 => ⟨S1x1, .f32⟩
  | 48 => ⟨S4096x16384000, .f32⟩
  | 49 => ⟨S4096x16384000, .f32⟩
  | 50 => ⟨S4096x16384000, .f32⟩
  | 51 => ⟨S4096x16384000, .f32⟩
  | 52 => ⟨S4096x16384000, .f32⟩
  | 53 => ⟨S4096x16384000, .f32⟩
  | 54 => ⟨S_, .f32⟩
  | 55 => ⟨S4096x16384000, .f32⟩
  | 56 => ⟨S4096x16384000, .f32⟩
  | 57 => ⟨S_, .f32⟩
  | 58 => ⟨S4096x16384000, .f32⟩
  | 59 => ⟨S4096x16384000, .f32⟩
  | 60 => ⟨S_, .f32⟩
  | 61 => ⟨S4096x16384000, .f32⟩
  | 62 => ⟨S4096x16384000, .f32⟩
  | 63 => ⟨S4096x16384000, .f32⟩
  | 64 => ⟨S4096x16384000, .f32⟩
  | 65 => ⟨S4096x16384000, .f32⟩
  | 66 => ⟨S4096x16384000, .f32⟩
  | 67 => ⟨S16384000, .f32⟩
  | 68 => ⟨S1x16384000, .f32⟩
  | 69 => ⟨S4096x16384000, .f32⟩
  | 70 => ⟨S4096x16384000, .f32⟩
  | 71 => ⟨S4096x16384000, .i32⟩
  | 72 => ⟨S_, .f32⟩
  | 73 => ⟨S_, .i32⟩
  | 74 => ⟨S4096, .f32⟩
  | 75 => ⟨S4096, .i32⟩
  | 76 => ⟨S16384000, .f32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S4096, .f32⟩
  | 86 => ⟨S16384000, .f32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S4096x1, .i32⟩
  | 95 => ⟨S4096, .f32⟩
  | 96 => ⟨S4096, .f32⟩
  | 97 => ⟨S4096, .f32⟩
  | 98 => ⟨S_, .f32⟩
  | 99 => ⟨S4096, .f32⟩
  | 100 => ⟨S4096, .f32⟩
  | 101 => ⟨S4096, .f32⟩
  | 102 => ⟨S_, .f32⟩
  | 103 => ⟨S4096, .f32⟩
  | 104 => ⟨S4096, .f32⟩
  | 105 => ⟨S4096, .f32⟩
  | 106 => ⟨S4096, .f32⟩
  | 107 => ⟨S4096, .f32⟩
  | 108 => ⟨S_, .f32⟩
  | 109 => ⟨S_, .f32⟩
  | 110 => ⟨S_, .f32⟩
  | 111 => ⟨S_, .f32⟩
  | _ => ⟨S16384x1000, .f32⟩

abbrev hbmTy (i : Nat) : BufTy := match i / 128 with
  | 0 => hbmTy0_0 i
  | 1 => hbmTy0_1 i
  | 2 => hbmTy0_2 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v2 : Ref sig .tc := ⟨.hbm, 18, rfl⟩
abbrev main_cst_3 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_cst_4 : Ref sig .tc := ⟨.hbm, 24, rfl⟩
abbrev main_call2_v0 : Ref sig .tc := ⟨.hbm, 25, rfl⟩
abbrev main_call2_v1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_6 : Ref sig .tc := ⟨.hbm, 36, rfl⟩
abbrev main_c_7 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_8 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_9 : Ref sig .tc := ⟨.hbm, 46, rfl⟩
abbrev main_cst_10 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_c : Ref sig .tc := ⟨.hbm, 58, rfl⟩
abbrev main_call3_v10 : Ref sig .tc := ⟨.hbm, 59, rfl⟩
abbrev main_call3_v11 : Ref sig .tc := ⟨.hbm, 60, rfl⟩
abbrev main_call3_c_0 : Ref sig .tc := ⟨.hbm, 61, rfl⟩
abbrev main_call3_v12 : Ref sig .tc := ⟨.hbm, 62, rfl⟩
abbrev main_call3_v13 : Ref sig .tc := ⟨.hbm, 63, rfl⟩
abbrev main_call3_v14 : Ref sig .tc := ⟨.hbm, 64, rfl⟩
abbrev main_call3_c_1 : Ref sig .tc := ⟨.hbm, 65, rfl⟩
abbrev main_call3_v15 : Ref sig .tc := ⟨.hbm, 66, rfl⟩
abbrev main_call3_v16 : Ref sig .tc := ⟨.hbm, 67, rfl⟩
abbrev main_call3_v17 : Ref sig .tc := ⟨.hbm, 68, rfl⟩
abbrev main_call3_v18 : Ref sig .tc := ⟨.hbm, 69, rfl⟩
abbrev main_call3_call0_v0 : Ref sig .tc := ⟨.hbm, 70, rfl⟩
abbrev main_call3_call0_c : Ref sig .tc := ⟨.hbm, 71, rfl⟩
abbrev main_call3_call0_v1 : Ref sig .tc := ⟨.hbm, 72, rfl⟩
abbrev main_call3_call0_v2 : Ref sig .tc := ⟨.hbm, 73, rfl⟩
abbrev main_call3_call0_v3 : Ref sig .tc := ⟨.hbm, 74, rfl⟩
abbrev main_call3_call0_v4 : Ref sig .tc := ⟨.hbm, 75, rfl⟩
abbrev main_call3_call0_v5 : Ref sig .tc := ⟨.hbm, 76, rfl⟩
abbrev main_call3_call0_v6 : Ref sig .tc := ⟨.hbm, 77, rfl⟩
abbrev main_call3_call0_c_0 : Ref sig .tc := ⟨.hbm, 78, rfl⟩
abbrev main_call3_call0_v7 : Ref sig .tc := ⟨.hbm, 79, rfl⟩
abbrev main_call3_call0_v8 : Ref sig .tc := ⟨.hbm, 80, rfl⟩
abbrev main_call3_call0_c_1 : Ref sig .tc := ⟨.hbm, 81, rfl⟩
abbrev main_call3_call0_v9 : Ref sig .tc := ⟨.hbm, 82, rfl⟩
abbrev main_call3_call0_v10 : Ref sig .tc := ⟨.hbm, 83, rfl⟩
abbrev main_call3_call0_v11 : Ref sig .tc := ⟨.hbm, 84, rfl⟩
abbrev main_call3_call0_v12 : Ref sig .tc := ⟨.hbm, 85, rfl⟩
abbrev main_call3_call0_v13 : Ref sig .tc := ⟨.hbm, 86, rfl⟩
abbrev main_call3_call0_c_2 : Ref sig .tc := ⟨.hbm, 87, rfl⟩
abbrev main_call3_call0_v14 : Ref sig .tc := ⟨.hbm, 88, rfl⟩
abbrev main_call3_call0_v15 : Ref sig .tc := ⟨.hbm, 89, rfl⟩
abbrev main_call3_call0_c_3 : Ref sig .tc := ⟨.hbm, 90, rfl⟩
abbrev main_call3_call0_v16 : Ref sig .tc := ⟨.hbm, 91, rfl⟩
abbrev main_call3_call0_v17 : Ref sig .tc := ⟨.hbm, 92, rfl⟩
abbrev main_call3_call0_v18 : Ref sig .tc := ⟨.hbm, 93, rfl⟩
abbrev main_call3_call0_v19 : Ref sig .tc := ⟨.hbm, 94, rfl⟩
abbrev main_call3_call0_v20 : Ref sig .tc := ⟨.hbm, 95, rfl⟩
abbrev main_call3_call0_c_4 : Ref sig .tc := ⟨.hbm, 96, rfl⟩
abbrev main_call3_call0_v21 : Ref sig .tc := ⟨.hbm, 97, rfl⟩
abbrev main_call3_call0_v22 : Ref sig .tc := ⟨.hbm, 98, rfl⟩
abbrev main_call3_call0_c_5 : Ref sig .tc := ⟨.hbm, 99, rfl⟩
abbrev main_call3_call0_v23 : Ref sig .tc := ⟨.hbm, 100, rfl⟩
abbrev main_call3_call0_v24 : Ref sig .tc := ⟨.hbm, 101, rfl⟩
abbrev main_call3_call0_v25 : Ref sig .tc := ⟨.hbm, 102, rfl⟩
abbrev main_call3_call0_v26 : Ref sig .tc := ⟨.hbm, 103, rfl⟩
abbrev main_call3_call0_v27 : Ref sig .tc := ⟨.hbm, 104, rfl⟩
abbrev main_call3_call0_c_6 : Ref sig .tc := ⟨.hbm, 105, rfl⟩
abbrev main_call3_call0_v28 : Ref sig .tc := ⟨.hbm, 106, rfl⟩
abbrev main_call3_call0_v29 : Ref sig .tc := ⟨.hbm, 107, rfl⟩
abbrev main_call3_call0_c_7 : Ref sig .tc := ⟨.hbm, 108, rfl⟩
abbrev main_call3_call0_v30 : Ref sig .tc := ⟨.hbm, 109, rfl⟩
abbrev main_call3_call0_v31 : Ref sig .tc := ⟨.hbm, 110, rfl⟩
abbrev main_call3_call0_v32 : Ref sig .tc := ⟨.hbm, 111, rfl⟩
abbrev main_call3_call0_v33 : Ref sig .tc := ⟨.hbm, 112, rfl⟩
abbrev main_call3_call0_v34 : Ref sig .tc := ⟨.hbm, 113, rfl⟩
abbrev main_call3_call0_v35 : Ref sig .tc := ⟨.hbm, 114, rfl⟩
abbrev main_call3_call0_v36 : Ref sig .tc := ⟨.hbm, 115, rfl⟩
abbrev main_call3_call0_v37 : Ref sig .tc := ⟨.hbm, 116, rfl⟩
abbrev main_call3_call0_c_8 : Ref sig .tc := ⟨.hbm, 117, rfl⟩
abbrev main_call3_call0_v38 : Ref sig .tc := ⟨.hbm, 118, rfl⟩
abbrev main_call3_call0_v39 : Ref sig .tc := ⟨.hbm, 119, rfl⟩
abbrev main_call3_call0_v40 : Ref sig .tc := ⟨.hbm, 120, rfl⟩
abbrev main_call3_call0_c_9 : Ref sig .tc := ⟨.hbm, 121, rfl⟩
abbrev main_call3_call0_v41 : Ref sig .tc := ⟨.hbm, 122, rfl⟩
abbrev main_call3_call0_v42 : Ref sig .tc := ⟨.hbm, 123, rfl⟩
abbrev main_call3_call0_c_10 : Ref sig .tc := ⟨.hbm, 124, rfl⟩
abbrev main_call3_call0_v43 : Ref sig .tc := ⟨.hbm, 125, rfl⟩
abbrev main_call3_call0_v44 : Ref sig .tc := ⟨.hbm, 126, rfl⟩
abbrev main_call3_call0_v45 : Ref sig .tc := ⟨.hbm, 127, rfl⟩
abbrev main_call3_call0_v46 : Ref sig .tc := ⟨.hbm, 128, rfl⟩
abbrev main_call3_call0_v47 : Ref sig .tc := ⟨.hbm, 129, rfl⟩
abbrev main_call3_call0_c_11 : Ref sig .tc := ⟨.hbm, 130, rfl⟩
abbrev main_call3_call0_v48 : Ref sig .tc := ⟨.hbm, 131, rfl⟩
abbrev main_call3_call0_v49 : Ref sig .tc := ⟨.hbm, 132, rfl⟩
abbrev main_call3_call0_c_12 : Ref sig .tc := ⟨.hbm, 133, rfl⟩
abbrev main_call3_call0_v50 : Ref sig .tc := ⟨.hbm, 134, rfl⟩
abbrev main_call3_call0_v51 : Ref sig .tc := ⟨.hbm, 135, rfl⟩
abbrev main_call3_call0_v52 : Ref sig .tc := ⟨.hbm, 136, rfl⟩
abbrev main_call3_call0_v53 : Ref sig .tc := ⟨.hbm, 137, rfl⟩
abbrev main_call3_call0_v54 : Ref sig .tc := ⟨.hbm, 138, rfl⟩
abbrev main_call3_call0_c_13 : Ref sig .tc := ⟨.hbm, 139, rfl⟩
abbrev main_call3_call0_v55 : Ref sig .tc := ⟨.hbm, 140, rfl⟩
abbrev main_call3_call0_v56 : Ref sig .tc := ⟨.hbm, 141, rfl⟩
abbrev main_call3_call0_c_14 : Ref sig .tc := ⟨.hbm, 142, rfl⟩
abbrev main_call3_call0_v57 : Ref sig .tc := ⟨.hbm, 143, rfl⟩
abbrev main_call3_call0_v58 : Ref sig .tc := ⟨.hbm, 144, rfl⟩
abbrev main_call3_call0_v59 : Ref sig .tc := ⟨.hbm, 145, rfl⟩
abbrev main_call3_call0_v60 : Ref sig .tc := ⟨.hbm, 146, rfl⟩
abbrev main_call3_call0_v61 : Ref sig .tc := ⟨.hbm, 147, rfl⟩
abbrev main_call3_call0_c_15 : Ref sig .tc := ⟨.hbm, 148, rfl⟩
abbrev main_call3_call0_v62 : Ref sig .tc := ⟨.hbm, 149, rfl⟩
abbrev main_call3_call0_v63 : Ref sig .tc := ⟨.hbm, 150, rfl⟩
abbrev main_call3_call0_c_16 : Ref sig .tc := ⟨.hbm, 151, rfl⟩
abbrev main_call3_call0_v64 : Ref sig .tc := ⟨.hbm, 152, rfl⟩
abbrev main_call3_call0_v65 : Ref sig .tc := ⟨.hbm, 153, rfl⟩
abbrev main_call3_call0_v66 : Ref sig .tc := ⟨.hbm, 154, rfl⟩
abbrev main_call3_call0_v67 : Ref sig .tc := ⟨.hbm, 155, rfl⟩
abbrev main_call3_call0_v68 : Ref sig .tc := ⟨.hbm, 156, rfl⟩
abbrev main_call3_call0_v69 : Ref sig .tc := ⟨.hbm, 157, rfl⟩
abbrev main_call3_call0_v70 : Ref sig .tc := ⟨.hbm, 158, rfl⟩
abbrev main_call3_call0_v71 : Ref sig .tc := ⟨.hbm, 159, rfl⟩
abbrev main_call3_call0_c_17 : Ref sig .tc := ⟨.hbm, 160, rfl⟩
abbrev main_call3_call0_v72 : Ref sig .tc := ⟨.hbm, 161, rfl⟩
abbrev main_call3_call0_v73 : Ref sig .tc := ⟨.hbm, 162, rfl⟩
abbrev main_call3_call0_v74 : Ref sig .tc := ⟨.hbm, 163, rfl⟩
abbrev main_call3_call0_c_18 : Ref sig .tc := ⟨.hbm, 164, rfl⟩
abbrev main_call3_call0_v75 : Ref sig .tc := ⟨.hbm, 165, rfl⟩
abbrev main_call3_call0_v76 : Ref sig .tc := ⟨.hbm, 166, rfl⟩
abbrev main_call3_call0_c_19 : Ref sig .tc := ⟨.hbm, 167, rfl⟩
abbrev main_call3_call0_v77 : Ref sig .tc := ⟨.hbm, 168, rfl⟩
abbrev main_call3_call0_v78 : Ref sig .tc := ⟨.hbm, 169, rfl⟩
abbrev main_call3_call0_v79 : Ref sig .tc := ⟨.hbm, 170, rfl⟩
abbrev main_call3_call0_v80 : Ref sig .tc := ⟨.hbm, 171, rfl⟩
abbrev main_call3_call0_v81 : Ref sig .tc := ⟨.hbm, 172, rfl⟩
abbrev main_call3_call0_c_20 : Ref sig .tc := ⟨.hbm, 173, rfl⟩
abbrev main_call3_call0_v82 : Ref sig .tc := ⟨.hbm, 174, rfl⟩
abbrev main_call3_call0_v83 : Ref sig .tc := ⟨.hbm, 175, rfl⟩
abbrev main_call3_call0_c_21 : Ref sig .tc := ⟨.hbm, 176, rfl⟩
abbrev main_call3_call0_v84 : Ref sig .tc := ⟨.hbm, 177, rfl⟩
abbrev main_call3_call0_v85 : Ref sig .tc := ⟨.hbm, 178, rfl⟩
abbrev main_call3_call0_v86 : Ref sig .tc := ⟨.hbm, 179, rfl⟩
abbrev main_call3_call0_v87 : Ref sig .tc := ⟨.hbm, 180, rfl⟩
abbrev main_call3_call0_v88 : Ref sig .tc := ⟨.hbm, 181, rfl⟩
abbrev main_call3_call0_c_22 : Ref sig .tc := ⟨.hbm, 182, rfl⟩
abbrev main_call3_call0_v89 : Ref sig .tc := ⟨.hbm, 183, rfl⟩
abbrev main_call3_call0_v90 : Ref sig .tc := ⟨.hbm, 184, rfl⟩
abbrev main_call3_call0_c_23 : Ref sig .tc := ⟨.hbm, 185, rfl⟩
abbrev main_call3_call0_v91 : Ref sig .tc := ⟨.hbm, 186, rfl⟩
abbrev main_call3_call0_v92 : Ref sig .tc := ⟨.hbm, 187, rfl⟩
abbrev main_call3_call0_v93 : Ref sig .tc := ⟨.hbm, 188, rfl⟩
abbrev main_call3_call0_v94 : Ref sig .tc := ⟨.hbm, 189, rfl⟩
abbrev main_call3_call0_v95 : Ref sig .tc := ⟨.hbm, 190, rfl⟩
abbrev main_call3_call0_c_24 : Ref sig .tc := ⟨.hbm, 191, rfl⟩
abbrev main_call3_call0_v96 : Ref sig .tc := ⟨.hbm, 192, rfl⟩
abbrev main_call3_call0_v97 : Ref sig .tc := ⟨.hbm, 193, rfl⟩
abbrev main_call3_call0_c_25 : Ref sig .tc := ⟨.hbm, 194, rfl⟩
abbrev main_call3_call0_v98 : Ref sig .tc := ⟨.hbm, 195, rfl⟩
abbrev main_call3_call0_v99 : Ref sig .tc := ⟨.hbm, 196, rfl⟩
abbrev main_call3_call0_v100 : Ref sig .tc := ⟨.hbm, 197, rfl⟩
abbrev main_call3_call0_v101 : Ref sig .tc := ⟨.hbm, 198, rfl⟩
abbrev main_call3_call0_v102 : Ref sig .tc := ⟨.hbm, 199, rfl⟩
abbrev main_call3_call0_v103 : Ref sig .tc := ⟨.hbm, 200, rfl⟩
abbrev main_call3_call0_v104 : Ref sig .tc := ⟨.hbm, 201, rfl⟩
abbrev main_call3_call0_v105 : Ref sig .tc := ⟨.hbm, 202, rfl⟩
abbrev main_call3_call0_c_26 : Ref sig .tc := ⟨.hbm, 203, rfl⟩
abbrev main_call3_call0_v106 : Ref sig .tc := ⟨.hbm, 204, rfl⟩
abbrev main_call3_call0_v107 : Ref sig .tc := ⟨.hbm, 205, rfl⟩
abbrev main_call3_call0_v108 : Ref sig .tc := ⟨.hbm, 206, rfl⟩
abbrev main_call3_call0_c_27 : Ref sig .tc := ⟨.hbm, 207, rfl⟩
abbrev main_call3_call0_v109 : Ref sig .tc := ⟨.hbm, 208, rfl⟩
abbrev main_call3_call0_v110 : Ref sig .tc := ⟨.hbm, 209, rfl⟩
abbrev main_call3_call0_c_28 : Ref sig .tc := ⟨.hbm, 210, rfl⟩
abbrev main_call3_call0_v111 : Ref sig .tc := ⟨.hbm, 211, rfl⟩
abbrev main_call3_call0_v112 : Ref sig .tc := ⟨.hbm, 212, rfl⟩
abbrev main_call3_call0_v113 : Ref sig .tc := ⟨.hbm, 213, rfl⟩
abbrev main_call3_call0_v114 : Ref sig .tc := ⟨.hbm, 214, rfl⟩
abbrev main_call3_call0_v115 : Ref sig .tc := ⟨.hbm, 215, rfl⟩
abbrev main_call3_call0_c_29 : Ref sig .tc := ⟨.hbm, 216, rfl⟩
abbrev main_call3_call0_v116 : Ref sig .tc := ⟨.hbm, 217, rfl⟩
abbrev main_call3_call0_v117 : Ref sig .tc := ⟨.hbm, 218, rfl⟩
abbrev main_call3_call0_c_30 : Ref sig .tc := ⟨.hbm, 219, rfl⟩
abbrev main_call3_call0_v118 : Ref sig .tc := ⟨.hbm, 220, rfl⟩
abbrev main_call3_call0_v119 : Ref sig .tc := ⟨.hbm, 221, rfl⟩
abbrev main_call3_call0_v120 : Ref sig .tc := ⟨.hbm, 222, rfl⟩
abbrev main_call3_call0_v121 : Ref sig .tc := ⟨.hbm, 223, rfl⟩
abbrev main_call3_call0_v122 : Ref sig .tc := ⟨.hbm, 224, rfl⟩
abbrev main_call3_call0_c_31 : Ref sig .tc := ⟨.hbm, 225, rfl⟩
abbrev main_call3_call0_v123 : Ref sig .tc := ⟨.hbm, 226, rfl⟩
abbrev main_call3_call0_v124 : Ref sig .tc := ⟨.hbm, 227, rfl⟩
abbrev main_call3_call0_c_32 : Ref sig .tc := ⟨.hbm, 228, rfl⟩
abbrev main_call3_call0_v125 : Ref sig .tc := ⟨.hbm, 229, rfl⟩
abbrev main_call3_call0_v126 : Ref sig .tc := ⟨.hbm, 230, rfl⟩
abbrev main_call3_call0_v127 : Ref sig .tc := ⟨.hbm, 231, rfl⟩
abbrev main_call3_call0_v128 : Ref sig .tc := ⟨.hbm, 232, rfl⟩
abbrev main_call3_call0_v129 : Ref sig .tc := ⟨.hbm, 233, rfl⟩
abbrev main_call3_call0_c_33 : Ref sig .tc := ⟨.hbm, 234, rfl⟩
abbrev main_call3_call0_v130 : Ref sig .tc := ⟨.hbm, 235, rfl⟩
abbrev main_call3_call0_v131 : Ref sig .tc := ⟨.hbm, 236, rfl⟩
abbrev main_call3_call0_c_34 : Ref sig .tc := ⟨.hbm, 237, rfl⟩
abbrev main_call3_call0_v132 : Ref sig .tc := ⟨.hbm, 238, rfl⟩
abbrev main_call3_call0_v133 : Ref sig .tc := ⟨.hbm, 239, rfl⟩
abbrev main_call3_call0_v134 : Ref sig .tc := ⟨.hbm, 240, rfl⟩
abbrev main_call3_call0_v135 : Ref sig .tc := ⟨.hbm, 241, rfl⟩
abbrev main_call3_call0_v136 : Ref sig .tc := ⟨.hbm, 242, rfl⟩
abbrev main_call3_call0_v137 : Ref sig .tc := ⟨.hbm, 243, rfl⟩
abbrev main_call3_call0_v138 : Ref sig .tc := ⟨.hbm, 244, rfl⟩
abbrev main_call3_call0_v139 : Ref sig .tc := ⟨.hbm, 245, rfl⟩
abbrev main_call3_call0_c_35 : Ref sig .tc := ⟨.hbm, 246, rfl⟩
abbrev main_call3_call0_v140 : Ref sig .tc := ⟨.hbm, 247, rfl⟩
abbrev main_call3_call0_v141 : Ref sig .tc := ⟨.hbm, 248, rfl⟩
abbrev main_call3_call0_v142 : Ref sig .tc := ⟨.hbm, 249, rfl⟩
abbrev main_call3_call0_c_36 : Ref sig .tc := ⟨.hbm, 250, rfl⟩
abbrev main_call3_call0_v143 : Ref sig .tc := ⟨.hbm, 251, rfl⟩
abbrev main_call3_call0_v144 : Ref sig .tc := ⟨.hbm, 252, rfl⟩
abbrev main_call3_call0_c_37 : Ref sig .tc := ⟨.hbm, 253, rfl⟩
abbrev main_call3_call0_v145 : Ref sig .tc := ⟨.hbm, 254, rfl⟩
abbrev main_call3_call0_v146 : Ref sig .tc := ⟨.hbm, 255, rfl⟩
abbrev main_call3_call0_v147 : Ref sig .tc := ⟨.hbm, 256, rfl⟩
abbrev main_call3_call0_v148 : Ref sig .tc := ⟨.hbm, 257, rfl⟩
abbrev main_call3_call0_v149 : Ref sig .tc := ⟨.hbm, 258, rfl⟩
abbrev main_call3_call0_c_38 : Ref sig .tc := ⟨.hbm, 259, rfl⟩
abbrev main_call3_call0_v150 : Ref sig .tc := ⟨.hbm, 260, rfl⟩
abbrev main_call3_call0_v151 : Ref sig .tc := ⟨.hbm, 261, rfl⟩
abbrev main_call3_call0_c_39 : Ref sig .tc := ⟨.hbm, 262, rfl⟩
abbrev main_call3_call0_v152 : Ref sig .tc := ⟨.hbm, 263, rfl⟩
abbrev main_call3_call0_v153 : Ref sig .tc := ⟨.hbm, 264, rfl⟩
abbrev main_call3_call0_v154 : Ref sig .tc := ⟨.hbm, 265, rfl⟩
abbrev main_call3_call0_v155 : Ref sig .tc := ⟨.hbm, 266, rfl⟩
abbrev main_call3_call0_v156 : Ref sig .tc := ⟨.hbm, 267, rfl⟩
abbrev main_call3_call0_c_40 : Ref sig .tc := ⟨.hbm, 268, rfl⟩
abbrev main_call3_call0_v157 : Ref sig .tc := ⟨.hbm, 269, rfl⟩
abbrev main_call3_call0_v158 : Ref sig .tc := ⟨.hbm, 270, rfl⟩
abbrev main_call3_call0_c_41 : Ref sig .tc := ⟨.hbm, 271, rfl⟩
abbrev main_call3_call0_v159 : Ref sig .tc := ⟨.hbm, 272, rfl⟩
abbrev main_call3_call0_v160 : Ref sig .tc := ⟨.hbm, 273, rfl⟩
abbrev main_call3_call0_v161 : Ref sig .tc := ⟨.hbm, 274, rfl⟩
abbrev main_call3_call0_v162 : Ref sig .tc := ⟨.hbm, 275, rfl⟩
abbrev main_call3_call0_v163 : Ref sig .tc := ⟨.hbm, 276, rfl⟩
abbrev main_call3_call0_c_42 : Ref sig .tc := ⟨.hbm, 277, rfl⟩
abbrev main_call3_call0_v164 : Ref sig .tc := ⟨.hbm, 278, rfl⟩
abbrev main_call3_call0_v165 : Ref sig .tc := ⟨.hbm, 279, rfl⟩
abbrev main_call3_call0_c_43 : Ref sig .tc := ⟨.hbm, 280, rfl⟩
abbrev main_call3_call0_v166 : Ref sig .tc := ⟨.hbm, 281, rfl⟩
abbrev main_call3_call0_v167 : Ref sig .tc := ⟨.hbm, 282, rfl⟩
abbrev main_call3_call0_v168 : Ref sig .tc := ⟨.hbm, 283, rfl⟩
abbrev main_call3_call0_v169 : Ref sig .tc := ⟨.hbm, 284, rfl⟩
abbrev main_call3_call0_v170 : Ref sig .tc := ⟨.hbm, 285, rfl⟩
abbrev main_call3_v19_0 : Ref sig .tc := ⟨.hbm, 286, rfl⟩
abbrev main_call3_call0_v172 : Ref sig .tc := ⟨.hbm, 287, rfl⟩
abbrev main_call3_call0_v173 : Ref sig .tc := ⟨.hbm, 288, rfl⟩
abbrev main_call3_call0_c_44 : Ref sig .tc := ⟨.hbm, 289, rfl⟩
abbrev main_call3_call0_v174 : Ref sig .tc := ⟨.hbm, 290, rfl⟩
abbrev main_call3_v19_1 : Ref sig .tc := ⟨.hbm, 291, rfl⟩
abbrev main_call3_v20 : Ref sig .tc := ⟨.hbm, 292, rfl⟩
abbrev main_call3_c_2 : Ref sig .tc := ⟨.hbm, 293, rfl⟩
abbrev main_call3_v21 : Ref sig .tc := ⟨.hbm, 294, rfl⟩
abbrev main_call3_v22 : Ref sig .tc := ⟨.hbm, 295, rfl⟩
abbrev main_call3_c_3 : Ref sig .tc := ⟨.hbm, 296, rfl⟩
abbrev main_call3_v23 : Ref sig .tc := ⟨.hbm, 297, rfl⟩
abbrev main_call3_v24 : Ref sig .tc := ⟨.hbm, 298, rfl⟩
abbrev main_call3_v25 : Ref sig .tc := ⟨.hbm, 299, rfl⟩
abbrev main_call3_cst : Ref sig .tc := ⟨.hbm, 300, rfl⟩
abbrev main_call3_v26 : Ref sig .tc := ⟨.hbm, 301, rfl⟩
abbrev main_call3_v27 : Ref sig .tc := ⟨.hbm, 302, rfl⟩
abbrev main_call3_v28 : Ref sig .tc := ⟨.hbm, 303, rfl⟩
abbrev main_call3_v29 : Ref sig .tc := ⟨.hbm, 304, rfl⟩
abbrev main_call3_v30 : Ref sig .tc := ⟨.hbm, 305, rfl⟩
abbrev main_call3_v31 : Ref sig .tc := ⟨.hbm, 306, rfl⟩
abbrev main_call3_v32 : Ref sig .tc := ⟨.hbm, 307, rfl⟩
abbrev main_call3_v33 : Ref sig .tc := ⟨.hbm, 308, rfl⟩
abbrev main_v21 : Ref sig .tc := ⟨.hbm, 309, rfl⟩
abbrev main_cst_11 : Ref sig .tc := ⟨.hbm, 310, rfl⟩
abbrev main_v22 : Ref sig .tc := ⟨.hbm, 311, rfl⟩
abbrev main_v23 : Ref sig .tc := ⟨.hbm, 312, rfl⟩
abbrev main_cst_12 : Ref sig .tc := ⟨.hbm, 313, rfl⟩
abbrev main_v24 : Ref sig .tc := ⟨.hbm, 314, rfl⟩
abbrev main_v25 : Ref sig .tc := ⟨.hbm, 315, rfl⟩
abbrev main_cst_13 : Ref sig .tc := ⟨.hbm, 316, rfl⟩
abbrev main_v26 : Ref sig .tc := ⟨.hbm, 317, rfl⟩
abbrev main_v27 : Ref sig .tc := ⟨.hbm, 318, rfl⟩
abbrev main_v28 : Ref sig .tc := ⟨.hbm, 319, rfl⟩
abbrev main_v29 : Ref sig .tc := ⟨.hbm, 320, rfl⟩
abbrev main_v30 : Ref sig .tc := ⟨.hbm, 321, rfl⟩
abbrev main_v31 : Ref sig .tc := ⟨.hbm, 322, rfl⟩
abbrev main_v32 : Ref sig .tc := ⟨.hbm, 323, rfl⟩
abbrev main_v33 : Ref sig .tc := ⟨.hbm, 324, rfl⟩
abbrev main_v34 : Ref sig .tc := ⟨.hbm, 325, rfl⟩
abbrev main_v35 : Ref sig .tc := ⟨.hbm, 326, rfl⟩
abbrev main_call4_v0 : Ref sig .tc := ⟨.hbm, 327, rfl⟩
abbrev main_call4_cst : Ref sig .tc := ⟨.hbm, 328, rfl⟩
abbrev main_call4_c : Ref sig .tc := ⟨.hbm, 329, rfl⟩
abbrev main_call4_v1_0 : Ref sig .tc := ⟨.hbm, 330, rfl⟩
abbrev main_v36 : Ref sig .tc := ⟨.hbm, 331, rfl⟩
abbrev main_v37 : Ref sig .tc := ⟨.hbm, 332, rfl⟩
abbrev main_c_14 : Ref sig .tc := ⟨.hbm, 333, rfl⟩
abbrev main_v38 : Ref sig .tc := ⟨.hbm, 334, rfl⟩
abbrev main_v39 : Ref sig .tc := ⟨.hbm, 335, rfl⟩
abbrev main_c_15 : Ref sig .tc := ⟨.hbm, 336, rfl⟩
abbrev main_v40 : Ref sig .tc := ⟨.hbm, 337, rfl⟩
abbrev main_v41 : Ref sig .tc := ⟨.hbm, 338, rfl⟩
abbrev main_v42 : Ref sig .tc := ⟨.hbm, 339, rfl⟩
abbrev main_v43 : Ref sig .tc := ⟨.hbm, 340, rfl⟩
abbrev main_v44 : Ref sig .tc := ⟨.hbm, 341, rfl⟩
abbrev main_v45 : Ref sig .tc := ⟨.hbm, 342, rfl⟩
abbrev main_c_16 : Ref sig .tc := ⟨.hbm, 343, rfl⟩
abbrev main_v46 : Ref sig .tc := ⟨.hbm, 344, rfl⟩
abbrev main_v47 : Ref sig .tc := ⟨.hbm, 345, rfl⟩
abbrev main_c_17 : Ref sig .tc := ⟨.hbm, 346, rfl⟩
abbrev main_v48 : Ref sig .tc := ⟨.hbm, 347, rfl⟩
abbrev main_v49 : Ref sig .tc := ⟨.hbm, 348, rfl⟩
abbrev main_v50 : Ref sig .tc := ⟨.hbm, 349, rfl⟩
abbrev main_v51 : Ref sig .tc := ⟨.hbm, 350, rfl⟩
abbrev main_v52 : Ref sig .tc := ⟨.hbm, 351, rfl⟩
abbrev main_v53 : Ref sig .tc := ⟨.hbm, 352, rfl⟩
abbrev main_v54 : Ref sig .tc := ⟨.hbm, 353, rfl⟩
abbrev main_cst_18 : Ref sig .tc := ⟨.hbm, 354, rfl⟩
abbrev main_v55 : Ref sig .tc := ⟨.hbm, 355, rfl⟩
abbrev main_v56 : Ref sig .tc := ⟨.hbm, 356, rfl⟩
abbrev main_v57 : Ref sig .tc := ⟨.hbm, 357, rfl⟩
abbrev main_cst_19 : Ref sig .tc := ⟨.hbm, 358, rfl⟩
abbrev main_v58 : Ref sig .tc := ⟨.hbm, 359, rfl⟩
abbrev main_v59 : Ref sig .tc := ⟨.hbm, 360, rfl⟩
abbrev main_v60 : Ref sig .tc := ⟨.hbm, 361, rfl⟩
abbrev main_v61 : Ref sig .tc := ⟨.hbm, 362, rfl⟩
abbrev main_v62 : Ref sig .tc := ⟨.hbm, 363, rfl⟩
abbrev main_cst_20 : Ref sig .tc := ⟨.hbm, 364, rfl⟩
abbrev main_v63 : Ref sig .tc := ⟨.hbm, 365, rfl⟩
abbrev main_cst_21 : Ref sig .tc := ⟨.hbm, 366, rfl⟩
abbrev main_v64 : Ref sig .tc := ⟨.hbm, 367, rfl⟩

abbrev nD : Nat := 1
abbrev τ : Topo := Topo.v7x

variable {F : FTy → Type} [FloatOps F]
-- ==== Proof.Step.lean ====
module

public import proofs.«01_k».proof.Proof.Gen.KernelIdeal.Loops
public import Idealize.ShloMosaic.Lib.Pipeline.Value
public import Idealize.ShloMosaic.Lib.WritesUnit

@[expose] public section

set_option maxRecDepth 8192

noncomputable section

/-! What one grid point's block does, as functions of the arrays it reads: one tile row against the
running winners (`trip2`), the eight tile rows in turn (`inner`), every draw of the row block
(`nextS`, `nextW`), and the closing reduction over the draws (`lossUpTo`). -/

namespace Cert.Proof.KernelIdeal

open Cert.KernelIdeal Cert.KernelIdeal.Gen
open Idealize.ShloMosaic Idealize.ShloMosaic.TcCoe

variable {F : FTy → Type} [FloatOps F]

/-- The upper 23 random bits of every lane of the tile row `k`, for the eight draws of row `a`; `n` is the tile's
number and `v` the lane numbers. -/
def bitsOf (i : grid0.Coords) (n : BitVec 32) (v : IVec S8x1024 32) (a : Fin k0_t1_loop.trips) (k : Fin k0_t2_loop.trips) : IVec S8x1024 32 :=
  let v95 := k0_pay28 n v (k0_pay7 i a) (k0_pay8 i a) (k0_pay9 i a) 0#32 1#32 k
  let v100 := k0_pay29 n v (k0_pay7 i a) (k0_pay8 i a) (k0_pay9 i a) 0#32 1#32 k
  let v144 := k0_pay40 v95 v100
  let v145 := k0_pay41 v95 v100
  k0_pay54 (k0_pay52 v144 v145 15#32) (k0_pay53 v144 v145 15#32) 24#32

/-- Row `k` of a tile. -/
def rowOf (X : Vec F S8x1024 .f32) (k : Fin k0_t2_loop.trips) : Vec F S1x1024 .f32 :=
  fun x => X ((Rect.unit (s := S8x1024) (k0_off2 k) S1x1024.size (k0_off2_inb k)).emb x)

/-- The running winners (score, weight) after tile row `k` is compared in. -/
def trip2 (i : grid0.Coords) (n : BitVec 32) (v : IVec S8x1024 32) (a : Fin k0_t1_loop.trips) (L W : Vec F S8x1024 .f32) (k : Fin k0_t2_loop.trips)
    (acc : FVec F S8x1024 .f32 × FVec F S8x1024 .f32) : FVec F S8x1024 .f32 × FVec F S8x1024 .f32 :=
  (k0_pay14 acc.1 (bitsOf i n v a k) 1065353216#32 (rowOf L k),
    k0_pay15 acc.1 acc.2 (bitsOf i n v a k) 1065353216#32 (rowOf L k) (rowOf W k))

/-- The running winners after the first so many tile rows. -/
def inner (i : grid0.Coords) (n : BitVec 32) (v : IVec S8x1024 32) (a : Fin k0_t1_loop.trips) (L W : Vec F S8x1024 .f32)
    (init : FVec F S8x1024 .f32 × FVec F S8x1024 .f32) : ℕ → FVec F S8x1024 .f32 × FVec F S8x1024 .f32
  | 0 => init
  | k + 1 => if h : k < k0_t2_loop.trips then trip2 i n v a L W ⟨k, h⟩ (inner i n v a L W init k) else inner i n v a L W init k

theorem inner_succ (i : grid0.Coords) (n : BitVec 32) (v : IVec S8x1024 32) (a : Fin k0_t1_loop.trips) (L W : Vec F S8x1024 .f32)
    (init : FVec F S8x1024 .f32 × FVec F S8x1024 .f32) (k : Fin k0_t2_loop.trips) :
    inner i n v a L W init (k.val + 1) = trip2 i n v a L W k (inner i n v a L W init k.val) := by
  rw [inner]; exact dif_pos k.isLt

/-- Row `a` of the array of running winners. -/
def slab (X : Vec F S256x8x1024 .f32) (a : Fin k0_t1_loop.trips) : Vec F S1x8x1024 .f32 :=
  fun x => X ((Rect.unit (s := S256x8x1024) (k0_off1 a) S1x8x1024.size (k0_off1_inb a)).emb x)

/-- The winners of row `a` after the whole tile. -/
def rowEnd (i : grid0.Coords) (n : BitVec 32) (v : IVec S8x1024 32) (L W : Vec F S8x1024 .f32) (S V : Vec F S256x8x1024 .f32) (a : Fin k0_t1_loop.trips) :
    FVec F S8x1024 .f32 × FVec F S8x1024 .f32 :=
  inner i n v a L W (k0_pay10 (slab S a), k0_pay11 (slab V a)) k0_t2_loop.trips

/-- A place of the running arrays, in its row. -/
def inRow (y : S256x8x1024.Idx) : S8x1024.Idx := fun b => y b.succ

theorem trips1 : k0_t1_loop.trips = 256 := by decide +kernel
theorem trips2 : k0_t2_loop.trips = 8 := by decide +kernel
theorem trips3 : k0_t3_loop.trips = 256 := by decide +kernel

/-- The row of a place of the running arrays. -/
def theRow (y : S256x8x1024.Idx) : Fin k0_t1_loop.trips := ⟨(y 0).val, by rw [trips1]; exact (y 0).isLt⟩

/-- The running scores after the first `m` rows are brought up to date with the tile. -/
def nextS (i : grid0.Coords) (n : BitVec 32) (v : IVec S8x1024 32) (L W : Vec F S8x1024 .f32) (S V : Vec F S256x8x1024 .f32) (m : ℕ) : Vec F S256x8x1024 .f32 :=
  fun y => if (y 0).val < m then (rowEnd i n v L W S V (theRow y)).1 (inRow y) else S y

/-- The running weights after the first `m` rows are brought up to date with the tile. -/
def nextW (i : grid0.Coords) (n : BitVec 32) (v : IVec S8x1024 32) (L W : Vec F S8x1024 .f32) (S V : Vec F S256x8x1024 .f32) (m : ℕ) : Vec F S256x8x1024 .f32 :=
  fun y => if (y 0).val < m then (rowEnd i n v L W S V (theRow y)).2 (inRow y) else V y

/-- Row `a` of the array of winners, as the closing loop reads it. -/
def slab3 (i : grid0.Coords) (h : k0_cond2 i = 1#1) (X : Vec F S256x8x1024 .f32) (a : Fin k0_t3_loop.trips) : Vec F S1x8x1024 .f32 :=
  fun x => X ((Rect.unit (s := S256x8x1024) (k0_off3 a) S1x8x1024.size (k0_off3_inb i a h)).emb x)

/-- The loss summed over the draws of the first `n` rows. -/
def lossUpTo (i : grid0.Coords) (h : k0_cond2 i = 1#1) (S V : Vec F S256x8x1024 .f32) (init : F .f32) : ℕ → F .f32
  | 0 => init
  | n + 1 => if hn : n < k0_t3_loop.trips then
      k0_pay18 (lossUpTo i h S V init n) (slab3 i h S ⟨n, hn⟩) (slab3 i h V ⟨n, hn⟩)
    else lossUpTo i h S V init n

theorem lossUpTo_succ (i : grid0.Coords) (h : k0_cond2 i = 1#1) (S V : Vec F S256x8x1024 .f32) (init : F .f32) (k : Fin k0_t3_loop.trips) :
    lossUpTo i h S V init (k.val + 1) = k0_pay18 (lossUpTo i h S V init k.val) (slab3 i h S k) (slab3 i h V k) := by
  rw [lossUpTo]; exact dif_pos k.isLt

/-- What a store of row `k` makes of an array whose earlier rows are up to date. -/
theorem next_succ (R : Fin k0_t1_loop.trips → FVec F S8x1024 .f32) (X : Vec F S256x8x1024 .f32)
    {sig : RefSig} {κ : Kind} {sp : Space} (v : View sig κ sp S256x8x1024 .f32) (f : v.ty.Contents (Elt F)) (k : Fin k0_t1_loop.trips)
    (hf : v.read (Elt F) f = fun y => if (y 0).val < k.val then R (theRow y) (inRow y) else X y) :
    v.read (Elt F) (v.writes (Elt F) f
        [⟨Rect.unit (s := S256x8x1024) (k0_off1 k) S1x8x1024.size (k0_off1_inb k), k0_pay16 (R k)⟩])
      = fun y => if (y 0).val < k.val + 1 then R (theRow y) (inRow y) else X y := by
  have hk : k.val < 256 := Nat.lt_of_lt_of_le k.isLt k0_t1_abs.2.1
  funext y
  by_cases h : (y 0).val = k.val
  · have hrow : theRow y = k := Fin.ext h
    rw [if_pos (by omega), hrow]
    refine (View.read_writes_cons_unit_of_mem v f (k0_off1_inb k) (k0_pay16 (R k)) [] y
      (Fin.cons (⟨0, Nat.one_pos⟩ : Fin 1) (inRow y)) (k0_off1_eq k) ?_).trans ?_
    · intro a
      match a with
      | ⟨0, _⟩ => exact h
      | ⟨1, _⟩ => exact (Nat.zero_add _).symm
      | ⟨2, _⟩ => exact (Nat.zero_add _).symm
    · exact shapeCast_addUnit_apply ![8, 1024] (R k) shapeCasts_S8x1024_S1x8x1024 _
  · rw [View.read_writes_cons_unit_of_not_mem v f (k0_off1_inb k) (k0_pay16 (R k)) [] y (k0_off1_eq k) 0
      (by show (y 0).val < k.val ∨ k.val + 1 ≤ (y 0).val; omega)]
    show v.read (Elt F) f y = _
    rw [hf]
    show (if _ then _ else _) = (if _ then _ else _)
    by_cases h' : (y 0).val < k.val
    · rw [if_pos h', if_pos (by omega)]
    · rw [if_neg h', if_neg (by omega)]

/-- A row not yet brought up to date reads as it was. -/
theorem slab_of_lt (R : Fin k0_t1_loop.trips → FVec F S8x1024 .f32) (X : Vec F S256x8x1024 .f32) (k : Fin k0_t1_loop.trips) :
    slab (fun y => if (y 0).val < k.val then R (theRow y) (inRow y) else X y) k = slab X k := by
  funext x
  show (if _ then _ else _) = _
  refine if_neg ?_
  rw [show ((Rect.unit (s := S256x8x1024) (k0_off1 k) S1x8x1024.size (k0_off1_inb k)).emb x 0).val
      = k0_off1 k 0 + 1 * (x 0).val from rfl, k0_off1_eq]
  show ¬ k.val + _ < k.val
  omega

section Stores
variable (i : grid0.Coords) (n : BitVec 32) (v : IVec S8x1024 32) (L W : Vec F S8x1024 .f32) (S V : Vec F S256x8x1024 .f32)
  (k : Fin k0_t1_loop.trips) {sig : RefSig} {κ : Kind} {sp : Space} (v5 v6 : View sig κ sp S256x8x1024 .f32)
  (f5 : v5.ty.Contents (Elt F)) (f6 : v6.ty.Contents (Elt F))
  (h5 : v5.read (Elt F) f5 = nextS i n v L W S V k.val) (h6 : v6.read (Elt F) f6 = nextW i n v L W S V k.val)
include h5 h6

/-- The winners the trip starts from are the row's at entry of the loop. -/
theorem start_eq : inner i n v k L W
      (k0_pay10 (v5.readAt (Elt F) (Rect.unit (s := S256x8x1024) (k0_off1 k) S1x8x1024.size (k0_off1_inb k)).toLoadRect f5),
        k0_pay11 (v6.readAt (Elt F) (Rect.unit (s := S256x8x1024) (k0_off1 k) S1x8x1024.size (k0_off1_inb k)).toLoadRect f6))
      k0_t2_loop.trips = rowEnd i n v L W S V k := by
  have e5 : v5.readAt (Elt F) (Rect.unit (s := S256x8x1024) (k0_off1 k) S1x8x1024.size (k0_off1_inb k)).toLoadRect f5 = slab S k :=
    (show _ = slab (v5.read (Elt F) f5) k from rfl).trans ((congrArg (slab · k) h5).trans (slab_of_lt (fun a => (rowEnd i n v L W S V a).1) S k))
  have e6 : v6.readAt (Elt F) (Rect.unit (s := S256x8x1024) (k0_off1 k) S1x8x1024.size (k0_off1_inb k)).toLoadRect f6 = slab V k :=
    (show _ = slab (v6.read (Elt F) f6) k from rfl).trans ((congrArg (slab · k) h6).trans (slab_of_lt (fun a => (rowEnd i n v L W S V a).2) V k))
  rw [e5, e6]; rfl

/-- The store of a row's scores brings one more row of the running scores up to date. -/
theorem store5_eq : v5.read (Elt F) (v5.writes (Elt F) f5
      [⟨Rect.unit (s := S256x8x1024) (k0_off1 k) S1x8x1024.size (k0_off1_inb k), k0_pay16 (inner i n v k L W
        (k0_pay10 (v5.readAt (Elt F) (Rect.unit (s := S256x8x1024) (k0_off1 k) S1x8x1024.size (k0_off1_inb k)).toLoadRect f5),
          k0_pay11 (v6.readAt (Elt F) (Rect.unit (s := S256x8x1024) (k0_off1 k) S1x8x1024.size (k0_off1_inb k)).toLoadRect f6))
        k0_t2_loop.trips).1⟩]) = nextS i n v L W S V (k.val + 1) := by
  rw [start_eq i n v L W S V k v5 v6 f5 f6 h5 h6]
  exact next_succ (fun a => (rowEnd i n v L W S V a).1) S v5 f5 k h5

/-- The store of a row's weights brings one more row of the running weights up to date. -/
theorem store6_eq : v6.read (Elt F) (v6.writes (Elt F) f6
      [⟨Rect.unit (s := S256x8x1024) (k0_off1 k) S1x8x1024.size (k0_off1_inb k), k0_pay17 (inner i n v k L W
        (k0_pay10 (v5.readAt (Elt F) (Rect.unit (s := S256x8x1024) (k0_off1 k) S1x8x1024.size (k0_off1_inb k)).toLoadRect f5),
          k0_pay11 (v6.readAt (Elt F) (Rect.unit (s := S256x8x1024) (k0_off1 k) S1x8x1024.size (k0_off1_inb k)).toLoadRect f6))
        k0_t2_loop.trips).2⟩]) = nextW i n v L W S V (k.val + 1) := by
  rw [start_eq i n v L W S V k v5 v6 f5 f6 h5 h6]
  exact next_succ (fun a => (rowEnd i n v L W S V a).2) V v6 f6 k h6
end Stores

/-- Before the first row nothing has changed. -/
theorem nextS_zero (i : grid0.Coords) (n : BitVec 32) (v : IVec S8x1024 32) (L W : Vec F S8x1024 .f32) (S V : Vec F S256x8x1024 .f32) :
    nextS i n v L W S V 0 = S := rfl

/-- Before the first row nothing has changed. -/
theorem nextW_zero (i : grid0.Coords) (n : BitVec 32) (v : IVec S8x1024 32) (L W : Vec F S8x1024 .f32) (S V : Vec F S256x8x1024 .f32) :
    nextW i n v L W S V 0 = V := rfl

end Cert.Proof.KernelIdeal
end
-- ==== Proof.Loops.lean ====
module

public import proofs.«01_k».proof.Proof.Step

@[expose] public section

set_option maxRecDepth 8192

noncomputable section

/-! The three counted loops of the kernel, each by what its buffers hold before a trip. -/

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The tile's weights and scores, which the loop over tile rows reads. -/
abbrev HeldTile (c : Dev nD) (arg7 : Memref sig .tc .vmem S8x1024 .f32) (arg8 : Memref sig .tc .vmem S8x1024 .f32) (X7 : BufTy.Contents (Elt F) arg7.view.ty) (X8 : BufTy.Contents (Elt F) arg8.view.ty) : sProp 𝕄G :=
  iprop((arg7.view.loc (c : Thread nD τ) ↦[arg7.view.set]{fullShare} X7) ∗ (arg8.view.loc (c : Thread nD τ) ↦[arg8.view.set]{fullShare} X8))

/-- The running scores and weights, which the closing loop reads. -/
abbrev HeldRuns (c : Dev nD) (arg5 : Memref sig .tc .vmem S256x8x1024 .f32) (arg6 : Memref sig .tc .vmem S256x8x1024 .f32) (X5 : BufTy.Contents (Elt F) arg5.view.ty) (X6 : BufTy.Contents (Elt F) arg6.view.ty) : sProp 𝕄G :=
  iprop((arg5.view.loc (c : Thread nD τ) ↦[arg5.view.set]{fullShare} X5) ∗ (arg6.view.loc (c : Thread nD τ) ↦[arg6.view.set]{fullShare} X6))

variable (c : Dev nD) (E : Set ℕ) (i : grid0.Coords) (arg2 : Memref sig .tc .vmem S1x8x1024 .f32) (harg2 : arg2.IsWhole) (arg3 : Memref sig .tc .vmem S1x8x1024 .i32) (harg3 : arg3.IsWhole) (arg4 : Memref sig .tc .vmem S1x1x128 .f32) (harg4 : arg4.IsWhole) (arg5 : Memref sig .tc .vmem S256x8x1024 .f32) (harg5 : arg5.IsWhole) (arg6 : Memref sig .tc .vmem S256x8x1024 .f32) (harg6 : arg6.IsWhole) (arg7 : Memref sig .tc .vmem S8x1024 .f32) (harg7 : arg7.IsWhole) (arg8 : Memref sig .tc .vmem S8x1024 .f32) (harg8 : arg8.IsWhole)

/-- One tile row compared in. -/
theorem trip2_wp (arg1 : BitVec 32) (v21 : IVec S8x1024 32) (a : Fin k0_t1_loop.trips) (X7 : BufTy.Contents (Elt F) arg7.view.ty) (X8 : BufTy.Contents (Elt F) arg8.view.ty) (k : Fin k0_t2_loop.trips) (acc : FVec F S8x1024 .f32 × FVec F S8x1024 .f32) :
    HeldTile (F := F) c arg7 arg8 X7 X8
      ⊢ wp frame (wpE (defs₀ (F := F)) Variants.none (c : Thread nD τ) none) E (k0_t2_body (F := F) i arg2 harg2 arg3 harg3 arg4 harg4 arg5 harg5 arg6 harg6 arg7 harg7 arg8 harg8 arg1 v21 a k acc)
          (fun yld => iprop(⌜yld = trip2 i arg1 v21 a (arg8.view.read (Elt F) X8) (arg7.view.read (Elt F) X7) k acc⌝ ∗ HeldTile (F := F) c arg7 arg8 X7 X8)) := by
  have hk : k.val < 8 := Nat.lt_of_lt_of_le k.isLt k0_t2_abs.2.1
  unfold k0_t2_body
  iintro ⟨HR_arg7, HR_arg8⟩
  sl_exec
  sl_step
  isplitr
  · ipureintro; rfl
  · isplitl [HR_arg7]; · iexact HR_arg7
    iexact HR_arg8

set_option warn.classDefReducibility false in
/-- The loop over the eight tile rows: the carried winners before row `k`. -/
@[sl_loop] def loopInv_t2 (arg1 : BitVec 32) (v21 : IVec S8x1024 32) (a : Fin k0_t1_loop.trips) (X7 : BufTy.Contents (Elt F) arg7.view.ty) (X8 : BufTy.Contents (Elt F) arg8.view.ty) (init : FVec F S8x1024 .f32 × FVec F S8x1024 .f32) :
    LoopInvTy_k0_t2 (F := F) Unit ℕ (UR sig nD τ) ℕ Variants.none c none E i arg2 harg2 arg3 harg3 arg4 harg4 arg5 harg5 arg6 harg6 arg7 harg7 arg8 harg8 arg1 v21 a init where
  inv := fun k acc => iprop((arg7.view.loc (c : Thread nD τ) ↦[arg7.view.set]{fullShare} X7) ∗ (arg8.view.loc (c : Thread nD τ) ↦[arg8.view.set]{fullShare} X8)
    ∗ ⌜acc = inner i arg1 v21 a (arg8.view.read (Elt F) X8) (arg7.view.read (Elt F) X7) init k⌝)
  step k acc := by
    iintro ⟨HR_arg7, HR_arg8, %h_acc⟩
    subst h_acc
    iapply (wp_wand_r Idealize.ShloMosaic.frame (wpE (defs₀ (F := F)) Variants.none (c : Thread nD τ) none) E)
    isplitl [HR_arg7 HR_arg8]
    · iapply (trip2_wp (F := F) c E i arg2 harg2 arg3 harg3 arg4 harg4 arg5 harg5 arg6 harg6 arg7 harg7 arg8 harg8 arg1 v21 a X7 X8 k)
      isplitl [HR_arg7]; · iexact HR_arg7
      iexact HR_arg8
    · iintro %yld ⟨%h_res, HR_arg7, HR_arg8⟩
      isplitl [HR_arg7]; · iexact HR_arg7
      isplitl [HR_arg8]; · iexact HR_arg8
      ipureintro; rw [inner_succ, h_res]

set_option warn.classDefReducibility false in
/-- The loop over the rows of the running arrays: those before row `k` are up to date with the tile. -/
@[sl_loop] def loopInv_t1 (arg1 : BitVec 32) (v21 : IVec S8x1024 32) (X7 : BufTy.Contents (Elt F) arg7.view.ty) (X8 : BufTy.Contents (Elt F) arg8.view.ty) (S V : Vec F S256x8x1024 .f32) :
    LoopInvTy_k0_t1 (F := F) Unit ℕ (UR sig nD τ) ℕ Variants.none c none E i arg2 harg2 arg3 harg3 arg4 harg4 arg5 harg5 arg6 harg6 arg7 harg7 arg8 harg8 arg1 v21 where
  inv := fun k _ => iprop(
    (∃ f, (arg5.view.loc (c : Thread nD τ) ↦[arg5.view.set]{fullShare} f) ∗ ⌜arg5.view.read (Elt F) f = nextS i arg1 v21 (arg8.view.read (Elt F) X8) (arg7.view.read (Elt F) X7) S V k⌝)
    ∗ (∃ f, (arg6.view.loc (c : Thread nD τ) ↦[arg6.view.set]{fullShare} f) ∗ ⌜arg6.view.read (Elt F) f = nextW i arg1 v21 (arg8.view.read (Elt F) X8) (arg7.view.read (Elt F) X7) S V k⌝)
    ∗ (arg7.view.loc (c : Thread nD τ) ↦[arg7.view.set]{fullShare} X7) ∗ (arg8.view.loc (c : Thread nD τ) ↦[arg8.view.set]{fullShare} X8))
  step k acc := by
    have hk : k.val < 256 := Nat.lt_of_lt_of_le k.isLt k0_t1_abs.2.1
    unfold k0_t1_body
    iintro ⟨⟨%f5, H5, %h5⟩, ⟨%f6, H6, %h6⟩, H7, H8⟩
    sl_exec
    sl_step
    isplitl [H5]
    · iexists _
      isplitl [H5]; · iexact H5
      ipureintro
      exact (store5_eq i arg1 v21 _ _ S V k arg5.view arg6.view f5 f6 h5 h6)
    isplitl [H6]
    · iexists _
      isplitl [H6]; · iexact H6
      ipureintro
      exact (store6_eq i arg1 v21 _ _ S V k arg5.view arg6.view f5 f6 h5 h6)
    isplitl [H7]; · iexact H7
    iexact H8

/-- One row of winners reduced and added to the loss. -/
theorem trip3_wp (h : k0_cond2 i = 1#1) (X5 : BufTy.Contents (Elt F) arg5.view.ty) (X6 : BufTy.Contents (Elt F) arg6.view.ty) (k : Fin k0_t3_loop.trips) (acc : F .f32) :
    HeldRuns (F := F) c arg5 arg6 X5 X6
      ⊢ wp frame (wpE (defs₀ (F := F)) Variants.none (c : Thread nD τ) none) E (k0_t3_body (F := F) i arg2 harg2 arg3 harg3 arg4 harg4 arg5 harg5 arg6 harg6 arg7 harg7 arg8 harg8 h k acc)
          (fun yld => iprop(⌜yld = k0_pay18 acc (slab3 i h (arg5.view.read (Elt F) X5) k) (slab3 i h (arg6.view.read (Elt F) X6) k)⌝ ∗ HeldRuns (F := F) c arg5 arg6 X5 X6)) := by
  have hk : k.val < 256 := Nat.lt_of_lt_of_le k.isLt k0_t3_abs.2.1
  unfold k0_t3_body
  iintro ⟨H5, H6⟩
  sl_exec
  sl_step
  isplitr
  · ipureintro; rfl
  · isplitl [H5]; · iexact H5
    iexact H6

set_option warn.classDefReducibility false in
/-- The closing loop: the loss carried before row `k`. -/
@[sl_loop] def loopInv_t3 (h : k0_cond2 i = 1#1) (X5 : BufTy.Contents (Elt F) arg5.view.ty) (X6 : BufTy.Contents (Elt F) arg6.view.ty) (init : F .f32) :
    LoopInvTy_k0_t3 (F := F) Unit ℕ (UR sig nD τ) ℕ Variants.none c none E i arg2 harg2 arg3 harg3 arg4 harg4 arg5 harg5 arg6 harg6 arg7 harg7 arg8 harg8 h init where
  inv := fun k acc => iprop((arg5.view.loc (c : Thread nD τ) ↦[arg5.view.set]{fullShare} X5) ∗ (arg6.view.loc (c : Thread nD τ) ↦[arg6.view.set]{fullShare} X6)
    ∗ ⌜acc = lossUpTo i h (arg5.view.read (Elt F) X5) (arg6.view.read (Elt F) X6) init k⌝)
  step k acc := by
    iintro ⟨H5, H6, %h_acc⟩
    subst h_acc
    iapply (wp_wand_r Idealize.ShloMosaic.frame (wpE (defs₀ (F := F)) Variants.none (c : Thread nD τ) none) E)
    isplitl [H5 H6]
    · iapply (trip3_wp (F := F) c E i arg2 harg2 arg3 harg3 arg4 harg4 arg5 harg5 arg6 harg6 arg7 harg7 arg8 harg8 h X5 X6 k)
      isplitl [H5]; · iexact H5
      iexact H6
    · iintro %yld ⟨%h_res, H5, H6⟩
      isplitl [H5]; · iexact H5
      isplitl [H6]; · iexact H6
      ipureintro; rw [lossUpTo_succ, h_res]

end Cert.Proof.KernelIdeal
end
-- ==== Proof.Body.lean ====
module

public import proofs.«01_k».proof.Proof.Loops
public import proofs.«01_k».proof.Proof.Gen.KernelIdeal.Frame
public import proofs.«01_k».proof.Proof.Gen.KernelIdeal.Points
public import Idealize.ShloMosaic.Lib.VecWindow

@[expose] public section

set_option maxRecDepth 8192

noncomputable section

/-! The kernel's body at one grid point: what it leaves in the running arrays and in the output block. -/

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The lane numbers of a tile. -/
abbrev lanes : IVec S8x1024 32 := iota .tc S8x1024 32 [1] iota_S8x1024_d1_w32

/-- The running scores after the point's block of probabilities `x` and targets `y`. -/
def upS (i : grid0.Coords) (x : Vec F S1x8x1024 .f32) (y : Vec F S1x8x1024 .i32) (S V : Vec F S256x8x1024 .f32) : Vec F S256x8x1024 .f32 :=
  nextS i (BitVec.ofNat 32 (i 1).val) lanes (k0_pay3 x y) (k0_pay2 x y) S V 256

/-- The running weights after the point's block of probabilities `x` and targets `y`. -/
def upW (i : grid0.Coords) (x : Vec F S1x8x1024 .f32) (y : Vec F S1x8x1024 .i32) (S V : Vec F S256x8x1024 .f32) : Vec F S256x8x1024 .f32 :=
  nextW i (BitVec.ofNat 32 (i 1).val) lanes (k0_pay3 x y) (k0_pay2 x y) S V 256

variable (c : Dev nD) (E : Set ℕ) (i : grid0.Coords) (arg2 : Memref sig .tc .vmem S1x8x1024 .f32) (harg2 : arg2.IsWhole) (arg3 : Memref sig .tc .vmem S1x8x1024 .i32) (harg3 : arg3.IsWhole) (arg4 : Memref sig .tc .vmem S1x1x128 .f32) (harg4 : arg4.IsWhole) (arg5 : Memref sig .tc .vmem S256x8x1024 .f32) (harg5 : arg5.IsWhole) (arg6 : Memref sig .tc .vmem S256x8x1024 .f32) (harg6 : arg6.IsWhole) (arg7 : Memref sig .tc .vmem S8x1024 .f32) (harg7 : arg7.IsWhole) (arg8 : Memref sig .tc .vmem S8x1024 .f32) (harg8 : arg8.IsWhole)

/-- The condition under which the body starts a row block afresh. -/
abbrev isFirst (i : grid0.Coords) : Prop := (Scalar.cmpi .ne (Scalar.extui (Scalar.cmpi .eq (BitVec.ofNat 32 (i 1).val) 0#32)) 0#32) = 1#1

/-- The output block of a row block: the loss of its draws in every lane. -/
def blockLoss (i : grid0.Coords) (h : k0_cond2 i = 1#1) (S V : Vec F S256x8x1024 .f32) : Vec F S1x1x128 .f32 :=
  k0_pay19 (lossUpTo i h S V (Scalar.ofBits .f32 0x00000000#32) 256)

set_option maxHeartbeats 1000000 in
/-- The body at a point that is neither the first nor the last of its row block. -/
theorem body_mid (h1 : ¬ isFirst i) (h2 : ¬ k0_cond2 i = 1#1) (x : Vec F S1x8x1024 .f32) (y : Vec F S1x8x1024 .i32) (z : Vec F S1x1x128 .f32) (S V : Vec F S256x8x1024 .f32) (K : PUnit → sProp 𝕄) :
    iprop(owns (c : Thread nD τ) arg2 fullShare x ∗ owns (c : Thread nD τ) arg3 fullShare y ∗ owns (c : Thread nD τ) arg4 fullShare z
        ∗ owns (c : Thread nD τ) arg5 fullShare S ∗ owns (c : Thread nD τ) arg6 fullShare V
        ∗ (∃ d, owns (c : Thread nD τ) arg7 fullShare d) ∗ (∃ d, owns (c : Thread nD τ) arg8 fullShare d)
        ∗ (iprop(owns (c : Thread nD τ) arg2 fullShare x ∗ owns (c : Thread nD τ) arg3 fullShare y ∗ owns (c : Thread nD τ) arg4 fullShare z
            ∗ owns (c : Thread nD τ) arg5 fullShare (upS i x y S V) ∗ owns (c : Thread nD τ) arg6 fullShare (upW i x y S V)
            ∗ (∃ d, owns (c : Thread nD τ) arg7 fullShare d) ∗ (∃ d, owns (c : Thread nD τ) arg8 fullShare d)) -∗ K ⟨⟩))
      ⊢ wp frame (wpE (defs₀ (F := F)) Variants.none c none) E (cc0__body i arg2 harg2 arg3 harg3 arg4 harg4 arg5 harg5 arg6 harg6 arg7 harg7 arg8 harg8) K := by
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  sl_exec (disch := first | sl_exact h1 | sl_exact h2)
  sl_step
  subst hf2 hf3 hf5 hf6
  have e8 : arg8.view.read (Elt F) (arg8.view.writes (Elt F) arg8.view.junk (body_mid.sl.H8_1 c arg2 arg3 f2 f3))
      = k0_pay3 (arg2.view.read (Elt F) f2) (arg3.view.read (Elt F) f3) :=
    (View.read_writes_full arg8.view _ _ _ []).trans (congrArg₂ k0_pay3 (View.readAt_full arg2.view f2 _) (View.readAt_full arg3.view f3 _))
  have e7 : arg7.view.read (Elt F) (arg7.view.writes (Elt F) arg7.view.junk (body_mid.sl.H7_1 c arg2 arg3 f2 f3))
      = k0_pay2 (arg2.view.read (Elt F) f2) (arg3.view.read (Elt F) f3) :=
    (View.read_writes_full arg7.view _ _ _ []).trans (congrArg₂ k0_pay2 (View.readAt_full arg2.view f2 _) (View.readAt_full arg3.view f3 _))
  rw [e7, e8] at hL1 hL3
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact hf4
  isplitl [H5]
  · iexists _; isplitr; swap; · iexact H5
    ipureintro; exact hL1.trans (by rw [show Scf.trips k0_t1_loop.lb k0_t1_loop.ub k0_t1_loop.st = 256 from trips1]; rfl)
  isplitl [H6]
  · iexists _; isplitr; swap; · iexact H6
    ipureintro; exact hL3.trans (by rw [show Scf.trips k0_t1_loop.lb k0_t1_loop.ub k0_t1_loop.st = 256 from trips1]; rfl)
  isplitl [H7]
  · iexists _, _; isplitr; swap; · iexact H7
    ipureintro; rfl
  iexists _, _; isplitr; swap; · iexact H8
  ipureintro; rfl

end Cert.Proof.KernelIdeal
end
-- ==== Proof.BodyFirst.lean ====
module

public import proofs.«01_k».proof.Proof.Body
public import Idealize.ShloMosaic.Lib.VecWindow

@[expose] public section

set_option maxRecDepth 8192

noncomputable section

/-! The kernel's body at the first grid point of a row block. -/

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords) (arg2 : Memref sig .tc .vmem S1x8x1024 .f32) (harg2 : arg2.IsWhole) (arg3 : Memref sig .tc .vmem S1x8x1024 .i32) (harg3 : arg3.IsWhole) (arg4 : Memref sig .tc .vmem S1x1x128 .f32) (harg4 : arg4.IsWhole) (arg5 : Memref sig .tc .vmem S256x8x1024 .f32) (harg5 : arg5.IsWhole) (arg6 : Memref sig .tc .vmem S256x8x1024 .f32) (harg6 : arg6.IsWhole) (arg7 : Memref sig .tc .vmem S8x1024 .f32) (harg7 : arg7.IsWhole) (arg8 : Memref sig .tc .vmem S8x1024 .f32) (harg8 : arg8.IsWhole)

set_option maxHeartbeats 1000000 in
/-- The body at the first point of a row block: the running arrays start at no winner. -/
theorem body_first (h1 : isFirst i) (h2 : ¬ k0_cond2 i = 1#1) (x : Vec F S1x8x1024 .f32) (y : Vec F S1x8x1024 .i32) (z : Vec F S1x1x128 .f32) (K : PUnit → sProp 𝕄) :
    iprop(owns (c : Thread nD τ) arg2 fullShare x ∗ owns (c : Thread nD τ) arg3 fullShare y ∗ owns (c : Thread nD τ) arg4 fullShare z
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x ∗ owns (c : Thread nD τ) arg3 fullShare y ∗ owns (c : Thread nD τ) arg4 fullShare z
            ∗ owns (c : Thread nD τ) arg5 fullShare (upS i x y k0_pay4 k0_pay5) ∗ owns (c : Thread nD τ) arg6 fullShare (upW i x y k0_pay4 k0_pay5)
            ∗ (∃ d, owns (c : Thread nD τ) arg7 fullShare d) ∗ (∃ d, owns (c : Thread nD τ) arg8 fullShare d)) -∗ K ⟨⟩))
      ⊢ wp frame (wpE (defs₀ (F := F)) Variants.none c none) E (cc0__body i arg2 harg2 arg3 harg3 arg4 harg4 arg5 harg5 arg6 harg6 arg7 harg7 arg8 harg8) K := by
  simp only [cc0__body_eq_skeleton]; unfold cc0__body_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  sl_exec (disch := first | sl_exact h1 | sl_exact h2)
  sl_step
  subst hf2 hf3
  have e8 : arg8.view.read (Elt F) (arg8.view.writes (Elt F) arg8.view.junk (body_first.sl.H8_1 c arg2 arg3 f2 f3))
      = k0_pay3 (arg2.view.read (Elt F) f2) (arg3.view.read (Elt F) f3) :=
    (View.read_writes_full arg8.view _ _ _ []).trans (congrArg₂ k0_pay3 (View.readAt_full arg2.view f2 _) (View.readAt_full arg3.view f3 _))
  have e7 : arg7.view.read (Elt F) (arg7.view.writes (Elt F) arg7.view.junk (body_first.sl.H7_1 c arg2 arg3 f2 f3))
      = k0_pay2 (arg2.view.read (Elt F) f2) (arg3.view.read (Elt F) f3) :=
    (View.read_writes_full arg7.view _ _ _ []).trans (congrArg₂ k0_pay2 (View.readAt_full arg2.view f2 _) (View.readAt_full arg3.view f3 _))
  rw [e7, e8] at hL1 hL3
  have e5 : arg5.view.read (Elt F) (arg5.view.writes (Elt F) arg5.view.junk body_first.sl.H5_1) = k0_pay4 := View.read_writes_full arg5.view _ _ _ []
  have e6 : arg6.view.read (Elt F) (arg6.view.writes (Elt F) arg6.view.junk body_first.sl.H6_1) = k0_pay5 := View.read_writes_full arg6.view _ _ _ []
  have E5 := hL1.trans (congrArg₂ (fun S V => nextS i (BitVec.ofNat 32 (i 1).val) lanes (k0_pay3 (arg2.view.read (Elt F) f2) (arg3.view.read (Elt F) f3))
    (k0_pay2 (arg2.view.read (Elt F) f2) (arg3.view.read (Elt F) f3)) S V (Scf.trips k0_t1_loop.lb k0_t1_loop.ub k0_t1_loop.st)) e5 e6)
  have E6 := hL3.trans (congrArg₂ (fun S V => nextW i (BitVec.ofNat 32 (i 1).val) lanes (k0_pay3 (arg2.view.read (Elt F) f2) (arg3.view.read (Elt F) f3))
    (k0_pay2 (arg2.view.read (Elt F) f2) (arg3.view.read (Elt F) f3)) S V (Scf.trips k0_t1_loop.lb k0_t1_loop.ub k0_t1_loop.st)) e5 e6)
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact hf4
  isplitl [H5]
  · iexists _; isplitr; swap; · iexact H5
    ipureintro; exact E5.trans (by rw [show Scf.trips k0_t1_loop.lb k0_t1_loop.ub k0_t1_loop.st = 256 from trips1]; rfl)
  isplitl [H6]
  · iexists _; isplitr; swap; · iexact H6
    ipureintro; exact E6.trans (by rw [show Scf.trips k0_t1_loop.lb k0_t1_loop.ub k0_t1_loop.st = 256 from trips1]; rfl)
  isplitl [H7]
  · iexists _, _; isplitr; swap; · iexact H7
    ipureintro; rfl
  iexists _, _; isplitr; swap; · iexact H8
  ipureintro; rfl

end Cert.Proof.KernelIdeal
end
-- ==== Proof.BodyLast.lean ====
module

public import proofs.«01_k».proof.Proof.Body
public import Idealize.ShloMosaic.Lib.VecWindow

@[expose] public section

set_option maxRecDepth 8192

noncomputable section

/-! The kernel's body at the last grid point of a row block. -/

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords) (arg2 : Memref sig .tc .vmem S1x8x1024 .f32) (harg2 : arg2.IsWhole) (arg3 : Memref sig .tc .vmem S1x8x1024 .i32) (harg3 : arg3.IsWhole) (arg4 : Memref sig .tc .vmem S1x1x128 .f32) (harg4 : arg4.IsWhole) (arg5 : Memref sig .tc .vmem S256x8x1024 .f32) (harg5 : arg5.IsWhole) (arg6 : Memref sig .tc .vmem S256x8x1024 .f32) (harg6 : arg6.IsWhole) (arg7 : Memref sig .tc .vmem S8x1024 .f32) (harg7 : arg7.IsWhole) (arg8 : Memref sig .tc .vmem S8x1024 .f32) (harg8 : arg8.IsWhole)

set_option maxHeartbeats 1000000 in
/-- The body at the last point of a row block: the output block takes the loss summed over the draws. -/
theorem body_last (h1 : ¬ isFirst i) (h2 : k0_cond2 i = 1#1) (x : Vec F S1x8x1024 .f32) (y : Vec F S1x8x1024 .i32) (S V : Vec F S256x8x1024 .f32) (K : PUnit → sProp 𝕄) :
    iprop(owns (c : Thread nD τ) arg2 fullShare x ∗ owns (c : Thread nD τ) arg3 fullShare y ∗ (∃ d, owns (c : Thread nD τ) arg4 fullShare d)
        ∗ owns (c : Thread nD τ) arg5 fullShare S ∗ owns (c : Thread nD τ) arg6 fullShare V
        ∗ (∃ d, owns (c : Thread nD τ) arg7 fullShare d) ∗ (∃ d, owns (c : Thread nD τ) arg8 fullShare d)
        ∗ (iprop(owns (c : Thread nD τ) arg2 fullShare x ∗ owns (c : Thread nD τ) arg3 fullShare y ∗ owns (c : Thread nD τ) arg4 fullShare (blockLoss i h2 (upS i x y S V) (upW i x y S V))
            ∗ owns (c : Thread nD τ) arg5 fullShare (upS i x y S V) ∗ owns (c : Thread nD τ) arg6 fullShare (upW i x y S V)
            ∗ (∃ d, owns (c : Thread nD τ) arg7 fullShare d) ∗ (∃ d, owns (c : Thread nD τ) arg8 fullShare d)) -∗ K ⟨⟩))
      ⊢ wp frame (wpE (defs₀ (F := F)) Variants.none c none) E (cc0__body i arg2 harg2 arg3 harg3 arg4 harg4 arg5 harg5 arg6 harg6 arg7 harg7 arg8 harg8) K := by
  simp only [cc0__body_eq_skeleton]; unfold cc0__body_skel
  unfold owns
  iintro ⟨⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  sl_exec (disch := first | sl_exact h1 | sl_exact h2)
  sl_step
  subst hf2 hf3 hf5 hf6
  have e8 : arg8.view.read (Elt F) (arg8.view.writes (Elt F) arg8.view.junk (body_last.sl.H8_1 c arg2 arg3 f2 f3))
      = k0_pay3 (arg2.view.read (Elt F) f2) (arg3.view.read (Elt F) f3) :=
    (View.read_writes_full arg8.view _ _ _ []).trans (congrArg₂ k0_pay3 (View.readAt_full arg2.view f2 _) (View.readAt_full arg3.view f3 _))
  have e7 : arg7.view.read (Elt F) (arg7.view.writes (Elt F) arg7.view.junk (body_last.sl.H7_1 c arg2 arg3 f2 f3))
      = k0_pay2 (arg2.view.read (Elt F) f2) (arg3.view.read (Elt F) f3) :=
    (View.read_writes_full arg7.view _ _ _ []).trans (congrArg₂ k0_pay2 (View.readAt_full arg2.view f2 _) (View.readAt_full arg3.view f3 _))
  rw [e7, e8] at hL1 hL3
  have E5 : arg5.view.read (Elt F) fL0 = upS i (arg2.view.read (Elt F) f2) (arg3.view.read (Elt F) f3) (arg5.view.read (Elt F) f5) (arg6.view.read (Elt F) f6) :=
    hL1.trans (by rw [show Scf.trips k0_t1_loop.lb k0_t1_loop.ub k0_t1_loop.st = 256 from trips1]; rfl)
  have E6 : arg6.view.read (Elt F) fL1 = upW i (arg2.view.read (Elt F) f2) (arg3.view.read (Elt F) f3) (arg5.view.read (Elt F) f5) (arg6.view.read (Elt F) f6) :=
    hL3.trans (by rw [show Scf.trips k0_t1_loop.lb k0_t1_loop.ub k0_t1_loop.st = 256 from trips1]; rfl)
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine (View.read_writes_full arg4.view _ _ _ []).trans ?_
    rw [E5, E6, show Scf.trips k0_t3_loop.lb k0_t3_loop.ub k0_t3_loop.st = 256 from trips3]
    rfl
  isplitl [H5]
  · iexists _; isplitr; swap; · iexact H5
    ipureintro; exact E5
  isplitl [H6]
  · iexists _; isplitr; swap; · iexact H6
    ipureintro; exact E6
  isplitl [H7]
  · iexists _, _; isplitr; swap; · iexact H7
    ipureintro; rfl
  iexists _, _; isplitr; swap; · iexact H8
  ipureintro; rfl

end Cert.Proof.KernelIdeal
end
-- ==== Proof.Frame.lean ====
module

public import proofs.«01_k».proof.Proof.Body
public import proofs.«01_k».proof.Proof.BodyFirst
public import proofs.«01_k».proof.Proof.BodyLast
public import Idealize.ShloMosaic.Lib.Claim

@[expose] public section

set_option maxRecDepth 16384

noncomputable section

/-! The kernel's run: what the running arrays and the output hold after each grid point, and that every run ends with them. -/

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row block starts at the points divisible by 2000. -/
theorem isFirst_iff (t : Fin cfg0.N) : isFirst (grid0.coords t) ↔ t.val % 2000 = 0 := by
  have ht : t.val < 4000 := Nat.lt_of_lt_of_eq t.isLt N_0
  have e1 : (grid0.coords t 1).val = t.val / 1 % 2000 := Pipeline.Grid.coords_val t 1 (by decide) rfl
  simp only [isFirst, e1]
  word_cmp

/-- A row block ends at the points that are 1999 modulo 2000. -/
theorem isLast_iff (t : Fin cfg0.N) : k0_cond2 (grid0.coords t) = 1#1 ↔ t.val % 2000 = 1999 := by
  have ht : t.val < 4000 := Nat.lt_of_lt_of_eq t.isLt N_0
  have e1 : (grid0.coords t 1).val = t.val / 1 % 2000 := Pipeline.Grid.coords_val t 1 (by decide) rfl
  simp only [k0_cond2, e1]
  word_cmp

/-- The block of probabilities at point `t`. -/
abbrev probAt (c : Dev nD) (t : Fin cfg0.N) : Vec F S1x8x1024 .f32 := iblk m c 0 t
/-- The block of targets at point `t`. -/
abbrev targAt (c : Dev nD) (t : Fin cfg0.N) : Vec F S1x8x1024 .i32 := iblk m c 1 t

/-- One point's update of the running scores and weights. -/
def pointStep (c : Dev nD) (t : Fin cfg0.N) (p : Vec F S256x8x1024 .f32 × Vec F S256x8x1024 .f32) : Vec F S256x8x1024 .f32 × Vec F S256x8x1024 .f32 :=
  (upS (grid0.coords t) (probAt m c t) (targAt m c t) p.1 p.2, upW (grid0.coords t) (probAt m c t) (targAt m c t) p.1 p.2)

/-- The running scores and weights after point `n`. -/
def runAt (c : Dev nD) : (n : ℕ) → n < cfg0.N → Vec F S256x8x1024 .f32 × Vec F S256x8x1024 .f32
  | 0, hn => pointStep m c ⟨0, hn⟩ (k0_pay4, k0_pay5)
  | n + 1, hn => pointStep m c ⟨n + 1, hn⟩ (if (n + 1) % 2000 = 0 then (k0_pay4, k0_pay5) else runAt c n (Nat.lt_of_succ_lt hn))

/-- At the first point of a row block the arrays start at no winner. -/
theorem runAt_first (c : Dev nD) (t : Fin cfg0.N) (h0 : t.val % 2000 = 0) : runAt m c t.val t.isLt = pointStep m c t (k0_pay4, k0_pay5) := by
  obtain ⟨n, hn⟩ := t
  cases n with
  | zero => rfl
  | succ n => unfold runAt; rw [if_pos h0]

/-- At any other point they continue from the point before. -/
theorem runAt_next (c : Dev nD) (t : Fin cfg0.N) (h0 : ¬ t.val % 2000 = 0) :
    runAt m c t.val t.isLt = pointStep m c t (runAt m c (t.val - 1) (Nat.lt_of_le_of_lt (Nat.sub_le _ _) t.isLt)) := by
  obtain ⟨n, hn⟩ := t
  cases n with
  | zero => exact absurd (Nat.zero_mod _) h0
  | succ n => conv_lhs => unfold runAt
              rw [if_neg h0]; rfl

/-- The output block after point `t`: the row block's loss at its last point. -/
def outAt (c : Dev nD) (t : Fin cfg0.N) : Vec F S1x1x128 .f32 :=
  if h : k0_cond2 (grid0.coords t) = 1#1 then blockLoss (grid0.coords t) h (runAt m c t.val t.isLt).1 (runAt m c t.val t.isLt).2
  else fun _ => Scalar.ofBits .f32 0x00000000#32

abbrev ms0 (t : Fin cfg0.N) : Memref sig .tc .vmem S1x8x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x128 .f32 := win0_2.stage (cfg0.slots t 2)
abbrev hs2 (t : Fin cfg0.N) : (ms2 t).IsWhole := hstage0_2 ((cfg0.slots t 2).cast nbuf0_2)
abbrev sc0 : Memref sig .tc .vmem S256x8x1024 .f32 := Memref.whole cc0_scratch0
abbrev sc1 : Memref sig .tc .vmem S256x8x1024 .f32 := Memref.whole cc0_scratch1
abbrev sc2 : Memref sig .tc .vmem S8x1024 .f32 := Memref.whole cc0_scratch2
abbrev sc3 : Memref sig .tc .vmem S8x1024 .f32 := Memref.whole cc0_scratch3

/-- The launch's scratch buffers as memrefs at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The scratch buffers between two points, the running arrays at `p`. -/
def held (c : Dev nD) (p : Vec F S256x8x1024 .f32 × Vec F S256x8x1024 .f32) : sProp 𝕄 :=
  iprop(iprop(owns (c : Thread nD τ) sc0 fullShare p.1 ∗ owns (c : Thread nD τ) sc1 fullShare p.2
          ∗ (∃ d, owns (c : Thread nD τ) sc2 fullShare d) ∗ (∃ d, owns (c : Thread nD τ) sc3 fullShare d)) ∗ (∃ r, prngReg c r))

/-- The region's invariant before position `n`. -/
def Inv (c : Dev nD) : (n : ℕ) → n ≤ cfg0.N → sProp 𝕄
  | 0, _ => Pipeline.ΦA spec0 c
  | n + 1, hn => held c (runAt m c n hn)

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) : Inv m c (n + 1) hn = held c (runAt m c n hn) := rfl

theorem Inv_pos (c : Dev nD) (n : ℕ) (h : n ≤ cfg0.N) (hz : n ≠ 0) : Inv m c n h = held c (runAt m c (n - 1) (by omega)) := by
  cases n with
  | zero => exact absurd rfl hz
  | succ n => rfl

/-- The pipeline's proof data: the arrays as the region finds them, the inputs' blocks left in place, the output at the row block's loss. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]

/-- Away from a row block's end the output's staging buffer is left as found. -/
theorem leaves2_idle (c : Dev nD) (t : Fin cfg0.N) (h : ¬ t.val % 2000 = 1999) :
    (dats m 0 c).leavesExact 2 t = iprop(∃ d, owns (c : Thread nD τ) (ms2 t) fullShare ((dats m 0 c).before 2 t d)) :=
  (dats m 0 c).leavesExact_idle 2 t
    (by
      have h2 : ¬ k0_cond2 (grid0.coords t) = 1#1 := fun e => h ((isLast_iff t).mp e)
      show (!(k0_cond2 (grid0.coords t) == 1#1)) = true
      rw [Bool.not_eq_true', beq_eq_false_iff_ne]; exact h2)
    (by rw [Bool.eq_false_iff]; exact fun e => h ((flush0_2 t).mp e))

/-- At a row block's end it holds the row block's loss. -/
theorem leaves2_last (c : Dev nD) (t : Fin cfg0.N) (h : k0_cond2 (grid0.coords t) = 1#1) :
    (dats m 0 c).leavesExact 2 t = owns (c : Thread nD τ) (ms2 t) fullShare (blockLoss (grid0.coords t) h (runAt m c t.val t.isLt).1 (runAt m c t.val t.isLt).2) := by
  unfold Dat.leavesExact
  rw [show cfg0.idle 2 (grid0.coords t) = false from by
    show (!(k0_cond2 (grid0.coords t) == 1#1)) = false
    rw [h]; rfl, after2]
  unfold outAt
  rw [dif_pos h]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = Inv m c (t.val + 1) t.isLt from rfl, Inv_succ, leaves0, leaves1]
  by_cases h0 : t.val % 2000 = 0
  · have h1 : ¬ t.val % 2000 = 1999 := by omega
    rw [leaves2_idle m c t h1, runAt_first m c t h0]
    have key : (dats m 0 c).Φ t.castSucc ⊢ Pipeline.ΦA spec0 c := by
      rw [Inv_castSucc]
      by_cases hz : t.val = 0
      · rw [Inv_zero m c _ _ hz]
      · rw [Inv_pos m c _ _ hz, PhiA_eq]
        unfold held
        iintro ⟨⟨HS0, HS1, HS2, HS3⟩, Hg⟩
        isplitl [HS0 HS1 HS2 HS3]
        · isplitl [HS0]; · iexists _; iexact HS0
          isplitl [HS1]; · iexists _; iexact HS1
          isplitl [HS2]; · iexact HS2
          iexact HS3
        iexact Hg
    refine (sep_mono_left key).trans ?_
    rw [PhiA_eq]
    unfold held pointStep
    iintro ⟨⟨⟨HS0, HS1, HS2, HS3⟩, Hg⟩, Ho, ⟨%d0, H0⟩, ⟨%d1, H1⟩, ⟨%d2, H2⟩⟩
    iapply (body_first c Set.univ (grid0.coords t) (ms0 t) (hs0 t) (ms1 t) (hs1 t) (ms2 t) (hs2 t) sc0 (Memref.isWhole_whole _) sc1 (Memref.isWhole_whole _)
      sc2 (Memref.isWhole_whole _) sc3 (Memref.isWhole_whole _) ((isFirst_iff t).mpr h0) (fun h => h1 ((isLast_iff t).mp h)) (iblk m c 0 t) (iblk m c 1 t))
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    iintro ⟨H0, H1, H2, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    iexists _; iexact H2
  · have hz : t.val ≠ 0 := fun e => h0 (by rw [e])
    rw [Inv_castSucc, Inv_pos m c _ _ hz]
    by_cases h1 : t.val % 2000 = 1999
    · rw [leaves2_last m c t ((isLast_iff t).mpr h1), runAt_next m c t h0]
      unfold held pointStep
      iintro ⟨⟨⟨HS0, HS1, HS2, HS3⟩, Hg⟩, Ho, ⟨%d0, H0⟩, ⟨%d1, H1⟩, ⟨%d2, H2⟩⟩
      iapply (body_last c Set.univ (grid0.coords t) (ms0 t) (hs0 t) (ms1 t) (hs1 t) (ms2 t) (hs2 t) sc0 (Memref.isWhole_whole _) sc1 (Memref.isWhole_whole _)
        sc2 (Memref.isWhole_whole _) sc3 (Memref.isWhole_whole _) (fun h => h0 ((isFirst_iff t).mp h)) ((isLast_iff t).mpr h1) (iblk m c 0 t) (iblk m c 1 t))
      isplitl [H0]; · iexact H0
      isplitl [H1]; · iexact H1
      isplitl [H2]; · iexists _; iexact H2
      isplitl [HS0]; · iexact HS0
      isplitl [HS1]; · iexact HS1
      isplitl [HS2]; · iexact HS2
      isplitl [HS3]; · iexact HS3
      iintro ⟨H0, H1, H2, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      iexact H2
    · rw [leaves2_idle m c t h1, runAt_next m c t h0]
      unfold held pointStep
      iintro ⟨⟨⟨HS0, HS1, HS2, HS3⟩, Hg⟩, Ho, ⟨%d0, H0⟩, ⟨%d1, H1⟩, ⟨%d2, H2⟩⟩
      iapply (body_mid c Set.univ (grid0.coords t) (ms0 t) (hs0 t) (ms1 t) (hs1 t) (ms2 t) (hs2 t) sc0 (Memref.isWhole_whole _) sc1 (Memref.isWhole_whole _)
        sc2 (Memref.isWhole_whole _) sc3 (Memref.isWhole_whole _) (fun h => h0 ((isFirst_iff t).mp h)) (fun h => h1 ((isLast_iff t).mp h)) (iblk m c 0 t) (iblk m c 1 t))
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iintro ⟨H0, H1, H2, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      iexists _; iexact H2

/-- The body table's row at point `t`'s slots is the body called on the point's staging buffers. -/
theorem row_eq (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- What the launch hands the region is the invariant before the first point. -/
theorem inv_in (c : Dev nD) : Pipeline.ΦA spec0 c ⊢ (dats m 0 c).Φ 0 := by
  rw [show (dats m 0 c).Φ 0 = Inv m c 0 (Nat.zero_le _) from rfl, Inv_zero m c 0 _ rfl]

/-- After the last point the invariant gives the scratch buffers back. -/
theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 4000 := N_0; omega), PhiA_eq]
  unfold held
  iintro ⟨⟨HS0, HS1, HS2, HS3⟩, Hg⟩
  isplitl [HS0 HS1 HS2 HS3]
  · isplitl [HS0]; · iexists _; iexact HS0
    isplitl [HS1]; · iexists _; iexact HS1
    isplitl [HS2]; · iexact HS2
    iexact HS3
  iexact Hg

set_option backward.isDefEq.respectTransparency.types false in
set_option maxHeartbeats 800000 in
/-- Every run of the kernel ends, with the pipeline's arrays at their final contents, every other array as the host lines leave it and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- Every run of the kernel ends with the arguments unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.KernelIdeal

end
-- ==== Proof.KernelFrame.lean ====
module

public import proofs.«01_k».proof.Proof.Frame
public import proofs.«01_k».proof.Proof.Gen.Kernel

@[expose] public section

set_option maxRecDepth 16384

noncomputable section

/-! The printed kernel is, definition by definition, the program the run was proved for. -/

namespace Cert.Proof.Kernel

open Idealize.ShloMosaic Idealize.ShloMosaic.TcCoe
open Idealize.SL.Sem

variable {F : FTy → Type} [FloatOps F]

/-- The two programs call the same kernel body. -/
theorem body_table_eq : @Cert.Kernel.defs₀ F _ _ = @Cert.KernelIdeal.defs₀ F _ _ := by
  unfold Cert.Kernel.defs₀ Cert.KernelIdeal.defs₀
  refine congrArg Defs.onTc ?_
  funext l a
  obtain ⟨n, hn⟩ := l
  cases n with
  | zero => rfl
  | succ n => exact absurd hn (Nat.not_lt.2 (Nat.le_add_left _ _))

/-- The two programs have the same body table. -/
theorem defs_eq : @Cert.Kernel.defs F _ _ = @Cert.KernelIdeal.defs F _ _ :=
  congrArg (Pipeline.defs Cert.KernelIdeal.pcfgs) body_table_eq

/-- Every run of the printed kernel ends with the arguments unchanged and every counter at zero. -/
theorem quiescent (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  (congrArg (fun d => θ_run d (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)) (defs_eq (F := F))).mpr (Cert.Proof.KernelIdeal.quiescent (F := F) m ρ)

end Cert.Proof.Kernel

end
-- ==== Proof.Threefry.lean ====
module

public import Idealize.ShloMosaic.PureOps

@[expose] public section

/-! The generator on one pair of words: threefry2x32 with twenty rounds, and the word it yields for an item. -/

namespace Cert.Proof

open Idealize.ShloMosaic

/-- The generator's two words. -/
abbrev Words := BitVec 32 × BitVec 32

/-- One round: the words added, and the second turned by `k₁` places (the other way by `k₂`) and crossed with the sum. -/
def rnd (k₁ k₂ : BitVec 32) (x : Words) : Words :=
  (IntOp.addi x.1 x.2, IntOp.xori (IntOp.addi x.1 x.2) (IntOp.ori (IntOp.shli .host x.2 k₁) (IntOp.shrui .host x.2 k₂)))

/-- One addition of the key. -/
def keyed (a b n : BitVec 32) (x : Words) : Words := (IntOp.addi x.1 a, IntOp.addi (IntOp.addi x.2 b) n)

/-- The rounds before the first, third and fifth addition of the key. -/
def evens (x : Words) : Words := rnd 6#32 26#32 (rnd 26#32 6#32 (rnd 15#32 17#32 (rnd 13#32 19#32 x)))

/-- The rounds before the second and fourth addition of the key. -/
def odds (x : Words) : Words := rnd 24#32 8#32 (rnd 16#32 16#32 (rnd 29#32 3#32 (rnd 17#32 15#32 x)))

/-- The generator with the key's three words. -/
def threefry3 (a b k : BitVec 32) (x : Words) : Words :=
  keyed k a 5#32 (evens (keyed b k 4#32 (odds (keyed a b 3#32 (evens (keyed k a 2#32 (odds (keyed b k 1#32 (evens x)))))))))

/-- The generator with the key `(a, b)`. -/
def threefry (a b c d : BitVec 32) : Words :=
  threefry3 a b (IntOp.xori (IntOp.xori a b) 466688986#32) (IntOp.addi c a, IntOp.addi d b)

/-! ## The kernel's form of it -/

/-- One round, on the vector unit. -/
def rndV (k₁ k₂ : BitVec 32) (x : Words) : Words :=
  (IntOp.addi x.1 x.2, IntOp.xori (IntOp.ori (IntOp.shli .vector x.2 k₁) (IntOp.shrui .vector x.2 k₂)) (IntOp.addi x.1 x.2))

/-- One addition of the key, its second word already with the count. -/
def keyedV (a b : BitVec 32) (x : Words) : Words := (IntOp.addi x.1 a, IntOp.addi x.2 b)

def evensV (x : Words) : Words := rndV 6#32 26#32 (rndV 26#32 6#32 (rndV 15#32 17#32 (rndV 13#32 19#32 x)))
def oddsV (x : Words) : Words := rndV 24#32 8#32 (rndV 16#32 16#32 (rndV 29#32 3#32 (rndV 17#32 15#32 x)))

/-- The generator with the kernel's constants. -/
def threefryV (x : Words) : Words :=
  keyedV 466689008#32 5#32 (evensV (keyedV 42#32 466689012#32 (oddsV (keyedV 0#32 45#32 (evensV
    (keyedV 466689008#32 2#32 (oddsV (keyedV 42#32 466689009#32 (evensV x)))))))))

theorem shli_unit (x k : BitVec 32) (h : k.toNat < 32) : IntOp.shli .vector x k = IntOp.shli .host x k := by
  simp only [IntOp.shli, if_pos h]

theorem shrui_unit (x k : BitVec 32) (h : k.toNat < 32) : IntOp.shrui .vector x k = IntOp.shrui .host x k := by
  simp only [IntOp.shrui, if_pos h]

theorem rndV_eq (k₁ k₂ : BitVec 32) (h₁ : k₁.toNat < 32) (h₂ : k₂.toNat < 32) (x : Words) : rndV k₁ k₂ x = rnd k₁ k₂ x := by
  unfold rndV rnd
  rw [shli_unit _ _ h₁, shrui_unit _ _ h₂]
  simp only [IntOp.xori, BitVec.xor_comm]

theorem evensV_eq (x : Words) : evensV x = evens x := by
  unfold evensV evens
  simp (disch := decide) only [rndV_eq]

theorem oddsV_eq (x : Words) : oddsV x = odds x := by
  unfold oddsV odds
  simp (disch := decide) only [rndV_eq]

theorem keyedV_eq (a b n : BitVec 32) (x : Words) : keyedV a (b + n) x = keyed a b n x := by
  simp only [keyedV, keyed, IntOp.addi, BitVec.add_assoc]

/-- The kernel's generator is the generator with the key `(0, 42)`. -/
theorem threefryV_eq (c d : BitVec 32) : threefryV (c, IntOp.addi d 42#32) = threefry 0#32 42#32 c d := by
  have e1 : (466689009#32 : BitVec 32) = 466689008#32 + 1#32 := by decide
  have e2 : (2#32 : BitVec 32) = 0#32 + 2#32 := by decide
  have e3 : (45#32 : BitVec 32) = 42#32 + 3#32 := by decide
  have e4 : (466689012#32 : BitVec 32) = 466689008#32 + 4#32 := by decide
  have e5 : (5#32 : BitVec 32) = 0#32 + 5#32 := by decide
  have ek : IntOp.xori (IntOp.xori 0#32 42#32) 466688986#32 = (466689008#32 : BitVec 32) := by decide
  have ec : IntOp.addi c 0#32 = c := BitVec.add_zero c
  unfold threefryV threefry threefry3
  rw [ek, ec, e1, e3, e4, keyedV_eq, keyedV_eq, keyedV_eq]
  conv_lhs => rw [show keyedV 466689008#32 2#32 = keyed 466689008#32 0#32 2#32 from funext fun x => by rw [← keyedV_eq]; rfl,
    show keyedV 466689008#32 5#32 = keyed 466689008#32 0#32 5#32 from funext fun x => by rw [← keyedV_eq]; rfl]
  simp only [evensV_eq, oddsV_eq]

end Cert.Proof
-- ==== Proof.Bits.lean ====
module

public import proofs.«01_k».proof.Proof.Threefry
public import proofs.«01_k».proof.Proof.Step

@[expose] public section

set_option maxRecDepth 8192

noncomputable section

/-! The kernel's random bits at one draw and lane. -/

namespace Cert.Proof.KernelIdeal

open Cert.KernelIdeal Cert.KernelIdeal.Gen
open Idealize.ShloMosaic Idealize.ShloMosaic.TcCoe

attribute [local irreducible] IntOp.addi IntOp.xori IntOp.ori IntOp.shli IntOp.shrui

/-- The low word of the item's number in the whole table of draws and items. -/
def loWord (i : grid0.Coords) (n : BitVec 32) (v : IVec S8x1024 32) (a : Fin k0_t1_loop.trips) (k : Fin k0_t2_loop.trips) : IVec S8x1024 32 :=
  k0_pay20 n v (k0_pay8 i a) 0#32 1#32 k

/-- Its high word. -/
def hiWord (i : grid0.Coords) (n : BitVec 32) (v : IVec S8x1024 32) (a : Fin k0_t1_loop.trips) (k : Fin k0_t2_loop.trips) : IVec S8x1024 32 :=
  addi (broadcastTo S8x1024 (k0_pay7 i a) broadcasts_S8x1_S8x1024)
    (select (cmpi .slt (xori (loWord i n v a k) (broadcast S8x1024 2147483648#32)) (broadcastTo S8x1024 (k0_pay9 i a) broadcasts_S8x1_S8x1024))
      (broadcast S8x1024 1#32) (broadcast S8x1024 0#32))

set_option maxHeartbeats 2000000 in
/-- The bits of a lane are the generator's on the two words there. -/
theorem bitsOf_apply (i : grid0.Coords) (n : BitVec 32) (v : IVec S8x1024 32) (a : Fin k0_t1_loop.trips) (k : Fin k0_t2_loop.trips) (y : S8x1024.Idx) :
    bitsOf i n v a k y = IntOp.shrui .vector
      (IntOp.xori (threefryV (hiWord i n v a k y, IntOp.addi (loWord i n v a k y) 42#32)).1
        (threefryV (hiWord i n v a k y, IntOp.addi (loWord i n v a k y) 42#32)).2) 9#32 := by
  rfl

end Cert.Proof.KernelIdeal
end
-- ==== Proof.Index.lean ====
module

public import Idealize.ShloMosaic.PureOps

@[expose] public section

/-! The two words of a place in the table of draws and items: cut from a wide word, and built with a carry. -/

namespace Cert.Proof.Index

open Idealize.ShloMosaic

/-- Crossing with the sign bit adds it. -/
theorem xor_sign (x : BitVec 32) : x ^^^ 2147483648#32 = x + 2147483648#32 := by
  have hx : x = BitVec.cons x.msb (x.setWidth 31) := (BitVec.cons_msb_setWidth x).symm
  have hm : (2147483648#32 : BitVec 32) = BitVec.cons true 0#31 := by decide
  generalize x.msb = b at hx
  generalize x.setWidth 31 = v at hx
  subst hx
  rw [hm, BitVec.cons_xor_cons, BitVec.xor_zero]
  apply BitVec.eq_of_toNat_eq
  have hv := v.isLt
  rw [BitVec.toNat_add, BitVec.toNat_cons', BitVec.toNat_cons', BitVec.toNat_cons']
  cases b <;> simp <;> omega

/-- A word with the sign bit added, read signed, is the word read unsigned less half the range. -/
theorem toInt_sign (x : BitVec 32) : (x ^^^ 2147483648#32).toInt = (x.toNat : ℤ) - 2147483648 := by
  have hx := x.isLt
  have e : (x ^^^ 2147483648#32).toNat = (x.toNat + 2147483648) % 4294967296 := by
    rw [xor_sign, BitVec.toNat_add]
    rfl
  rw [BitVec.toInt_eq_toNat_cond, e]
  by_cases h : x.toNat < 2147483648
  · rw [if_neg (by omega)]; omega
  · rw [if_pos (by omega)]; omega

/-- Signed comparison of words crossed with the sign bit is unsigned comparison. -/
theorem slt_sign (x y : BitVec 32) : (x ^^^ 2147483648#32).slt (y ^^^ 2147483648#32) = decide (x.toNat < y.toNat) := by
  rw [BitVec.slt, toInt_sign, toInt_sign]
  exact decide_eq_decide.2 (by omega)

/-- A sum's quotient, with the carry. -/
theorem div_carry (a b m : ℕ) (hb : b < m) : (a + b) / m = a / m + if (a + b) % m < a % m then 1 else 0 := by
  have hm : 0 < m := by omega
  have hr := Nat.mod_lt a hm
  have ha := Nat.div_add_mod a m
  generalize a / m = q at *
  generalize a % m = r at *
  subst ha
  by_cases h : r + b < m
  · have e1 : (m * q + r + b) / m = q := by
      rw [Nat.add_assoc, Nat.mul_add_div hm, Nat.div_eq_of_lt h, Nat.add_zero]
    have e2 : (m * q + r + b) % m = r + b := by
      rw [Nat.add_assoc, Nat.mul_add_mod, Nat.mod_eq_of_lt h]
    rw [e1, e2, if_neg (by omega)]
    rfl
  · have e0 : r + b = m + (r + b - m) := by omega
    have h' : r + b - m < m := by omega
    have e1 : (m * q + r + b) / m = q + 1 := by
      rw [Nat.add_assoc, Nat.mul_add_div hm, e0, Nat.add_div_left _ hm, Nat.div_eq_of_lt h']
    have e2 : (m * q + r + b) % m = r + b - m := by
      rw [Nat.add_assoc, Nat.mul_add_mod, e0, Nat.add_mod_left, Nat.mod_eq_of_lt h', ← e0]
    rw [e1, e2, if_pos (by omega)]

/-- The low word, cut from the wide one. -/
theorem wide_lo (d j : ℕ) : (16384000#64 * BitVec.ofNat 64 d + 1#64 * BitVec.ofNat 64 j).setWidth 32
    = BitVec.ofNat 32 (d * 16384000 + j) := by
  apply BitVec.eq_of_toNat_eq
  simp only [BitVec.toNat_setWidth, BitVec.toNat_add, BitVec.toNat_mul, BitVec.toNat_ofNat]
  rw [Nat.mod_mod_of_dvd _ (by decide : 2 ^ 32 ∣ 2 ^ 64)]
  omega

/-- The high word, cut from the wide one. -/
theorem wide_hi (d j : ℕ) (hd : d < 4096) (hj : j < 16384000) :
    (IntOp.shrui .host (16384000#64 * BitVec.ofNat 64 d + 1#64 * BitVec.ofNat 64 j) 32#64).setWidth 32
    = BitVec.ofNat 32 ((d * 16384000 + j) / 2 ^ 32) := by
  apply BitVec.eq_of_toNat_eq
  rw [IntOp.shrui, if_pos (by decide)]
  simp only [BitVec.toNat_setWidth, BitVec.ushiftRight_eq', BitVec.toNat_ushiftRight, BitVec.toNat_add, BitVec.toNat_mul, BitVec.toNat_ofNat,
    Nat.shiftRight_eq_div_pow]
  rw [Nat.mod_eq_of_lt (by decide : 32 < 2 ^ 64)]
  omega

/-- The low word, built from the draw's part and the item's. -/
theorem carry_lo (d j : ℕ) : IntOp.addi (IntOp.shli .vector (BitVec.ofNat 32 (d * 2000)) 13#32) (BitVec.ofNat 32 j)
    = BitVec.ofNat 32 (d * 16384000 + j) := by
  apply BitVec.eq_of_toNat_eq
  rw [IntOp.addi, IntOp.shli, if_pos (by decide)]
  simp only [BitVec.toNat_add, BitVec.shiftLeft_eq', BitVec.toNat_shiftLeft, BitVec.toNat_ofNat, Nat.shiftLeft_eq]
  rw [Nat.mod_eq_of_lt (by decide : 13 < 2 ^ 32)]
  omega

/-- The high word, built with the carry out of the low one. -/
theorem carry_hi (d j : ℕ) (hd : d < 4096) (hj : j < 16384000) :
    IntOp.addi (IntOp.shrui .vector (BitVec.ofNat 32 (d * 2000)) 19#32)
      (Scalar.select (IntOp.cmpi .slt (IntOp.xori (BitVec.ofNat 32 (d * 16384000 + j)) 2147483648#32)
        (IntOp.xori (IntOp.shli .vector (BitVec.ofNat 32 (d * 2000)) 13#32) 2147483648#32)) 1#32 0#32)
    = BitVec.ofNat 32 ((d * 16384000 + j) / 2 ^ 32) := by
  have hs : (IntOp.shli .vector (BitVec.ofNat 32 (d * 2000)) 13#32).toNat = d * 16384000 % 2 ^ 32 := by
    rw [IntOp.shli, if_pos (by decide)]
    simp only [BitVec.shiftLeft_eq', BitVec.toNat_shiftLeft, BitVec.toNat_ofNat, Nat.shiftLeft_eq]
    rw [Nat.mod_eq_of_lt (by decide : 13 < 2 ^ 32)]
    omega
  have hh : (IntOp.shrui .vector (BitVec.ofNat 32 (d * 2000)) 19#32).toNat = d * 16384000 / 2 ^ 32 := by
    rw [IntOp.shrui, if_pos (by decide)]
    simp only [BitVec.ushiftRight_eq', BitVec.toNat_ushiftRight, BitVec.toNat_ofNat, Nat.shiftRight_eq_div_pow]
    rw [Nat.mod_eq_of_lt (by decide : 19 < 2 ^ 32)]
    omega
  have hc : IntOp.cmpi .slt (IntOp.xori (BitVec.ofNat 32 (d * 16384000 + j)) 2147483648#32)
        (IntOp.xori (IntOp.shli .vector (BitVec.ofNat 32 (d * 2000)) 13#32) 2147483648#32)
      = BitVec.ofBool (decide ((d * 16384000 + j) % 2 ^ 32 < d * 16384000 % 2 ^ 32)) := by
    rw [← hs, ← BitVec.toNat_ofNat (d * 16384000 + j) 32, ← slt_sign]
    rfl
  rw [hc]
  apply BitVec.eq_of_toNat_eq
  rw [IntOp.addi, BitVec.toNat_add, hh, BitVec.toNat_ofNat, div_carry _ j _ (by omega)]
  by_cases h : (d * 16384000 + j) % 2 ^ 32 < d * 16384000 % 2 ^ 32
  · rw [decide_eq_true h, if_pos h]
    rfl
  · rw [decide_eq_false h, if_neg h]
    rfl

end Cert.Proof.Index
-- ==== Proof.Score.lean ====
module

public import proofs.«01_k».proof.Proof.Threefry
public import Idealize.ShloMosaic.Lib.IdealHost
public import Idealize.ShloMosaic.Lib.ValueIdxCore

@[expose] public section

noncomputable section

/-! One item's weight, loss and score in one draw, on the extended reals. -/

namespace Cert.Proof.Draw

open Idealize.ShloMosaic

/-- The place of an item in the table of probabilities. -/
def place (j : Fin 16384000) : (⟨2, ![16384, 1000]⟩ : Shape).Idx :=
  ValueIdx.ix2 (⟨j.val / 1000, by omega⟩ : Fin 16384) (⟨j.val % 1000, by omega⟩ : Fin 1000)

/-- The smallest positive normal number of the format. -/
def tiny : EReal := Ideal.ofBits .f32 0x00800000#32
/-- The lower bound of a probability. -/
def lo : EReal := Ideal.ofBits .f32 0x33D6BF95#32
/-- The upper bound of a probability. -/
def hi : EReal := Ideal.ofBits .f32 0x3F7FFFFE#32
/-- A target as a number. -/
def num (t : BitVec 32) : EReal := ((t.toInt : ℝ) : EReal)
/-- A probability brought into range. -/
def clipped (p : EReal) : EReal := min hi (max lo p)
/-- An item's weight. -/
def weight (p : EReal) (t : BitVec 32) : EReal := max (clipped p - num t) (-(clipped p - num t))
/-- An item's loss. -/
def loss (p : EReal) (t : BitVec 32) : EReal :=
  -(Ideal.log (clipped p) * num t + Ideal.log (1 - clipped p) * (1 - num t))
/-- The random bits of the place `n` in the table of draws and items. -/
def bits (n : ℕ) : BitVec 32 :=
  IntOp.shrui .host (IntOp.xori (threefry 0#32 42#32 (BitVec.ofNat 32 (n / 2 ^ 32)) (BitVec.ofNat 32 n)).1
    (threefry 0#32 42#32 (BitVec.ofNat 32 (n / 2 ^ 32)) (BitVec.ofNat 32 n)).2) 9#32
/-- The Gumbel variable of those bits. -/
def gumbel (b : BitVec 32) : EReal :=
  -Ideal.log (-Ideal.log (max tiny (Ideal.ofBits .f32 (IntOp.ori b 1065353216#32) - 1 + tiny)))
/-- An item's score in draw `d`. -/
def score (d j : ℕ) (w : EReal) : EReal := gumbel (bits (d * 16384000 + j)) + Ideal.log w

theorem tiny_pos : 0 < tiny := by
  have : tiny = (((2 : ℝ) ^ (-126 : ℤ) : ℝ) : EReal) := by
    unfold tiny; simp [Ideal.ofBits, Ideal.ieee, -EReal.coe_mul]; norm_num
  rw [this]
  exact_mod_cast (by positivity : (0 : ℝ) < (2 : ℝ) ^ (-126 : ℤ))

theorem lo_eq : lo = ((14073749 * (2 : ℝ) ^ (-47 : ℤ) : ℝ) : EReal) := by
  unfold lo; simp [Ideal.ofBits, Ideal.ieee, -EReal.coe_mul]

theorem hi_eq : hi = ((16777214 * (2 : ℝ) ^ (-24 : ℤ) : ℝ) : EReal) := by
  unfold hi; simp [Ideal.ofBits, Ideal.ieee, -EReal.coe_mul]

/-- A probability in range is a real number strictly between zero and one. -/
theorem clipped_real (p : EReal) : ∃ r : ℝ, clipped p = (r : EReal) ∧ 0 < r ∧ r < 1 := by
  have h1 : lo ≤ clipped p := le_min (by
    rw [lo_eq, hi_eq]; exact_mod_cast (by norm_num : (14073749 * (2 : ℝ) ^ (-47 : ℤ) : ℝ) ≤ 16777214 * (2 : ℝ) ^ (-24 : ℤ))) (le_max_left _ _)
  have h2 : clipped p ≤ hi := min_le_left _ _
  rw [lo_eq] at h1
  rw [hi_eq] at h2
  have hb : clipped p ≠ ⊥ := fun e => by rw [e] at h1; exact absurd h1 (not_le.2 (EReal.bot_lt_coe _))
  have ht : clipped p ≠ ⊤ := fun e => by rw [e] at h2; exact absurd h2 (not_le.2 (EReal.coe_lt_top _))
  obtain ⟨r, hr⟩ : ∃ r : ℝ, clipped p = (r : EReal) := ⟨_, (EReal.coe_toReal ht hb).symm⟩
  rw [hr] at h1 h2
  have h1' := EReal.coe_le_coe_iff.1 h1
  have h2' := EReal.coe_le_coe_iff.1 h2
  refine ⟨r, hr, lt_of_lt_of_le (by positivity) h1', lt_of_le_of_lt h2' (by norm_num)⟩

theorem num_zero : num 0#32 = 0 := by simp [num]
theorem num_one : num 1#32 = 1 := by simp [num]

theorem weight_zero (p : EReal) : weight p 0#32 = clipped p := by
  obtain ⟨r, hr, h0, -⟩ := clipped_real p
  rw [weight, num_zero, sub_zero, hr, max_eq_left]
  exact_mod_cast (by linarith : -r ≤ r)

theorem weight_one (p : EReal) : weight p 1#32 = 1 - clipped p := by
  obtain ⟨r, hr, h0, h1⟩ := clipped_real p
  rw [weight, num_one, hr, max_eq_right]
  · exact_mod_cast congrArg (fun x : ℝ => (x : EReal)) (by ring : -(r - 1) = 1 - r)
  · exact_mod_cast (by linarith : r - 1 ≤ -(r - 1))

/-- A weight is a real number strictly between zero and one. -/
theorem weight_real (p : EReal) (t : BitVec 32) (ht : t = 0#32 ∨ t = 1#32) :
    ∃ r : ℝ, weight p t = (r : EReal) ∧ 0 < r ∧ r < 1 := by
  obtain ⟨r, hr, h0, h1⟩ := clipped_real p
  rcases ht with rfl | rfl
  · exact ⟨r, (weight_zero p).trans hr, h0, h1⟩
  · exact ⟨1 - r, (weight_one p).trans (by rw [hr]; rfl), by linarith, by linarith⟩

/-- The loss is a function of the weight. -/
theorem loss_eq (p : EReal) (t : BitVec 32) (ht : t = 0#32 ∨ t = 1#32) : loss p t = -Ideal.log (1 - weight p t) := by
  obtain ⟨r, hr, h0, h1⟩ := clipped_real p
  rcases ht with rfl | rfl
  · rw [loss, weight_zero, num_zero, mul_zero, zero_add, sub_zero, mul_one]
  · have e : (1 : EReal) - (1 - (r : EReal)) = (r : EReal) := by
      exact_mod_cast congrArg (fun x : ℝ => (x : EReal)) (by ring : (1 : ℝ) - (1 - r) = r)
    have z : (1 : EReal) - 1 = 0 :=
      (show (((1 : ℝ) - 1 : ℝ) : EReal) = ((0 : ℝ) : EReal) from congrArg _ (sub_self 1))
    rw [loss, weight_one, num_one, mul_one, hr, e, z, mul_zero, add_zero]

/-- The weight as the reference computes it. -/
theorem weight_pow (p : EReal) (t : BitVec 32) (ht : t = 0#32 ∨ t = 1#32) : Ideal.pow (weight p t) 1 = weight p t := by
  obtain ⟨r, hr, -, -⟩ := weight_real p t ht
  rw [hr]
  show ((Real.rpow r 1 : ℝ) : EReal) = r
  rw [Real.rpow_eq_pow, Real.rpow_one]

theorem log_coe (r : ℝ) : Ideal.log (r : EReal) = if r ≤ 0 then ⊥ else (Real.log r : EReal) := rfl

theorem log_ne_bot {x : EReal} (h : 0 < x) : Ideal.log x ≠ ⊥ := by
  induction x using EReal.rec with
  | bot => exact absurd h (not_lt.2 bot_le)
  | top => exact (show (⊤ : EReal) ≠ ⊥ from top_ne_bot)
  | coe r => rw [log_coe, if_neg (not_le.2 (EReal.coe_pos.1 h))]; exact EReal.coe_ne_bot _

theorem log_ne_top {x : EReal} (h : x ≠ ⊤) : Ideal.log x ≠ ⊤ := by
  induction x using EReal.rec with
  | bot => exact (show (⊥ : EReal) ≠ ⊤ from bot_ne_top)
  | top => exact absurd rfl h
  | coe r =>
    rw [log_coe]
    split_ifs
    · exact bot_ne_top
    · exact EReal.coe_ne_top _

theorem gumbel_ne_bot (b : BitVec 32) : gumbel b ≠ ⊥ := by
  intro h
  rw [gumbel, EReal.neg_eq_bot_iff] at h
  refine log_ne_top (fun e => ?_) h
  rw [EReal.neg_eq_top_iff] at e
  exact log_ne_bot (lt_of_lt_of_le tiny_pos (le_max_left _ _)) e

theorem score_ne_bot (d j : ℕ) (w : EReal) (h : 0 < w) : score d j w ≠ ⊥ := fun e =>
  (EReal.add_eq_bot_iff.1 e).elim (gumbel_ne_bot _) (log_ne_bot h)

/-- The uniform variable, bounded below by zero first or not. -/
theorem unit_eq (x : EReal) : max tiny (max 0 (x * (1 - 0) + 0) * 1 + tiny) = max tiny (x + tiny) := by
  rw [sub_zero, mul_one, add_zero, mul_one]
  rcases le_total 0 x with h | h
  · rw [max_eq_right h]
  · rw [max_eq_left h, zero_add, max_self, max_eq_left]
    calc x + tiny ≤ 0 + tiny := add_le_add_left h tiny
      _ = tiny := zero_add _

end Cert.Proof.Draw
end
-- ==== Proof.KWords.lean ====
module

public import proofs.«01_k».proof.Proof.Bits
public import proofs.«01_k».proof.Proof.Index
public import proofs.«01_k».proof.Proof.Score
public import proofs.«01_k».proof.Proof.Body

@[expose] public section

set_option maxRecDepth 8192

noncomputable section

/-! The kernel's random bits at a draw and an item are the table's. -/

namespace Cert.Proof.KernelIdeal

open Cert.KernelIdeal Cert.KernelIdeal.Gen
open Idealize.ShloMosaic Idealize.ShloMosaic.TcCoe

/-- The draw of row `r` in row block `a` of half `h`. -/
def drawAt (h a r : ℕ) : ℕ := h * 2048 + a * 8 + r

/-- The item in lane `l` of row `k` of tile `n`. -/
def itemAt (n k l : ℕ) : ℕ := n * 8192 + k * 1024 + l

variable (i : grid0.Coords) (a : Fin k0_t1_loop.trips) (k : Fin k0_t2_loop.trips) (r : Fin 8) (l : Fin 1024)

theorem rows_at : iota .tc S8x1 32 [0] iota_S8x1_d0_w32 (ValueIdx.ix2 r (0 : Fin 1)) = BitVec.ofNat 32 r.val :=
  congrArg (BitVec.ofNat 32) (show 0 * 8 + r.val = r.val by omega)

theorem lanes_at : lanes (ValueIdx.ix2 r l) = BitVec.ofNat 32 l.val :=
  congrArg (BitVec.ofNat 32) (show 0 * 1024 + l.val = l.val by omega)

theorem pay6_at : k0_pay6 i a (ValueIdx.ix2 r (0 : Fin 1)) = BitVec.ofNat 32 (drawAt (i 0).val a.val r.val * 2000) := by
  show ((BitVec.ofNat 32 (i 0).val * 2048#32 + (0#32 + BitVec.ofNat 32 a.val * 1#32) * 8#32)
    + iota .tc S8x1 32 [0] iota_S8x1_d0_w32 (ValueIdx.ix2 r (0 : Fin 1))) * 2000#32 = _
  rw [rows_at]
  unfold drawAt
  rw [BitVec.ofNat_mul, BitVec.ofNat_add, BitVec.ofNat_add, BitVec.ofNat_mul, BitVec.ofNat_mul, BitVec.zero_add, BitVec.mul_one]

theorem column_at (x : IVec S8x1 32) : broadcastTo S8x1024 x broadcasts_S8x1_S8x1024 (ValueIdx.ix2 r l) = x (ValueIdx.ix2 r (0 : Fin 1)) := by
  refine broadcastTo_apply x broadcasts_S8x1_S8x1024 _ _ fun b => ?_
  match b with
  | ⟨0, _⟩ => rfl
  | ⟨1, _⟩ => rfl

theorem item_at : IntOp.addi (Scalar.addi (Scalar.muli (BitVec.ofNat 32 (i 1).val) 8192#32) (Scalar.muli (Scf.iv 0#32 1#32 k) 1024#32))
      (lanes (ValueIdx.ix2 r l)) = BitVec.ofNat 32 (itemAt (i 1).val k.val l.val) := by
  show (BitVec.ofNat 32 (i 1).val * 8192#32 + (0#32 + BitVec.ofNat 32 k.val * 1#32) * 1024#32) + lanes (ValueIdx.ix2 r l) = _
  rw [lanes_at]
  unfold itemAt
  rw [BitVec.ofNat_add, BitVec.ofNat_add, BitVec.ofNat_mul, BitVec.ofNat_mul, BitVec.zero_add, BitVec.mul_one]

theorem pay8_at : k0_pay8 i a (ValueIdx.ix2 r (0 : Fin 1)) = IntOp.shli .vector (BitVec.ofNat 32 (drawAt (i 0).val a.val r.val * 2000)) 13#32 :=
  congrArg (fun x => IntOp.shli .vector x 13#32) (pay6_at i a r)

theorem pay7_at : k0_pay7 i a (ValueIdx.ix2 r (0 : Fin 1)) = IntOp.shrui .vector (BitVec.ofNat 32 (drawAt (i 0).val a.val r.val * 2000)) 19#32 :=
  congrArg (fun x => IntOp.shrui .vector x 19#32) (pay6_at i a r)

theorem loWord_at : loWord i (BitVec.ofNat 32 (i 1).val) lanes a k (ValueIdx.ix2 r l)
    = BitVec.ofNat 32 (drawAt (i 0).val a.val r.val * 16384000 + itemAt (i 1).val k.val l.val) := by
  rw [← Index.carry_lo, ← pay8_at, ← item_at i k r l, ← column_at r l (k0_pay8 i a)]
  rfl

theorem draw_lt (hi : (i 0).val < 2) (ha : a.val < 256) : drawAt (i 0).val a.val r.val < 4096 := by
  unfold drawAt; have := r.isLt; omega

theorem item_lt (hn : (i 1).val < 2000) (hk : k.val < 8) : itemAt (i 1).val k.val l.val < 16384000 := by
  unfold itemAt; have := l.isLt; omega

theorem hiWord_at : hiWord i (BitVec.ofNat 32 (i 1).val) lanes a k (ValueIdx.ix2 r l)
    = BitVec.ofNat 32 ((drawAt (i 0).val a.val r.val * 16384000 + itemAt (i 1).val k.val l.val) / 2 ^ 32) := by
  have hi : (i 0).val < 2 := (i 0).isLt
  have hn : (i 1).val < 2000 := (i 1).isLt
  have ha : a.val < 256 := lt_of_lt_of_eq a.isLt trips1
  have hk : k.val < 8 := lt_of_lt_of_eq k.isLt trips2
  rw [← Index.carry_hi _ _ (draw_lt i a r hi ha) (item_lt i k l hn hk), ← loWord_at, ← pay8_at, ← pay7_at,
    ← column_at r l (k0_pay7 i a)]
  have e : broadcastTo S8x1024 (k0_pay9 i a) broadcasts_S8x1_S8x1024 (ValueIdx.ix2 r l)
      = IntOp.xori (k0_pay8 i a (ValueIdx.ix2 r (0 : Fin 1))) 2147483648#32 := column_at r l _
  rw [← e]
  rfl

/-- The bits of draw and item. -/
theorem bits_at : bitsOf i (BitVec.ofNat 32 (i 1).val) lanes a k (ValueIdx.ix2 r l)
    = Draw.bits (drawAt (i 0).val a.val r.val * 16384000 + itemAt (i 1).val k.val l.val) := by
  rw [bitsOf_apply, threefryV_eq, loWord_at, hiWord_at, shrui_unit _ _ (by decide)]
  rfl

end Cert.Proof.KernelIdeal
end
-- ==== Proof.Rows.lean ====
module

public import proofs.«01_k».proof.Proof.Score
public import Idealize.ShloMosaic.PureOps.Ideal.Laws
public import Idealize.ShloMosaic.Lib.ReduceAll
public import Idealize.ShloMosaic.Lib.Pipeline.Value
public import Idealize.ShloMosaic.Lib.Pointwise.Index

@[expose] public section

noncomputable section

/-! Reading a table of draws by items row by row: the greatest and the least of a row, the place of the greatest, and
    an item fetched by its number. -/

namespace Cert.Proof.Draw

open Idealize.ShloMosaic

/-- The table of draws by items, its rows, the items. -/
abbrev Table : Shape := ⟨2, ![4096, 16384000]⟩
abbrev Draws : Shape := ⟨1, ![4096]⟩
abbrev Items : Shape := ⟨1, ![16384000]⟩
abbrev Probs : Shape := ⟨2, ![16384, 1000]⟩

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

/-- The factor the weight carries for a target of minus one is one for the targets allowed. -/
theorem mask_eq (t : BitVec 32) (ht : t = 0#32 ∨ t = 1#32) :
    Scalar.select (IntOp.cmpi .eq t 4294967295#32) (Ideal.ofBits .f32 0x00000000#32) (Ideal.ofBits .f32 0x3F800000#32) = (1 : EReal) := by
  have h : IntOp.cmpi .eq t 4294967295#32 = 0#1 := by rcases ht with rfl | rfl <;> decide
  rw [h]
  exact Ideal.ofBits_one_f32

/-- The weight as the reference writes it. -/
theorem weight_formula (p : EReal) (t : BitVec 32) (ht : t = 0#32 ∨ t = 1#32) :
    Ideal.pow (max
        ((clipped p - num t) * Scalar.select (IntOp.cmpi .eq t 4294967295#32) (Ideal.ofBits .f32 0x00000000#32) (Ideal.ofBits .f32 0x3F800000#32))
        (-((clipped p - num t) * Scalar.select (IntOp.cmpi .eq t 4294967295#32) (Ideal.ofBits .f32 0x00000000#32) (Ideal.ofBits .f32 0x3F800000#32))))
      (Ideal.ofBits .f32 0x3F800000#32) = weight p t := by
  rw [mask_eq t ht, mul_one, Ideal.ofBits_one_f32]
  exact weight_pow p t ht

/-- An array of items is the table of probabilities read in order. -/
theorem flat_apply {α : Type} (x : Probs.Idx → α) (h : Probs.ShapeCasts Items) (j : Fin 16384000) :
    shapeCast Items x h (ValueIdx.ix1 j) = x (place j) := by
  refine shapeCast_apply x h _ _ ?_
  rw [Shape.rowMajor_val_two, Shape.rowMajor_val_one]
  show j.val / 1000 * 1000 + j.val % 1000 = j.val
  omega

theorem drop_eq (h : Table.ReducesTo [1] Draws) (d : Fin 4096) (j : Fin 16384000) : h.drop (ValueIdx.ix2 d j) = ValueIdx.ix1 d := by
  funext b
  obtain rfl : b = 0 := Subsingleton.elim _ _
  exact Fin.ext (h.drop_apply_val_of_eq (ValueIdx.ix2 d j) 0 0)

theorem of_drop_eq (h : Table.ReducesTo [1] Draws) (d : Fin 4096) (i : Table.Idx) (e : h.drop i = ValueIdx.ix1 d) :
    ∃ j : Fin 16384000, i = ValueIdx.ix2 d j := by
  refine ⟨i 1, ?_⟩
  have h0 : (i 0).val = d.val := by
    rw [← h.drop_apply_val_of_eq i 0 0, e]
  funext a
  match a with
  | ⟨0, _⟩ => exact Fin.ext h0
  | ⟨1, _⟩ => rfl

section Pointwise
variable {s : Shape} (a b : FVec Ideal s .f32) (i : s.Idx)

/-- The operations of an array, at one place. -/
theorem addf_at : addf a b i = (a i + b i : EReal) := rfl
theorem mulf_at : mulf a b i = (a i * b i : EReal) := rfl
theorem maximumf_at : maximumf a b i = (max (a i) (b i) : EReal) := rfl
theorem subf_at : subf a b i = (a i - b i : EReal) := rfl
theorem minimumf_at : minimumf a b i = (min (a i) (b i) : EReal) := rfl
theorem absf_at : Host.absf a i = (max (a i) (-(a i)) : EReal) := rfl
theorem powf_at : Host.powf a b i = Ideal.pow (a i) (b i) := rfl
theorem divf_at : Host.divf a b i = Ideal.div (a i) (b i) := rfl
theorem sitofp_at (t : IVec s 32) : (sitofp .f32 t : FVec Ideal s .f32) i = num (t i) := rfl
theorem cmpi_at (p : CmpIPredicate) (t u : IVec s 32) : cmpi p t u i = IntOp.cmpi p (t i) (u i) := rfl
theorem negf_at : Host.negf a i = (-(a i) : EReal) := rfl
theorem cmpf_at (p : CmpFPredicate) : cmpf p a b i = Ideal.cmp p (a i) (b i) := rfl
theorem select_at (c : IVec s 1) : select c a b i = (Scalar.select (c i) (a i) (b i) : EReal) := rfl
theorem log_at : Host.log a i = Ideal.log (a i) := rfl

/-- A constant spread over an array. -/
theorem const_at {u : Shape} (dims : Fin u.rank → Fin s.rank) (h : u.BroadcastsInDim s dims) (c : BitVec 32) :
    broadcastInDim s dims h (constant (F := Ideal) u .f32 c) i = Ideal.ofBits .f32 c := rfl

theorem constI_at {u : Shape} (dims : Fin u.rank → Fin s.rank) (h : u.BroadcastsInDim s dims) (c : BitVec 32) :
    broadcastInDim s dims h (constantI u 32 c) i = c := rfl

end Pointwise

section Extremes
variable {u : Shape} (x : Table.Idx → EReal) (init : u.Idx → EReal) (h : Table.ReducesTo [1] Draws) (hu : 0 < u.numel) (d : Fin 4096)

/-- A row's greatest is at least each of its members, -/
theorem le_rowMax (j : Fin 16384000) :
    x (ValueIdx.ix2 d j) ≤ Host.reduce (FloatOps.maximumf (F := Ideal) (φ := .f32)) x init h hu (ValueIdx.ix1 d) := by
  rw [Host.reduce_eq_fold]
  show _ ≤ Finset.fold max _ x _
  exact (Finset.le_fold_max _).2 (Or.inr ⟨_, Finset.mem_filter.2 ⟨Finset.mem_univ _, drop_eq h d j⟩, le_rfl⟩)

/-- and no more than any bound of them. -/
theorem rowMax_le (b : EReal) (hi : init (Shape.Idx.first hu) = ⊥) (hb : ∀ j, x (ValueIdx.ix2 d j) ≤ b) :
    Host.reduce (FloatOps.maximumf (F := Ideal) (φ := .f32)) x init h hu (ValueIdx.ix1 d) ≤ b := by
  rw [Host.reduce_eq_fold]
  show Finset.fold max _ x _ ≤ _
  refine (Finset.fold_max_le _).2 ⟨hi ▸ bot_le, fun i hi => ?_⟩
  obtain ⟨j, rfl⟩ := of_drop_eq h d i (Finset.mem_filter.1 hi).2
  exact hb j

/-- A row's least is at most each of its members. -/
theorem rowMin_le (j : Fin 16384000) :
    Host.reduce (FloatOps.minimumf (F := Ideal) (φ := .f32)) x init h hu (ValueIdx.ix1 d) ≤ x (ValueIdx.ix2 d j) := by
  rw [Host.reduce_eq_fold]
  show Finset.fold min _ x _ ≤ _
  exact (Finset.fold_min_le _).2 (Or.inr ⟨_, Finset.mem_filter.2 ⟨Finset.mem_univ _, drop_eq h d j⟩, le_rfl⟩)

end Extremes

/-- A fold by a choice of the greater ends at the greatest, which is the first value or a member. -/
theorem foldl_choice {β : Type} (f : EReal × β → EReal × β → EReal × β) (hm : ∀ a b, f a b = a ∨ f a b = b)
    (ha : ∀ a b, a.1 ≤ (f a b).1) (hb : ∀ a b, b.1 ≤ (f a b).1) (l : List (EReal × β)) (z : EReal × β) :
    (l.foldl f z = z ∨ l.foldl f z ∈ l) ∧ z.1 ≤ (l.foldl f z).1 ∧ ∀ p ∈ l, p.1 ≤ (l.foldl f z).1 := by
  induction l generalizing z with
  | nil => exact ⟨Or.inl rfl, le_rfl, fun p hp => absurd hp List.not_mem_nil⟩
  | cons q l ih =>
    obtain ⟨h1, h2, h3⟩ := ih (f z q)
    rw [List.foldl_cons]
    refine ⟨?_, (ha z q).trans h2, fun p hp => ?_⟩
    · rcases h1 with h1 | h1
      · rw [h1]
        rcases hm z q with h | h
        · exact Or.inl h
        · rw [h]; exact Or.inr List.mem_cons_self
      · exact Or.inr (List.mem_cons_of_mem _ h1)
    · rcases List.mem_cons.1 hp with rfl | hp
      · exact (hb z p).trans h2
      · exact h3 p hp

/-- The place of a row's greatest, found by such a fold beside the items' numbers. -/
theorem argmax_apply {u : Shape} (f : EReal × BitVec 32 → EReal × BitVec 32 → EReal × BitVec 32) (hm : ∀ a b, f a b = a ∨ f a b = b)
    (ha : ∀ a b, a.1 ≤ (f a b).1) (hb : ∀ a b, b.1 ≤ (f a b).1) (x : FVec Ideal Table .f32) (y : Table.Idx → BitVec 32)
    (ix : u.Idx → Ideal .f32) (iy : u.Idx → BitVec 32) (h : Table.ReducesTo [1] Draws) (hu : 0 < u.numel)
    (hix : ix (Shape.Idx.first hu) = (⊥ : EReal)) (hiy : iy (Shape.Idx.first hu) = 0#32)
    (hy : ∀ d j, y (ValueIdx.ix2 d j) = BitVec.ofNat 32 j.val) (d : Fin 4096) :
    ∃ j : Fin 16384000, (Host.argReduce f x y ix iy h hu (ValueIdx.ix1 d)).2 = BitVec.ofNat 32 j.val
      ∧ ∀ k, (x (ValueIdx.ix2 d k) : EReal) ≤ x (ValueIdx.ix2 d j) := by
  rw [Ideal.argReduce_eq_reduce2, Host.reduce2_eq_foldl_fiber, hix, hiy]
  obtain ⟨h1, h2, h3⟩ := foldl_choice f hm ha hb (Host.argReduceFiber x y h (ValueIdx.ix1 d)) (⊥, 0#32)
  have mem : ∀ k, (x (ValueIdx.ix2 d k), y (ValueIdx.ix2 d k)) ∈ Host.argReduceFiber x y h (ValueIdx.ix1 d) := fun k => by
    unfold Host.argReduceFiber
    refine List.mem_map.2 ⟨Table.rowMajor (ValueIdx.ix2 d k), List.mem_filter.2 ⟨List.mem_finRange _, ?_⟩, ?_⟩
    · rw [Equiv.symm_apply_apply, drop_eq]; exact decide_eq_true rfl
    · rw [Equiv.symm_apply_apply]
  rcases h1 with h1 | h1
  · refine ⟨⟨0, by omega⟩, by rw [h1], fun k => ?_⟩
    have := h3 _ (mem k)
    rw [h1] at this
    exact this.trans bot_le
  · obtain ⟨n, hn, e⟩ := List.mem_map.1 (show _ ∈ List.map _ _ from h1)
    obtain ⟨j, hj⟩ := of_drop_eq h d _ (of_decide_eq_true (List.mem_filter.1 hn).2)
    rw [hj, hy] at e
    refine ⟨j, by rw [← e], fun k => ?_⟩
    have := h3 _ (mem k)
    rw [← e] at this
    exact this

section Fetch
variable {α : Type}

/-- Fetching one item per draw by its number. -/
abbrev fetchDims (wf : GatherDims.WF Items ⟨2, ![4096, 1]⟩ Draws [] [0] [] [0] [] 1 ![1]) : GatherDims Items ⟨2, ![4096, 1]⟩ Draws where
  offsetDims := []
  collapsedSliceDims := [0]
  operandBatchingDims := []
  startIndicesBatchingDims := []
  startIndexMap := [0]
  indexVectorDim := 1
  sliceSizes := ![1]
  wf := wf

/-- The item fetched is the one numbered, when its number is in range. -/
theorem fetch_apply (wf : GatherDims.WF Items ⟨2, ![4096, 1]⟩ Draws [] [0] [] [0] [] 1 ![1])
    (x : Items.Idx → α) (idx : IVec ⟨2, ![4096, 1]⟩ 32) (d : Fin 4096) (j : Fin 16384000)
    (hj : idx (ValueIdx.ix2 d (0 : Fin 1)) = BitVec.ofNat 32 j.val) :
    Host.gather (fetchDims wf) x idx (ValueIdx.ix1 d) = x (ValueIdx.ix1 j) := by
  unfold Host.gather
  congr 1
  funext a
  obtain rfl : a = 0 := Subsingleton.elim _ _
  refine Fin.ext ?_
  show (fetchDims wf).start (ValueIdx.ix1 d) idx 0 + (fetchDims wf).batchCoord (ValueIdx.ix1 d) 0 + (fetchDims wf).offCoord (ValueIdx.ix1 d) 0 = j.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (fetchDims wf).startIndexMap from List.mem_singleton.mpr rfl)]
  have hsi : (fetchDims wf).siIdx (ValueIdx.ix1 d) ⟨List.idxOf (0 : Fin 1) (fetchDims wf).startIndexMap,
      List.idxOf_lt_length_iff.2 (List.mem_singleton.mpr rfl)⟩ = ValueIdx.ix2 d (0 : Fin 1) := by
    funext b; refine Fin.ext ?_
    match b with
    | ⟨0, _⟩ => rfl
    | ⟨1, _⟩ => rfl
  rw [hsi, hj]
  show min (BitVec.ofNat 32 j.val).toInt.toNat (16384000 - 1) = j.val
  have hlt := j.isLt
  have e : (BitVec.ofNat 32 j.val).toInt = j.val := by
    rw [BitVec.toInt_eq_toNat_cond, BitVec.toNat_ofNat, Nat.mod_eq_of_lt (by omega), if_pos (by omega)]
  rw [e, Int.toNat_natCast]
  omega

end Fetch

/-- What the precondition says of probabilities `x` and targets `y`: the targets are zero or one, and items whose scores
    tie for the greatest of a draw have the same weight. -/
structure Clear (x : Probs.Idx → EReal) (y : Probs.Idx → BitVec 32) : Prop where
  binary : ∀ i, y i = 0#32 ∨ y i = 1#32
  tie : ∀ (d : Fin 4096) (j k : Fin 16384000),
    (∀ l : Fin 16384000, score d.val l.val (weight (x (place l)) (y (place l))) ≤ score d.val j.val (weight (x (place j)) (y (place j)))) →
    (∀ l : Fin 16384000, score d.val l.val (weight (x (place l)) (y (place l))) ≤ score d.val k.val (weight (x (place k)) (y (place k)))) →
    weight (x (place j)) (y (place j)) = weight (x (place k)) (y (place k))

end Cert.Proof.Draw
end
-- ==== Proof.Winner.lean ====
module

public import proofs.«01_k».proof.Proof.Rows

@[expose] public section

noncomputable section

/-! A running winner over a set of items, and the winner among the lanes' winners. -/

namespace Cert.Proof.Draw

open Idealize.ShloMosaic

variable {S w : ℕ → EReal}

/-- `a` is the greatest score of the items of `A` with the weight of an item attaining it; of no items, the least score. -/
def Holds (S w : ℕ → EReal) (A : ℕ → Prop) (a : EReal × EReal) : Prop :=
  (∀ j, A j → S j ≤ a.1) ∧ (a.1 = ⊥ ∨ ∃ j, A j ∧ a.1 = S j ∧ a.2 = w j)

theorem holds_none {A : ℕ → Prop} (h : ∀ j, ¬ A j) (a : EReal × EReal) (ha : a.1 = ⊥) : Holds S w A a :=
  ⟨fun j hj => absurd hj (h j), .inl ha⟩

/-- One more item compared in. -/
theorem holds_step {A A' : ℕ → Prop} {a : EReal × EReal} (h : Holds S w A a) (j : ℕ) (hA : ∀ k, A' k ↔ A k ∨ k = j) :
    Holds S w A' (Scalar.select (Ideal.cmp .ogt (S j) a.1) (S j) a.1, Scalar.select (Ideal.cmp .ogt (S j) a.1) (w j) a.2) := by
  by_cases hlt : a.1 < S j
  · have e : Ideal.cmp .ogt (S j) a.1 = 1#1 := by simp [Ideal.cmp, hlt]
    rw [e]
    refine ⟨fun k hk => ?_, .inr ⟨j, (hA j).2 (.inr rfl), rfl, rfl⟩⟩
    rcases (hA k).1 hk with hk | rfl
    · exact (h.1 k hk).trans hlt.le
    · exact le_refl _
  · have e : Ideal.cmp .ogt (S j) a.1 = 0#1 := by simp [Ideal.cmp, hlt]
    rw [e]
    refine ⟨fun k hk => ?_, ?_⟩
    · rcases (hA k).1 hk with hk | rfl
      · exact h.1 k hk
      · exact not_lt.1 hlt
    · rcases h.2 with hb | ⟨k, hk, h1, h2⟩
      · exact .inl hb
      · exact .inr ⟨k, (hA k).2 (.inl hk), h1, h2⟩

theorem holds_congr {A A' : ℕ → Prop} {a : EReal × EReal} (h : Holds S w A a) (hA : ∀ k, A' k ↔ A k) : Holds S w A' a := by
  obtain rfl : A' = A := funext fun k => propext (hA k)
  exact h

/-- Between the lanes: the greatest weight held by a lane whose score is the greatest of all is the weight of any item
    of greatest score, when items tied for the greatest score weigh the same. -/
theorem winner {n m : ℕ} (a : Fin n → EReal × EReal) (lane : ℕ → Fin n)
    (hold : ∀ l, Holds S w (fun j => j < m ∧ lane j = l) (a l)) (hS : ∀ j, j < m → S j ≠ ⊥) (hw : ∀ j, j < m → -1 ≤ w j)
    (j : ℕ) (hj : j < m) (top : ∀ k, k < m → S k ≤ S j)
    (tie : ∀ k, k < m → (∀ i, i < m → S i ≤ S k) → w k = w j) :
    (Finset.univ : Finset (Fin n)).fold max ⊥ (fun l => Scalar.select (Ideal.cmp .oeq (a l).1
      ((Finset.univ : Finset (Fin n)).fold max ⊥ (fun l => (a l).1))) (a l).2 (-1)) = w j := by
  have best : (Finset.univ : Finset (Fin n)).fold max ⊥ (fun l => (a l).1) = S j := by
    apply le_antisymm
    · refine Finset.fold_max_le _ |>.2 ⟨bot_le, fun l _ => ?_⟩
      rcases (hold l).2 with h | ⟨k, hk, h, -⟩
      · rw [h]; exact bot_le
      · rw [h]; exact top k hk.1
    · exact Finset.le_fold_max _ |>.2 (.inr ⟨lane j, Finset.mem_univ _, (hold (lane j)).1 j ⟨hj, rfl⟩⟩)
  rw [best]
  have at_best : ∀ l, (a l).1 = S j → (a l).2 = w j := fun l e => by
    rcases (hold l).2 with h | ⟨k, hk, h1, h2⟩
    · exact absurd (e.symm.trans h) (hS j hj)
    · rw [h2]
      exact tie k hk.1 fun i hi => (top i hi).trans (le_of_eq (e.symm.trans h1))
  have lane_best : (a (lane j)).1 = S j := le_antisymm
    (by rw [← best]; exact Finset.le_fold_max _ |>.2 (.inr ⟨lane j, Finset.mem_univ _, le_refl _⟩)) ((hold (lane j)).1 j ⟨hj, rfl⟩)
  have pick : ∀ l, Scalar.select (Ideal.cmp .oeq (a l).1 (S j)) (a l).2 (-1) = if (a l).1 = S j then w j else -1 := fun l => by
    by_cases e : (a l).1 = S j
    · rw [if_pos e, at_best l e, show Ideal.cmp .oeq (a l).1 (S j) = 1#1 by simp [Ideal.cmp, e]]; rfl
    · rw [if_neg e, show Ideal.cmp .oeq (a l).1 (S j) = 0#1 by simp [Ideal.cmp, e]]; rfl
  apply le_antisymm
  · refine Finset.fold_max_le _ |>.2 ⟨bot_le, fun l _ => ?_⟩
    rw [pick]
    split
    · exact le_refl _
    · exact hw j hj
  · refine Finset.le_fold_max _ |>.2 (.inr ⟨lane j, Finset.mem_univ _, ?_⟩)
    rw [pick, if_pos lane_best]

end Cert.Proof.Draw
end
-- ==== Proof.KScore.lean ====
module

public import proofs.«01_k».proof.Proof.KWords
public import proofs.«01_k».proof.Proof.Winner
public import Idealize.ShloMosaic.Lib.ValueLayout
public import Idealize.ShloMosaic.Lib.Pointwise.Reshape

@[expose] public section

set_option maxRecDepth 8192

noncomputable section

/-! The kernel's weights and scores at a draw and an item are the mathematical ones. -/

namespace Cert.Proof.KernelIdeal

open Cert.KernelIdeal Cert.KernelIdeal.Gen
open Idealize.ShloMosaic Idealize.ShloMosaic.TcCoe Idealize.ShloMosaic.ValueIdx

/-- The Gumbel variate as the kernel writes it. -/
theorem gumbel_eq (b : BitVec 32) : (0 : EReal) - Ideal.log (0 - Ideal.log (max Draw.tiny ((Ideal.ofBits .f32 (IntOp.ori b 1065353216#32) - 1) * 1 + Draw.tiny)))
    = Draw.gumbel b := by
  rw [zero_sub, zero_sub, mul_one]
  rfl

variable (r : Fin 8) (l : Fin 1024)

theorem pay1_at (x : FVec Ideal S1x8x1024 .f32) (y : IVec S1x8x1024 32) :
    k0_pay1 (F := Ideal) x y (ValueIdx.ix2 r l) = Draw.weight (x (ValueIdx.ix3 (0 : Fin 1) r l)) (y (ValueIdx.ix3 (0 : Fin 1) r l)) := by
  have ex := shapeCast_1ab_ab_apply x shapeCasts_S1x8x1024_S8x1024 r l
  have ey := shapeCast_1ab_ab_apply y shapeCasts_S1x8x1024_S8x1024 r l
  rw [← ex, ← ey]
  rfl

theorem pay2_at (x : FVec Ideal S1x8x1024 .f32) (y : IVec S1x8x1024 32) :
    k0_pay2 (F := Ideal) x y (ValueIdx.ix2 r l) = Draw.weight (x (ValueIdx.ix3 (0 : Fin 1) r l)) (y (ValueIdx.ix3 (0 : Fin 1) r l)) := by
  unfold k0_pay2
  rw [shapeCast_id]
  exact pay1_at r l x y

theorem pay3_at (x : FVec Ideal S1x8x1024 .f32) (y : IVec S1x8x1024 32) :
    k0_pay3 (F := Ideal) x y (ValueIdx.ix2 r l) = Ideal.log (Draw.weight (x (ValueIdx.ix3 (0 : Fin 1) r l)) (y (ValueIdx.ix3 (0 : Fin 1) r l))) := by
  unfold k0_pay3
  rw [shapeCast_id, ← pay1_at r l x y]
  rfl

theorem line_at (x : FVec Ideal S1x1024 .f32) :
    broadcastTo S8x1024 (shapeCast S1x1024 x shapeCasts_S1x1024_S1x1024) broadcasts_S1x1024_S8x1024 (ValueIdx.ix2 r l) = x (ValueIdx.ix2 (0 : Fin 1) l) := by
  rw [shapeCast_id]
  refine broadcastTo_apply x broadcasts_S1x1024_S8x1024 _ _ fun b => ?_
  match b with
  | ⟨0, _⟩ => rfl
  | ⟨1, _⟩ => rfl

theorem pay12_at (b : IVec S8x1024 32) (x : FVec Ideal S1x1024 .f32) :
    k0_pay12 (F := Ideal) b 1065353216#32 x (ValueIdx.ix2 r l) = Draw.gumbel (b (ValueIdx.ix2 r l)) + x (ValueIdx.ix2 (0 : Fin 1) l) := by
  rw [← gumbel_eq, ← line_at r l x, ← Ideal.ofBits_zero_f32, ← Ideal.ofBits_one_f32]
  rfl

theorem pay14_at (acc : FVec Ideal S8x1024 .f32) (b : IVec S8x1024 32) (x : FVec Ideal S1x1024 .f32) :
    k0_pay14 (F := Ideal) acc b 1065353216#32 x (ValueIdx.ix2 r l)
      = (Scalar.select (Ideal.cmp .ogt (Draw.gumbel (b (ValueIdx.ix2 r l)) + x (ValueIdx.ix2 (0 : Fin 1) l)) (acc (ValueIdx.ix2 r l)))
        (Draw.gumbel (b (ValueIdx.ix2 r l)) + x (ValueIdx.ix2 (0 : Fin 1) l)) (acc (ValueIdx.ix2 r l)) : EReal) := by
  rw [← pay12_at]
  rfl

theorem pay15_at (acc u : FVec Ideal S8x1024 .f32) (b : IVec S8x1024 32) (x z : FVec Ideal S1x1024 .f32) :
    k0_pay15 (F := Ideal) acc u b 1065353216#32 x z (ValueIdx.ix2 r l)
      = (Scalar.select (Ideal.cmp .ogt (Draw.gumbel (b (ValueIdx.ix2 r l)) + x (ValueIdx.ix2 (0 : Fin 1) l)) (acc (ValueIdx.ix2 r l)))
        (z (ValueIdx.ix2 (0 : Fin 1) l)) (u (ValueIdx.ix2 r l)) : EReal) := by
  rw [← pay12_at, ← line_at r l z]
  rfl

theorem rowOf_at (X : FVec Ideal S8x1024 .f32) (k : Fin k0_t2_loop.trips) :
    rowOf (F := Ideal) X k (ValueIdx.ix2 (0 : Fin 1) l) = X (ValueIdx.ix2 ⟨k.val, lt_of_lt_of_eq k.isLt trips2⟩ l) := by
  unfold rowOf
  congr 1
  funext b
  apply Fin.ext
  rw [show ((Rect.unit (s := S8x1024) (k0_off2 k) S1x1024.size (k0_off2_inb k)).emb (ValueIdx.ix2 (0 : Fin 1) l) b).val
      = k0_off2 k b + 1 * ((ValueIdx.ix2 (0 : Fin 1) l : S1x1024.Idx) b).val from rfl, k0_off2_eq]
  match b with
  | ⟨0, _⟩ => show k.val + 1 * 0 = k.val; omega
  | ⟨1, _⟩ => show 0 + 1 * l.val = l.val; omega

end Cert.Proof.KernelIdeal
end
-- ==== Proof.KInvariant.lean ====
module

public import proofs.«01_k».proof.Proof.KScore

@[expose] public section

set_option maxRecDepth 8192

noncomputable section

/-! The running arrays hold, for every draw and lane, the winner among the lane's items of the tiles met so far. -/

namespace Cert.Proof.KernelIdeal

open Cert.KernelIdeal Cert.KernelIdeal.Gen
open Idealize.ShloMosaic Idealize.ShloMosaic.TcCoe Idealize.ShloMosaic.ValueIdx

/-- The items of lane `l` among the first `n` rows of 1024. -/
def laneItems (n l j : ℕ) : Prop := j < n * 1024 ∧ j % 1024 = l

theorem laneItems_zero (l j : ℕ) : ¬ laneItems 0 l j := by unfold laneItems; omega

theorem laneItems_step (n k l j : ℕ) (hl : l < 1024) :
    laneItems (n * 8 + (k + 1)) l j ↔ laneItems (n * 8 + k) l j ∨ j = itemAt n k l := by
  unfold laneItems itemAt; omega

/-- The scores of a draw, given the items' weights. -/
def scores (wt : ℕ → EReal) (d j : ℕ) : EReal := Draw.score d j (wt j)

variable (wt : ℕ → EReal)

section Tile
variable (i : grid0.Coords) (a : Fin k0_t1_loop.trips) (L W : FVec Ideal S8x1024 .f32)
  (hL : ∀ (k : Fin 8) (l : Fin 1024), L (ValueIdx.ix2 k l) = Ideal.log (wt (itemAt (i 1).val k.val l.val)))
  (hW : ∀ (k : Fin 8) (l : Fin 1024), W (ValueIdx.ix2 k l) = wt (itemAt (i 1).val k.val l.val))
  (r : Fin 8) (l : Fin 1024)
include hL hW

theorem trip2_at (k : Fin k0_t2_loop.trips) (acc : FVec Ideal S8x1024 .f32 × FVec Ideal S8x1024 .f32) :
    ((trip2 (F := Ideal) i (BitVec.ofNat 32 (i 1).val) lanes a L W k acc).1 (ValueIdx.ix2 r l),
      (trip2 (F := Ideal) i (BitVec.ofNat 32 (i 1).val) lanes a L W k acc).2 (ValueIdx.ix2 r l))
    = ((Scalar.select (Ideal.cmp .ogt (scores wt (drawAt (i 0).val a.val r.val) (itemAt (i 1).val k.val l.val)) (acc.1 (ValueIdx.ix2 r l)))
          (scores wt (drawAt (i 0).val a.val r.val) (itemAt (i 1).val k.val l.val)) (acc.1 (ValueIdx.ix2 r l)),
        Scalar.select (Ideal.cmp .ogt (scores wt (drawAt (i 0).val a.val r.val) (itemAt (i 1).val k.val l.val)) (acc.1 (ValueIdx.ix2 r l)))
          (wt (itemAt (i 1).val k.val l.val)) (acc.2 (ValueIdx.ix2 r l))) : EReal × EReal) := by
  have e : Draw.gumbel (bitsOf i (BitVec.ofNat 32 (i 1).val) lanes a k (ValueIdx.ix2 r l)) + rowOf (F := Ideal) L k (ValueIdx.ix2 (0 : Fin 1) l)
      = scores wt (drawAt (i 0).val a.val r.val) (itemAt (i 1).val k.val l.val) := by
    rw [bits_at, rowOf_at, hL]
    rfl
  have ew : rowOf (F := Ideal) W k (ValueIdx.ix2 (0 : Fin 1) l) = wt (itemAt (i 1).val k.val l.val) := by
    rw [rowOf_at, hW]
  have e1 := pay14_at r l acc.1 (bitsOf i (BitVec.ofNat 32 (i 1).val) lanes a k) (rowOf (F := Ideal) L k)
  have e2 := pay15_at r l acc.1 acc.2 (bitsOf i (BitVec.ofNat 32 (i 1).val) lanes a k) (rowOf (F := Ideal) L k) (rowOf (F := Ideal) W k)
  rw [e] at e1 e2
  rw [ew] at e2
  exact Prod.ext e1 e2

/-- The winners through a tile's rows. -/
theorem inner_holds (init : FVec Ideal S8x1024 .f32 × FVec Ideal S8x1024 .f32)
    (h0 : Draw.Holds (scores wt (drawAt (i 0).val a.val r.val)) wt (laneItems ((i 1).val * 8) l.val) (init.1 (ValueIdx.ix2 r l), init.2 (ValueIdx.ix2 r l)))
    (k : ℕ) (hk : k ≤ 8) :
    Draw.Holds (scores wt (drawAt (i 0).val a.val r.val)) wt (laneItems ((i 1).val * 8 + k) l.val)
      ((inner (F := Ideal) i (BitVec.ofNat 32 (i 1).val) lanes a L W init k).1 (ValueIdx.ix2 r l),
        (inner (F := Ideal) i (BitVec.ofNat 32 (i 1).val) lanes a L W init k).2 (ValueIdx.ix2 r l)) := by
  induction k with
  | zero => exact h0
  | succ k ih =>
    have hk' : k < k0_t2_loop.trips := by rw [trips2]; omega
    have e := inner_succ (F := Ideal) i (BitVec.ofNat 32 (i 1).val) lanes a L W init ⟨k, hk'⟩
    rw [e, trip2_at wt i a L W hL hW r l ⟨k, hk'⟩]
    exact Draw.holds_step (ih (by omega)) _ fun j => laneItems_step _ _ _ _ l.isLt
end Tile

/-- The running arrays of half `h` after `n` tiles. -/
def Held (h n : ℕ) (S V : FVec Ideal S256x8x1024 .f32) : Prop :=
  ∀ (a : Fin 256) (r : Fin 8) (l : Fin 1024),
    Draw.Holds (scores wt (drawAt h a.val r.val)) wt (laneItems (n * 8) l.val) (S (ValueIdx.ix3 a r l), V (ValueIdx.ix3 a r l))

theorem held_start (h : ℕ) : Held wt h 0 (k0_pay4 (F := Ideal)) (k0_pay5 (F := Ideal)) := fun a r l => by
  refine Draw.holds_none (fun j => ?_) _ ?_
  · rw [Nat.zero_mul]; exact laneItems_zero _ j
  · show k0_pay4 (F := Ideal) (ValueIdx.ix3 a r l) = ⊥
    unfold k0_pay4
    rw [shapeCast_id]
    exact Draw.neg_inf

theorem slab_at (X : FVec Ideal S256x8x1024 .f32) (a : Fin k0_t1_loop.trips) (r : Fin 8) (l : Fin 1024) :
    slab (F := Ideal) X a (ValueIdx.ix3 (0 : Fin 1) r l) = X (ValueIdx.ix3 ⟨a.val, lt_of_lt_of_eq a.isLt trips1⟩ r l) := by
  unfold slab
  congr 1
  funext b
  apply Fin.ext
  rw [show ((Rect.unit (s := S256x8x1024) (k0_off1 a) S1x8x1024.size (k0_off1_inb a)).emb (ValueIdx.ix3 (0 : Fin 1) r l) b).val
      = k0_off1 a b + 1 * ((ValueIdx.ix3 (0 : Fin 1) r l : S1x8x1024.Idx) b).val from rfl, k0_off1_eq]
  match b with
  | ⟨0, _⟩ => show a.val + 1 * 0 = a.val; omega
  | ⟨1, _⟩ => show 0 + 1 * r.val = r.val; omega
  | ⟨2, _⟩ => show 0 + 1 * l.val = l.val; omega

theorem start_at (X : FVec Ideal S256x8x1024 .f32) (a : Fin k0_t1_loop.trips) (r : Fin 8) (l : Fin 1024) :
    shapeCast S8x1024 (slab (F := Ideal) X a) shapeCasts_S1x8x1024_S8x1024 (ValueIdx.ix2 r l) = X (ValueIdx.ix3 ⟨a.val, lt_of_lt_of_eq a.isLt trips1⟩ r l) := by
  rw [shapeCast_1ab_ab_apply, slab_at]

/-- One tile compared in. -/
theorem held_step (i : grid0.Coords) (x : FVec Ideal S1x8x1024 .f32) (y : IVec S1x8x1024 32) (S V : FVec Ideal S256x8x1024 .f32)
    (hx : ∀ (k : Fin 8) (l : Fin 1024), Draw.weight (x (ValueIdx.ix3 (0 : Fin 1) k l)) (y (ValueIdx.ix3 (0 : Fin 1) k l)) = wt (itemAt (i 1).val k.val l.val))
    (h : Held wt (i 0).val (i 1).val S V) :
    Held wt (i 0).val ((i 1).val + 1) (upS (F := Ideal) i x y S V) (upW (F := Ideal) i x y S V) := fun a r l => by
  have hL : ∀ (k : Fin 8) (l : Fin 1024), k0_pay3 (F := Ideal) x y (ValueIdx.ix2 k l) = Ideal.log (wt (itemAt (i 1).val k.val l.val)) :=
    fun k l => by rw [pay3_at, hx]
  have hW : ∀ (k : Fin 8) (l : Fin 1024), k0_pay2 (F := Ideal) x y (ValueIdx.ix2 k l) = wt (itemAt (i 1).val k.val l.val) :=
    fun k l => by rw [pay2_at, hx]
  have ha : a.val < k0_t1_loop.trips := lt_of_lt_of_eq a.isLt trips1.symm
  have h0 : Draw.Holds (scores wt (drawAt (i 0).val a.val r.val)) wt (laneItems ((i 1).val * 8) l.val)
      (k0_pay10 (slab (F := Ideal) S ⟨a.val, ha⟩) (ValueIdx.ix2 r l), k0_pay11 (slab (F := Ideal) V ⟨a.val, ha⟩) (ValueIdx.ix2 r l)) := by
    unfold k0_pay10 k0_pay11
    rw [start_at, start_at]
    exact h a r l
  have key := inner_holds wt i ⟨a.val, ha⟩ (k0_pay3 (F := Ideal) x y) (k0_pay2 (F := Ideal) x y) hL hW r l
    (k0_pay10 (slab (F := Ideal) S ⟨a.val, ha⟩), k0_pay11 (slab (F := Ideal) V ⟨a.val, ha⟩)) h0 8 (le_refl 8)
  have e8 : ((i 1).val + 1) * 8 = (i 1).val * 8 + 8 := by ring
  have er : inRow (ValueIdx.ix3 a r l) = ValueIdx.ix2 r l := funext fun b => by match b with | ⟨0, _⟩ => rfl | ⟨1, _⟩ => rfl
  have et : theRow (ValueIdx.ix3 a r l) = ⟨a.val, ha⟩ := rfl
  have eS : upS (F := Ideal) i x y S V (ValueIdx.ix3 a r l)
      = (inner (F := Ideal) i (BitVec.ofNat 32 (i 1).val) lanes ⟨a.val, ha⟩ (k0_pay3 (F := Ideal) x y) (k0_pay2 (F := Ideal) x y)
        (k0_pay10 (slab (F := Ideal) S ⟨a.val, ha⟩), k0_pay11 (slab (F := Ideal) V ⟨a.val, ha⟩)) 8).1 (ValueIdx.ix2 r l) := by
    unfold upS nextS
    rw [if_pos (show ((ValueIdx.ix3 a r l : S256x8x1024.Idx) 0).val < 256 from a.isLt), er, et]
    unfold rowEnd
    rw [trips2]
  have eV : upW (F := Ideal) i x y S V (ValueIdx.ix3 a r l)
      = (inner (F := Ideal) i (BitVec.ofNat 32 (i 1).val) lanes ⟨a.val, ha⟩ (k0_pay3 (F := Ideal) x y) (k0_pay2 (F := Ideal) x y)
        (k0_pay10 (slab (F := Ideal) S ⟨a.val, ha⟩), k0_pay11 (slab (F := Ideal) V ⟨a.val, ha⟩)) 8).2 (ValueIdx.ix2 r l) := by
    unfold upW nextW
    rw [if_pos (show ((ValueIdx.ix3 a r l : S256x8x1024.Idx) 0).val < 256 from a.isLt), er, et]
    unfold rowEnd
    rw [trips2]
  rw [e8, eS, eV]
  exact key

end Cert.Proof.KernelIdeal
end
-- ==== Proof.KClose.lean ====
module

public import proofs.«01_k».proof.Proof.KInvariant

@[expose] public section

set_option maxRecDepth 8192

noncomputable section

/-! The closing reduction over the lanes of eight draws, at its arithmetic. -/

namespace Cert.Proof.KernelIdeal

open Cert.KernelIdeal Cert.KernelIdeal.Gen
open Idealize.ShloMosaic Idealize.ShloMosaic.TcCoe Idealize.ShloMosaic.ValueIdx

theorem minus_one : Ideal.ofBits .f32 0xBF800000#32 = -1 := by
  have h : Ideal.ofBits .f32 0xBF800000#32 = ((-(8388608 * (2 : ℝ) ^ (-23 : ℤ)) : ℝ) : EReal) := by simp [Ideal.ofBits, Ideal.ieee]
  rw [h]
  norm_num

/-- The greatest of a row of lanes. -/
def top (f : Fin 1024 → EReal) : EReal := (Finset.univ : Finset (Fin 1024)).fold max ⊥ f

/-- The greatest of each row of lanes, as the kernel takes it. -/
def rowTop (v : FVec Ideal S8x1024 .f32) : FVec Ideal S8 .f32 :=
  multiReduction .maximumf [1] S8 v 0xFF800000#32 reduces_S8x1024_S8 (.inl rfl) rfl

theorem rowTop_at (v : FVec Ideal S8x1024 .f32) (r : Fin 8) : rowTop v (ValueIdx.ix1 r) = top fun l => v (ValueIdx.ix2 r l) := by
  have e : (fun l : Fin 1024 => v (ValueIdx.ix2 r l)) = v ∘ reduces_S8x1024_S8.lift (ValueIdx.ix1 r) := by
    funext l
    refine congrArg v (funext fun b => Fin.ext ?_)
    match b with
    | ⟨0, _⟩ => rfl
    | ⟨1, _⟩ => rfl
  unfold rowTop top
  rw [e, ← Draw.neg_inf]
  exact Ideal.multiReduction_maximumf_single v 0xFF800000#32 reduces_S8x1024_S8 (.inl rfl) rfl (ValueIdx.ix1 r)

theorem column8_at (x : FVec Ideal S8 .f32) (r : Fin 8) : shapeCast S8x1 x shapeCasts_S8_S8x1 (ValueIdx.ix2 r (0 : Fin 1)) = x (ValueIdx.ix1 r) := by
  refine shapeCast_apply x shapeCasts_S8_S8x1 _ _ ?_
  rw [Shape.rowMajor_val_two, Shape.rowMajor_val_one]
  show r.val = r.val * 1 + 0
  omega

theorem wide_at (x : FVec Ideal S8 .f32) (r : Fin 8) (l : Fin 1024) :
    broadcastTo S8x1024 (shapeCast S8x1 x shapeCasts_S8_S8x1) broadcasts_S8x1_S8x1024 (ValueIdx.ix2 r l) = x (ValueIdx.ix1 r) := by
  refine (broadcastTo_apply _ broadcasts_S8x1_S8x1024 _ (ValueIdx.ix2 r (0 : Fin 1)) fun b => ?_).trans (column8_at x r)
  match b with
  | ⟨0, _⟩ => rfl
  | ⟨1, _⟩ => rfl

/-- The sum over eight draws, as the kernel takes it. -/
def sum8 (v : FVec Ideal S8x1 .f32) : FVec Ideal S1 .f32 :=
  multiReduction .add [1, 2] S1 (shapeCast S1x8x1 v shapeCasts_S8x1_S1x8x1) 0x00000000#32 reduces_S1x8x1_S1 (.inl rfl) rfl

theorem sum8_at (v : FVec Ideal S8x1 .f32) (j : S1.Idx) : sum8 v j = ∑ r : Fin 8, v (ValueIdx.ix2 r (0 : Fin 1)) := by
  unfold sum8
  refine (Ideal.multiReduction_add_total (shapeCast S1x8x1 v shapeCasts_S8x1_S1x8x1) 0x00000000#32 reduces_S1x8x1_S1 (by decide) (.inl rfl) rfl j).trans ?_
  refine (Equiv.sum_comp (Shape.reshapeEquiv shapeCasts_S8x1_S1x8x1) v).trans ?_
  refine (ValueIdx.sum_idx2 v).trans (Finset.sum_congr rfl fun r _ => ?_)
  exact Fin.sum_univ_one _

/-- The lanes' weights where the lane's score is the row's greatest, minus one elsewhere. -/
def kept (s w : FVec Ideal S8x1024 .f32) : FVec Ideal S8x1024 .f32 :=
  select (cmpf .oeq s (broadcastTo S8x1024 (shapeCast S8x1 (rowTop s) shapeCasts_S8_S8x1) broadcasts_S8x1_S8x1024)) w
    (broadcast S8x1024 (Scalar.ofBits .f32 0xBF800000#32))

/-- The weight the kernel takes for a draw, from the lanes' winners. -/
def picked (s w : Fin 1024 → EReal) : EReal := top fun l => Scalar.select (Ideal.cmp .oeq (s l) (top s)) (w l) (-1)

theorem kept_at (s w : FVec Ideal S8x1024 .f32) (r : Fin 8) (l : Fin 1024) :
    kept s w (ValueIdx.ix2 r l) = (Scalar.select (Ideal.cmp .oeq (s (ValueIdx.ix2 r l)) (top fun l => s (ValueIdx.ix2 r l))) (w (ValueIdx.ix2 r l)) (-1) : EReal) := by
  rw [← minus_one, ← rowTop_at, ← wide_at (rowTop s) r l]
  rfl

/-- The losses of eight draws of weights `x`. -/
def lossOf (x : FVec Ideal S8x1 .f32) : FVec Ideal S8x1 .f32 :=
  subf (broadcast S8x1 (Scalar.ofBits .f32 0x00000000#32)) (log (subf (broadcast S8x1 (Scalar.ofBits .f32 0x3F800000#32)) x))

theorem lossOf_at (x : FVec Ideal S8x1 .f32) (y : S8x1.Idx) : lossOf x y = -Ideal.log (1 - x y) := by
  have key : lossOf x y = (Ideal.ofBits .f32 0x00000000#32 - Ideal.log (Ideal.ofBits .f32 0x3F800000#32 - x y) : EReal) := rfl
  rw [key, Ideal.ofBits_zero_f32, Ideal.ofBits_one_f32, zero_sub]

/-- The losses of eight draws from the lanes' winners. -/
def losses (s w : FVec Ideal S8x1024 .f32) : FVec Ideal S8x1 .f32 := lossOf (shapeCast S8x1 (rowTop (kept s w)) shapeCasts_S8_S8x1)

theorem losses_at (s w : FVec Ideal S8x1024 .f32) (r : Fin 8) :
    losses s w (ValueIdx.ix2 r (0 : Fin 1)) = -Ideal.log (1 - picked (fun l => s (ValueIdx.ix2 r l)) (fun l => w (ValueIdx.ix2 r l))) := by
  have e : rowTop (kept s w) (ValueIdx.ix1 r) = picked (fun l => s (ValueIdx.ix2 r l)) (fun l => w (ValueIdx.ix2 r l)) := by
    rw [rowTop_at]
    unfold picked
    exact congrArg top (funext fun l => kept_at s w r l)
  unfold losses
  rw [lossOf_at, column8_at, e]

theorem pay18_eq (acc : EReal) (s w : FVec Ideal S1x8x1024 .f32) :
    k0_pay18 (F := Ideal) acc s w = acc + extractAt ![0, 0, 0] (shapeCast S1x1x1
      (sum8 (losses (shapeCast S8x1024 s shapeCasts_S1x8x1024_S8x1024) (shapeCast S8x1024 w shapeCasts_S1x8x1024_S8x1024)))
      shapeCasts_S1_S1x1x1) inpos_S1x1x1_p0_0_0 := rfl

/-- Eight draws' losses added. -/
theorem pay18_at (acc : EReal) (s w : FVec Ideal S1x8x1024 .f32) :
    k0_pay18 (F := Ideal) acc s w = acc + ∑ r : Fin 8,
      -Ideal.log (1 - picked (fun l => s (ValueIdx.ix3 (0 : Fin 1) r l)) (fun l => w (ValueIdx.ix3 (0 : Fin 1) r l))) := by
  rw [pay18_eq]
  refine congrArg (acc + ·) ((sum8_at _ _).trans (Finset.sum_congr rfl fun r _ => ?_))
  rw [losses_at]
  simp only [shapeCast_1ab_ab_apply]

theorem slab3_at (i : grid0.Coords) (h : k0_cond2 i = 1#1) (X : FVec Ideal S256x8x1024 .f32) (a : Fin k0_t3_loop.trips) (r : Fin 8) (l : Fin 1024) :
    slab3 (F := Ideal) i h X a (ValueIdx.ix3 (0 : Fin 1) r l) = X (ValueIdx.ix3 ⟨a.val, lt_of_lt_of_eq a.isLt trips3⟩ r l) := by
  unfold slab3
  congr 1
  funext b
  apply Fin.ext
  rw [show ((Rect.unit (s := S256x8x1024) (k0_off3 a) S1x8x1024.size (k0_off3_inb i a h)).emb (ValueIdx.ix3 (0 : Fin 1) r l) b).val
      = k0_off3 a b + 1 * ((ValueIdx.ix3 (0 : Fin 1) r l : S1x8x1024.Idx) b).val from rfl, k0_off3_eq]
  match b with
  | ⟨0, _⟩ => show a.val + 1 * 0 = a.val; omega
  | ⟨1, _⟩ => show 0 + 1 * r.val = r.val; omega
  | ⟨2, _⟩ => show 0 + 1 * l.val = l.val; omega

/-- The row block's loss, when every draw's pick is known. -/
theorem lossUpTo_at (i : grid0.Coords) (h : k0_cond2 i = 1#1) (S V : FVec Ideal S256x8x1024 .f32) (f : ℕ → EReal)
    (hp : ∀ (a : Fin 256) (r : Fin 8), picked (fun l => S (ValueIdx.ix3 a r l)) (fun l => V (ValueIdx.ix3 a r l)) = f (a.val * 8 + r.val))
    (n : ℕ) (hn : n ≤ 256) :
    lossUpTo (F := Ideal) i h S V (Scalar.ofBits .f32 0x00000000#32) n = ∑ d ∈ Finset.range (n * 8), -Ideal.log (1 - f d) := by
  induction n with
  | zero => exact Ideal.ofBits_zero_f32
  | succ n ih =>
    have hn' : n < k0_t3_loop.trips := by rw [trips3]; omega
    have e := lossUpTo_succ (F := Ideal) i h S V (Scalar.ofBits .f32 0x00000000#32) ⟨n, hn'⟩
    rw [e, pay18_at, ih (by omega), Nat.succ_mul, Finset.sum_range_add, Finset.sum_range (n := 8)]
    refine congrArg _ (Finset.sum_congr rfl fun r _ => ?_)
    simp only [slab3_at]
    rw [hp]

end Cert.Proof.KernelIdeal
end
-- ==== Proof.KBlock.lean ====
module

public import proofs.«01_k».proof.Proof.KInvariant
public import proofs.«01_k».proof.Proof.Frame
public import Idealize.ShloMosaic.Lib.Pipeline.ValueKit.Geometry
public import Idealize.ShloMosaic.Lib.StableHlo.Run

@[expose] public section

set_option maxRecDepth 8192

noncomputable section

/-! The blocks the kernel reads are the arguments read in order of the items. -/

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem V_v0 : V (F := Ideal) m c main_v0 = shapeCast S2000x8x1024 (m ((c : Thread nD τ).loc main_arg0) : FVec Ideal S16384x1000 .f32) shapeCasts_S16384x1000_S2000x8x1024 := by
  show StableHlo.after hostOps0 _ (Proc.devRef .tc main_v0) = _
  after_results
  rfl

theorem V_v1 : V (F := Ideal) m c main_v1 = shapeCast S2000x8x1024 (m ((c : Thread nD τ).loc main_arg1) : IVec S16384x1000 32) shapeCasts_S16384x1000_S2000x8x1024 := by
  show StableHlo.after hostOps0 _ (Proc.devRef .tc main_v1) = _
  after_results
  rfl

theorem coords0 (t : Fin cfg0.N) : (grid0.coords t 0).val = t.val / 2000 := by
  have ht : t.val < 4000 := Nat.lt_of_lt_of_eq t.isLt N_0
  have e : (grid0.coords t 0).val = t.val / 2000 % 2 := Pipeline.Grid.coords_val t 0 (by decide) rfl
  omega

theorem coords1 (t : Fin cfg0.N) : (grid0.coords t 1).val = t.val % 2000 := by
  have e : (grid0.coords t 1).val = t.val / 1 % 2000 := Pipeline.Grid.coords_val t 1 (by decide) rfl
  omega

theorem index0 (t : Fin cfg0.N) : win0_0.index t = ![t.val % 2000, 0, 0] := by
  have e : (BitVec.ofNat 32 (grid0.coords t 1).val).toNat = t.val % 2000 := by
    rw [coords1, BitVec.toNat_ofNat]; omega
  show ![(BitVec.ofNat 32 (grid0.coords t 1).val).toNat, 0, 0] = _
  rw [e]

theorem index1 (t : Fin cfg0.N) : win0_1.index t = ![t.val % 2000, 0, 0] := index0 t

/-- An array in order of the items, read at a tile. -/
theorem tile_at {α : Type} (x : S16384x1000.Idx → α) (n : Fin 2000) (k : Fin 8) (l : Fin 1024) (h : itemAt n.val k.val l.val < 16384000) :
    shapeCast S2000x8x1024 x shapeCasts_S16384x1000_S2000x8x1024 (ValueIdx.ix3 n k l) = x (Draw.place ⟨itemAt n.val k.val l.val, h⟩) := by
  refine shapeCast_apply x _ _ _ ?_
  rw [Shape.rowMajor_val_two, Shape.rowMajor_val_three]
  show itemAt n.val k.val l.val / 1000 * 1000 + itemAt n.val k.val l.val % 1000 = (n.val * 8 + k.val) * 1024 + l.val
  unfold itemAt
  omega

theorem probAt_at (t : Fin cfg0.N) (k : Fin 8) (l : Fin 1024) (h : itemAt (t.val % 2000) k.val l.val < 16384000) :
    probAt (F := Ideal) m c t (ValueIdx.ix3 (0 : Fin 1) k l) = (m ((c : Thread nD τ).loc main_arg0) : FVec Ideal S16384x1000 .f32) (Draw.place ⟨itemAt (t.val % 2000) k.val l.val, h⟩) := by
  refine Eq.trans ?_ (tile_at _ ⟨t.val % 2000, Nat.mod_lt _ (by decide)⟩ k l h)
  unfold probAt
  blk_simp [iblk]
  show V (F := Ideal) m c main_v0 _ = _
  rw [V_v0]
  congr 1
  funext b
  apply Fin.ext
  blk_simp [index0]
  match b with
  | ⟨0, _⟩ => show t.val % 2000 * 1 + 0 = t.val % 2000; omega
  | ⟨1, _⟩ => show 0 * 8 + k.val = k.val; omega
  | ⟨2, _⟩ => show 0 * 1024 + l.val = l.val; omega

theorem targAt_at (t : Fin cfg0.N) (k : Fin 8) (l : Fin 1024) (h : itemAt (t.val % 2000) k.val l.val < 16384000) :
    targAt (F := Ideal) m c t (ValueIdx.ix3 (0 : Fin 1) k l) = (m ((c : Thread nD τ).loc main_arg1) : IVec S16384x1000 32) (Draw.place ⟨itemAt (t.val % 2000) k.val l.val, h⟩) := by
  refine Eq.trans ?_ (tile_at _ ⟨t.val % 2000, Nat.mod_lt _ (by decide)⟩ k l h)
  unfold targAt
  blk_simp [iblk]
  show V (F := Ideal) m c main_v1 _ = _
  rw [V_v1]
  congr 1
  funext b
  apply Fin.ext
  blk_simp [index1]
  match b with
  | ⟨0, _⟩ => show t.val % 2000 * 1 + 0 = t.val % 2000; omega
  | ⟨1, _⟩ => show 0 * 8 + k.val = k.val; omega
  | ⟨2, _⟩ => show 0 * 1024 + l.val = l.val; omega

end Cert.Proof.KernelIdeal
end
-- ==== Proof.KRun.lean ====
module

public import proofs.«01_k».proof.Proof.KClose
public import proofs.«01_k».proof.Proof.KBlock

@[expose] public section

set_option maxRecDepth 8192

noncomputable section

/-! What the kernel leaves in its output block: the loss of the draws of the half, at the items of greatest score. -/

namespace Cert.Proof.KernelIdeal

open Cert.KernelIdeal Cert.KernelIdeal.Gen
open Idealize.ShloMosaic Idealize.ShloMosaic.TcCoe

variable (m : (ℓ : Loc nD τ sig) → Buf (Elt Ideal) ℓ) (c : Dev nD)

/-- The arguments as the kernel finds them. -/
def probs : FVec Ideal S16384x1000 .f32 := m ((c : Thread nD τ).loc main_arg0)
def targs : IVec S16384x1000 32 := m ((c : Thread nD τ).loc main_arg1)

/-- The items' weights. -/
def wtOf (j : ℕ) : EReal :=
  if h : j < 16384000 then Draw.weight (probs m c (Draw.place ⟨j, h⟩)) (targs m c (Draw.place ⟨j, h⟩)) else 0

theorem wtOf_eq (j : Fin 16384000) : wtOf m c j.val = Draw.weight (probs m c (Draw.place j)) (targs m c (Draw.place j)) := dif_pos j.isLt

/-- The weights of the block at point `t`. -/
theorem block_weight (t : Fin cfg0.N) (k : Fin 8) (l : Fin 1024) :
    Draw.weight (probAt (F := Ideal) m c t (ValueIdx.ix3 (0 : Fin 1) k l)) (targAt (F := Ideal) m c t (ValueIdx.ix3 (0 : Fin 1) k l))
      = wtOf m c (itemAt (grid0.coords t 1).val k.val l.val) := by
  have h : itemAt (t.val % 2000) k.val l.val < 16384000 := by
    unfold itemAt; have := k.isLt; have := l.isLt; have := Nat.mod_lt t.val (show 0 < 2000 by decide); omega
  rw [coords1, probAt_at m c t k l h, targAt_at m c t k l h]
  exact (wtOf_eq m c ⟨_, h⟩).symm

/-- One point keeps the running arrays at the winners. -/
theorem pointStep_held (t : Fin cfg0.N) (p : FVec Ideal S256x8x1024 .f32 × FVec Ideal S256x8x1024 .f32)
    (h : Held (wtOf m c) (t.val / 2000) (t.val % 2000) p.1 p.2) :
    Held (wtOf m c) (t.val / 2000) (t.val % 2000 + 1) (pointStep (F := Ideal) m c t p).1 (pointStep (F := Ideal) m c t p).2 := by
  rw [← coords0, ← coords1] at h ⊢
  exact held_step (wtOf m c) (grid0.coords t) (probAt (F := Ideal) m c t) (targAt (F := Ideal) m c t) p.1 p.2 (block_weight m c t) h

theorem runAt_held (n : ℕ) (hn : n < cfg0.N) :
    Held (wtOf m c) (n / 2000) (n % 2000 + 1) (runAt (F := Ideal) m c n hn).1 (runAt (F := Ideal) m c n hn).2 := by
  induction n with
  | zero =>
    rw [runAt_first (F := Ideal) m c ⟨0, hn⟩ rfl]
    exact pointStep_held m c ⟨0, hn⟩ _ (held_start _ _)
  | succ n ih =>
    by_cases h0 : (n + 1) % 2000 = 0
    · rw [runAt_first (F := Ideal) m c ⟨n + 1, hn⟩ h0]
      refine pointStep_held m c ⟨n + 1, hn⟩ _ ?_
      show Held _ _ ((n + 1) % 2000) _ _
      rw [h0]
      exact held_start _ _
    · rw [runAt_next (F := Ideal) m c ⟨n + 1, hn⟩ h0]
      refine pointStep_held m c ⟨n + 1, hn⟩ _ ?_
      have e1 : (n + 1) / 2000 = n / 2000 := by omega
      have e2 : (n + 1) % 2000 = n % 2000 + 1 := by omega
      show Held _ ((n + 1) / 2000) ((n + 1) % 2000) _ _
      rw [e1, e2]
      exact ih (Nat.lt_of_succ_lt hn)

section Pick
variable (hc : Draw.Clear (probs m c) (targs m c)) (J : Fin 4096 → Fin 16384000)
  (hJ : ∀ (d : Fin 4096) (l : Fin 16384000), Draw.score d.val l.val (wtOf m c l.val) ≤ Draw.score d.val (J d).val (wtOf m c (J d).val))

/-- The weight of a draw's item. -/
def drawn (J : Fin 4096 → Fin 16384000) (d : ℕ) : EReal := if h : d < 4096 then wtOf m c (J ⟨d, h⟩).val else 0

include hc

theorem weight_pos (j : ℕ) (hj : j < 16384000) : 0 < wtOf m c j := by
  have e := wtOf_eq m c ⟨j, hj⟩
  obtain ⟨r, hr, h0, -⟩ := Draw.weight_real (probs m c (Draw.place ⟨j, hj⟩)) (targs m c (Draw.place ⟨j, hj⟩)) (hc.binary _)
  rw [show wtOf m c j = (r : EReal) from e.trans hr]
  exact_mod_cast h0

include hJ

theorem tie_eq (d : Fin 4096) (k : Fin 16384000) (hk : ∀ l : Fin 16384000, scores (wtOf m c) d.val l.val ≤ scores (wtOf m c) d.val k.val) :
    wtOf m c k.val = wtOf m c (J d).val := by
  have e := hc.tie d k (J d)
    (fun l => by rw [← wtOf_eq, ← wtOf_eq]; exact hk l) (fun l => by rw [← wtOf_eq, ← wtOf_eq]; exact hJ d l)
  rw [wtOf_eq, wtOf_eq]
  exact e

/-- From the winners of all the lanes the kernel picks the weight of the draw's item. -/
theorem picked_eq (h : ℕ) (hh : h < 2) (S V : FVec Ideal S256x8x1024 .f32) (held : Held (wtOf m c) h 2000 S V) (a : Fin 256) (r : Fin 8) :
    picked (fun l => S (ValueIdx.ix3 a r l)) (fun l => V (ValueIdx.ix3 a r l)) = drawn m c J (h * 2048 + (a.val * 8 + r.val)) := by
  have hd : h * 2048 + (a.val * 8 + r.val) < 4096 := by have := a.isLt; have := r.isLt; omega
  have ed : drawAt h a.val r.val = h * 2048 + (a.val * 8 + r.val) := by unfold drawAt; omega
  have hold : ∀ l : Fin 1024, Draw.Holds (scores (wtOf m c) (h * 2048 + (a.val * 8 + r.val))) (wtOf m c)
      (fun j => j < 16384000 ∧ (⟨j % 1024, Nat.mod_lt _ (by decide)⟩ : Fin 1024) = l) (S (ValueIdx.ix3 a r l), V (ValueIdx.ix3 a r l)) := fun l => by
    rw [← ed]
    exact Draw.holds_congr (held a r l) fun k => by unfold laneItems; rw [Fin.ext_iff]
  have pos : ∀ j, j < 16384000 → 0 < wtOf m c j := weight_pos m c hc
  have one : (-1 : EReal) ≤ 0 := by
    have := EReal.neg_le_neg_iff.2 (zero_le_one (α := EReal))
    rwa [neg_zero] at this
  unfold drawn
  rw [dif_pos hd]
  refine Draw.winner (m := 16384000) (fun l => (S (ValueIdx.ix3 a r l), V (ValueIdx.ix3 a r l))) (fun j => ⟨j % 1024, Nat.mod_lt _ (by decide)⟩) hold
    (fun j hj => Draw.score_ne_bot _ j _ (pos j hj)) (fun j hj => one.trans (pos j hj).le) (J ⟨_, hd⟩).val (J ⟨_, hd⟩).isLt (fun k hk => hJ ⟨_, hd⟩ ⟨k, hk⟩) (fun k hk hk' => ?_)
  exact tie_eq m c hc J hJ ⟨_, hd⟩ ⟨k, hk⟩ fun l => hk' l.val l.isLt

/-- The output block after the last tile of a half. -/
theorem outAt_eq (t : Fin cfg0.N) (ht : t.val % 2000 = 1999) (y : S1x1x128.Idx) :
    outAt (F := Ideal) m c t y = ∑ d ∈ Finset.range 2048, -Ideal.log (1 - drawn m c J (t.val / 2000 * 2048 + d)) := by
  have hN : t.val < 4000 := Nat.lt_of_lt_of_eq t.isLt N_0
  have h2 : k0_cond2 (grid0.coords t) = 1#1 := (isLast_iff t).mpr ht
  have held := runAt_held m c t.val t.isLt
  rw [ht] at held
  unfold outAt
  rw [dif_pos h2]
  exact lossUpTo_at (grid0.coords t) h2 _ _ (fun d => drawn m c J (t.val / 2000 * 2048 + d))
    (fun a r => picked_eq m c hc J hJ (t.val / 2000) (by omega) _ _ held a r) 256 (le_refl _)
end Pick

end Cert.Proof.KernelIdeal
end
-- ==== Proof.KValue.lean ====
module

public import proofs.«01_k».proof.Proof.KRun

@[expose] public section

set_option maxRecDepth 8192

noncomputable section

/-! The kernel's result: the mean loss of all the draws, at the items of greatest score. -/

namespace Cert.Proof.KernelIdeal

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (c : Dev nD)

theorem index2 (t : Fin cfg0.N) : win0_2.index t = ![t.val / 2000, 0, 0] := by
  have ht : t.val < 4000 := Nat.lt_of_lt_of_eq t.isLt N_0
  have e : (BitVec.ofNat 32 (grid0.coords t 0).val).toNat = t.val / 2000 := by
    rw [coords0, BitVec.toNat_ofNat]; omega
  show ![(BitVec.ofNat 32 (grid0.coords t 0).val).toNat, 0, 0] = _
  rw [e]

/-- The loss of half `h`. -/
def half (J : Fin 4096 → Fin 16384000) (h : ℕ) : EReal := ∑ d ∈ Finset.range 2048, -Ideal.log (1 - drawn m c J (h * 2048 + d))

/-- The output array. -/
def outs (J : Fin 4096 → Fin 16384000) : FVec Ideal S2x1x128 .f32 := fun i => half m c J (i 0).val

section
variable (hc : Draw.Clear (probs m c) (targs m c)) (J : Fin 4096 → Fin 16384000)
  (hJ : ∀ (d : Fin 4096) (l : Fin 16384000), Draw.score d.val l.val (wtOf m c l.val) ≤ Draw.score d.val (J d).val (wtOf m c (J d).val))
include hc hJ

theorem final_o : (dats (F := Ideal) m 0 c).arrAt 2 cfg0.N = outs m c J := by
  refine (dats (F := Ideal) m 0 c).arrAt_eq_of_covers 2 _ (by decide +kernel) fun t hf y => ?_
  blk_simp
  rw [after2, outAt_eq m c hc J hJ t ((flush0_2 t).mp hf)]
  unfold outs half
  have e : (((win0_2.blk t).view.emb y (0 : Fin 3) : Fin _) : ℕ) = t.val / 2000 := by
    blk_simp [index2]
  rw [← e]

end

/-- A scalar read out of the output array: the block of half `h`, first lane. -/
theorem cell (h : Fin 2) (A : FVec Ideal S2x1x128 .f32) (hs : S2x1x128.Slices ![h.val, 0, 0] S1x1x1) (j : S_.Idx) :
    shapeCast S_ (extractStridedSlice S1x1x1 ![h.val, 0, 0] A hs) shapeCasts_S1x1x1_S_ j = A (ValueIdx.ix3 h (0 : Fin 1) (0 : Fin 128)) := by
  refine (shapeCast_apply _ shapeCasts_S1x1x1_S_ j (ValueIdx.ix3 (0 : Fin 1) (0 : Fin 1) (0 : Fin 1)) ?_).trans ?_
  · rw [Shape.rowMajor_val_three]
    have := (Shape.rowMajor S_ j).isLt
    have e : S_.numel = 1 := by decide
    show 0 = _
    omega
  · refine congrArg A (funext fun b => Fin.ext ?_)
    match b with
    | ⟨0, _⟩ => rfl
    | ⟨1, _⟩ => rfl
    | ⟨2, _⟩ => rfl

/-- The result, from the output array. -/
theorem result_of (A : FVec Ideal S2x1x128 .f32) (W : Valuation τ sig (Elt Ideal)) (hA : W (Proc.devRef .tc main_v2) = A) :
    (StableHlo.after (hostOps1 (F := Ideal)) W (Proc.devRef .tc main_v8) : FVec Ideal S_ .f32)
      = fun _ => Ideal.div (A (ValueIdx.ix3 (0 : Fin 2) (0 : Fin 1) (0 : Fin 128)) + A (ValueIdx.ix3 (1 : Fin 2) (0 : Fin 1) (0 : Fin 128))) (Ideal.ofBits .f32 0x45800000#32) := by
  after_results
  rw [hA]
  funext j
  have e0 := cell 0 A slices_S2x1x128_S1x1x1_0_0_0 j
  have e1 := cell 1 A slices_S2x1x128_S1x1x1_1_0_0 j
  rw [← e0, ← e1]
  rfl

/-- The two halves together are all the draws. -/
theorem halves (J : Fin 4096 → Fin 16384000) : half m c J 0 + half m c J 1
    = ∑ d : Fin 4096, -Ideal.log (1 - Draw.weight (probs m c (Draw.place (J d))) (targs m c (Draw.place (J d)))) := by
  have e : ∀ d : Fin 4096, -Ideal.log (1 - Draw.weight (probs m c (Draw.place (J d))) (targs m c (Draw.place (J d))))
      = (fun d : ℕ => -Ideal.log (1 - drawn m c J d)) d.val := fun d => by
    show _ = -Ideal.log (1 - drawn m c J d.val)
    unfold drawn
    rw [dif_pos d.isLt, wtOf_eq]
  rw [Finset.sum_congr rfl fun d _ => e d, ← Finset.sum_range (fun d : ℕ => -Ideal.log (1 - drawn m c J d)),
    show (4096 : ℕ) = 2048 + 2048 from rfl, Finset.sum_range_add]
  unfold half
  simp only [Nat.zero_mul, Nat.zero_add, Nat.one_mul]

set_option backward.isDefEq.respectTransparency.types false in
/-- What the host lines leave in the result's buffer. -/
theorem tail_eq (hc : Draw.Clear (probs m c) (targs m c)) (J : Fin 4096 → Fin 16384000)
    (hJ : ∀ (d : Fin 4096) (l : Fin 16384000), Draw.score d.val l.val (wtOf m c l.val) ≤ Draw.score d.val (J d).val (wtOf m c (J d).val)) :
    (Pipeline.afterTail₀ cfgs (dats (F := Ideal) m) 0 (V0 m) [hostOps1] c main_v8 : FVec Ideal S_ .f32)
      = fun _ => Ideal.div (∑ d : Fin 4096, -Ideal.log (1 - Draw.weight (probs m c (Draw.place (J d))) (targs m c (Draw.place (J d)))))
          (Ideal.ofBits .f32 0x45800000#32) := by
  rw [← halves]
  refine (result_of (outs m c J) _ ?_).trans rfl
  exact (Pipeline.withArrays_arr spec0 launch0.win.arr_inj c (V0 m c) (fun w => (dats (F := Ideal) m 0 c).arrAt w cfg0.N) 2).trans (final_o m c hc J hJ)

/-- Every run of the kernel ends with the mean loss of the drawn items in the result's buffer and the arguments unchanged. -/
theorem run (ρ : Dev nD → PrngReg) (hc : ∀ c, Draw.Clear (probs m c) (targs m c)) (J : Dev nD → Fin 4096 → Fin 16384000)
    (hJ : ∀ c (d : Fin 4096) (l : Fin 16384000), Draw.score d.val l.val (wtOf m c l.val) ≤ Draw.score d.val (J c d).val (wtOf m c (J c d).val)) :
    θ_run defs (onTc (τ := τ) (main (F := Ideal))) ⟨m, fun _ => 0, ρ⟩ (fun r => ∀ c : Dev nD,
      (r.2.mem ((c.tc : Thread nD τ).loc main_v8) : FVec Ideal S_ .f32)
          = (fun _ => Ideal.div (∑ d : Fin 4096, -Ideal.log (1 - Draw.weight (probs m c (Draw.place (J c d))) (targs m c (Draw.place (J c d)))))
              (Ideal.ofBits .f32 0x45800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1.1 c).2 main_v8 (Pipeline.mem_restRefs_of main_v8 (by decide) (by decide))).trans (tail_eq m c (hc c) (J c) (hJ c)), h.2.1 c⟩)
    (θ_run_and (run_main m ρ) (quiescent m ρ))

end Cert.Proof.KernelIdeal
end
-- ==== Proof.PreThreefry.lean ====
module

public import proofs.«01_k».proof.Proof.Threefry
public import proofs.«01_k».proof.Pre_clear_draws

@[expose] public section

set_option maxRecDepth 8192

noncomputable section

/-! The precondition's generator at one draw and item. -/

namespace Cert.Proof.Pre

open Cert.Pre_clear_draws Idealize.ShloMosaic

attribute [local irreducible] IntOp.addi IntOp.xori IntOp.ori IntOp.shli IntOp.shrui

variable {F : FTy → Type} [FloatOps F] [Facts]

set_option maxHeartbeats 2000000 in
/-- The generator's words at a draw and item are the generator at that place's words. -/
theorem threefry_apply (a b : BitVec 32) (c d : IVec S4096x16384000 32) (j : S4096x16384000.Idx) :
    ((fn_threefry2x32 (F := F) (fun _ => a) (fun _ => b) c d).1 j, (fn_threefry2x32 (F := F) (fun _ => a) (fun _ => b) c d).2 j)
      = threefry a b (c j) (d j) := by
  rfl

end Cert.Proof.Pre
end
-- ==== Proof.Uniform.lean ====
module

public import proofs.«01_k».proof.Proof.Score
public import proofs.«01_k».proof.Proof.Index
public import Idealize.ShloMosaic.Lib.Pipeline.Value

@[expose] public section

noncomputable section

/-! The parts of the uniform numbers that the reference and the precondition share: the key's two words, the wide
counter's two words, and the number made of the bits. -/

namespace Cert.Proof.Draw

open Idealize.ShloMosaic

/-- The key as the programs build it. -/
def key (hb : (⟨0, ![]⟩ : Shape).BroadcastsInDim ⟨1, ![1]⟩ (![] : Fin 0 → Fin 1))
    (hc : Shape.Concatenates [⟨1, ![1]⟩, ⟨1, ![1]⟩] ⟨1, ![2]⟩ 0) : IVec ⟨1, ![2]⟩ 32 :=
  concatenate ⟨1, ![2]⟩ 0
    [⟨⟨1, ![1]⟩, broadcastInDim ⟨1, ![1]⟩ ![] hb (Host.shrui (constantI ⟨0, ![]⟩ 32 42#32) (constantI ⟨0, ![]⟩ 32 32#32))⟩,
      ⟨⟨1, ![1]⟩, broadcastInDim ⟨1, ![1]⟩ ![] hb (andi (constantI ⟨0, ![]⟩ 32 42#32) (constantI ⟨0, ![]⟩ 32 4294967295#32))⟩] hc

theorem key_zero (hb hc) (i : (⟨1, ![2]⟩ : Shape).Idx) (hi : (i 0).val = 0) : key hb hc i = 0#32 := by
  obtain rfl : i = ValueIdx.ix1 (0 : Fin 2) := funext fun a => by
    obtain rfl : a = 0 := Subsingleton.elim _ _
    exact Fin.ext hi
  show IntOp.shrui .host 42#32 32#32 = 0#32
  rw [ValueIdx.shrui_host, ValueIdx.shrui_32]

theorem key_one (hb hc) (i : (⟨1, ![2]⟩ : Shape).Idx) (hi : (i 0).val = 1) : key hb hc i = 42#32 := by
  obtain rfl : i = ValueIdx.ix1 (1 : Fin 2) := funext fun a => by
    obtain rfl : a = 0 := Subsingleton.elim _ _
    exact Fin.ext hi
  show IntOp.andi 42#32 4294967295#32 = 42#32
  decide

/-- The key's first word as the programs cut it. -/
theorem key_fst (hb hc) (hs : (⟨1, ![2]⟩ : Shape).Slices ![0] ⟨1, ![1]⟩) (h : (⟨1, ![1]⟩ : Shape).ShapeCasts ⟨0, ![]⟩) :
    shapeCast ⟨0, ![]⟩ (extractStridedSlice ⟨1, ![1]⟩ ![0] (key hb hc) hs) h = fun _ => 0#32 := by
  funext j
  unfold shapeCast extractStridedSlice
  refine key_zero hb hc _ ?_
  exact (Nat.zero_add _).trans (Nat.lt_one_iff.1 ((Shape.reshapeEquiv h j) 0).isLt)

/-- The key's second word as the programs cut it. -/
theorem key_snd (hb hc) (hs : (⟨1, ![2]⟩ : Shape).Slices ![1] ⟨1, ![1]⟩) (h : (⟨1, ![1]⟩ : Shape).ShapeCasts ⟨0, ![]⟩) :
    shapeCast ⟨0, ![]⟩ (extractStridedSlice ⟨1, ![1]⟩ ![1] (key hb hc) hs) h = fun _ => 42#32 := by
  funext j
  unfold shapeCast extractStridedSlice
  refine key_one hb hc _ ?_
  exact congrArg (1 + ·) (Nat.lt_one_iff.1 ((Shape.reshapeEquiv h j) 0).isLt)

/-- The low word of the counter at a draw and item. -/
theorem counter_lo (d : Fin 4096) (j : Fin 16384000) :
    ((IntOp.addi (IntOp.muli 16384000#64 (BitVec.ofNat 64 d.val)) (IntOp.muli 1#64 (BitVec.ofNat 64 j.val))).setWidth 32 : BitVec 32)
      = BitVec.ofNat 32 (d.val * 16384000 + j.val) := Index.wide_lo d.val j.val

/-- The high word of the counter at a draw and item. -/
theorem counter_hi (d : Fin 4096) (j : Fin 16384000) :
    ((IntOp.shrui .host (IntOp.addi (IntOp.muli 16384000#64 (BitVec.ofNat 64 d.val)) (IntOp.muli 1#64 (BitVec.ofNat 64 j.val))) 32#64).setWidth 32
      : BitVec 32) = BitVec.ofNat 32 ((d.val * 16384000 + j.val) / 2 ^ 32) := Index.wide_hi d.val j.val d.isLt j.isLt

/-- The uniform number of a draw and item, as the programs compute it from the bits. -/
def unit (n : ℕ) : EReal :=
  max (Ideal.ofBits .f32 0x00000000#32) ((Ideal.ofBits .f32 (IntOp.ori (bits n) 1065353216#32) - Ideal.ofBits .f32 0x3F800000#32)
    * (Ideal.ofBits .f32 0x3F800000#32 - Ideal.ofBits .f32 0x00000000#32) + Ideal.ofBits .f32 0x00000000#32)

/-- The Gumbel variable from the uniform number. -/
theorem gumbel_unit (n : ℕ) :
    -Ideal.log (-Ideal.log (max (Ideal.ofBits .f32 0x00800000#32) (unit n * Ideal.ofBits .f32 0x3F800000#32 + Ideal.ofBits .f32 0x00800000#32)))
      = gumbel (bits n) := by
  have h := unit_eq (Ideal.ofBits .f32 (IntOp.ori (bits n) 1065353216#32) - 1)
  unfold tiny at h
  rw [unit, gumbel, Ideal.ofBits_zero_f32, Ideal.ofBits_one_f32, h]
  rfl

end Cert.Proof.Draw
end
-- ==== Proof.PreUniform.lean ====
module

public import proofs.«01_k».proof.Proof.PreThreefry
public import proofs.«01_k».proof.Proof.Uniform

@[expose] public section

set_option maxRecDepth 8192

noncomputable section

/-! The precondition's uniform numbers at one draw and item. -/

namespace Cert.Proof.Pre

open Cert.Pre_clear_draws Idealize.ShloMosaic Cert.Pre_clear_draws.Facts

variable [Facts]

attribute [local irreducible] IntOp.addi IntOp.xori IntOp.ori IntOp.shli IntOp.shrui IntOp.muli

/-- The wide counter. -/
def counter : IVec S4096x16384000 64 :=
  addi (muli (broadcastInDim S4096x16384000 ![] bcast_S_S4096x16384000 (constantI S_ 64 16384000#64)) (iotaInDim S4096x16384000 64 0))
    (muli (broadcastInDim S4096x16384000 ![] bcast_S_S4096x16384000 (constantI S_ 64 1#64)) (iotaInDim S4096x16384000 64 1))

/-- The numbers are made of the generator's words. -/
theorem uniform_eq (k : IVec S2 32) (x y : FVec Ideal S_ .f32) : fn_uniform k x y
    = fn_uniform_part1 (broadcastInDim S1x1 ![] bcast_S_S1x1 x) (broadcastInDim S1x1 ![] bcast_S_S1x1 y)
      (fn_threefry2x32 (F := Ideal) (shapeCast S_ (extractStridedSlice S1 ![0] k slices_S2_S1_0) shapeCasts_S1_S_)
        (shapeCast S_ (extractStridedSlice S1 ![1] k slices_S2_S1_1) shapeCasts_S1_S_)
        (trunci 32 (Host.shrui counter (broadcastInDim S4096x16384000 ![] bcast_S_S4096x16384000 (constantI S_ 64 32#64))) natLt_32_64)
        (trunci 32 counter natLt_32_64)).1
      (fn_threefry2x32 (F := Ideal) (shapeCast S_ (extractStridedSlice S1 ![0] k slices_S2_S1_0) shapeCasts_S1_S_)
        (shapeCast S_ (extractStridedSlice S1 ![1] k slices_S2_S1_1) shapeCasts_S1_S_)
        (trunci 32 (Host.shrui counter (broadcastInDim S4096x16384000 ![] bcast_S_S4096x16384000 (constantI S_ 64 32#64))) natLt_32_64)
        (trunci 32 counter natLt_32_64)).2 := rfl

/-- The number made of two words at a place. -/
theorem part1_apply (a b : IVec S4096x16384000 32) (i : S4096x16384000.Idx) :
    fn_uniform_part1 (F := Ideal) (broadcastInDim S1x1 ![] bcast_S_S1x1 (constant S_ .f32 0x00000000#32))
      (broadcastInDim S1x1 ![] bcast_S_S1x1 (constant S_ .f32 0x3F800000#32)) a b i
    = max (Ideal.ofBits .f32 0x00000000#32)
      ((Ideal.ofBits .f32 (IntOp.ori (IntOp.shrui .host (IntOp.xori (a i) (b i)) 9#32) 1065353216#32) - Ideal.ofBits .f32 0x3F800000#32)
        * (Ideal.ofBits .f32 0x3F800000#32 - Ideal.ofBits .f32 0x00000000#32) + Ideal.ofBits .f32 0x00000000#32) := rfl

/-- The precondition's uniform number of a draw and item. -/
theorem uniform_apply (d : Fin 4096) (j : Fin 16384000) :
    fn_uniform (F := Ideal) (Draw.key bcast_S_S1 concatenates_S1_S1_S2_d0) (constant S_ .f32 0x00000000#32) (constant S_ .f32 0x3F800000#32)
      (ValueIdx.ix2 d j) = Draw.unit (d.val * 16384000 + j.val) := by
  rw [uniform_eq, part1_apply, Draw.key_fst, Draw.key_snd]
  have h := threefry_apply (F := Ideal) 0#32 42#32
    (trunci 32 (Host.shrui counter (broadcastInDim S4096x16384000 ![] bcast_S_S4096x16384000 (constantI S_ 64 32#64))) natLt_32_64)
    (trunci 32 counter natLt_32_64) (ValueIdx.ix2 d j)
  rw [show trunci 32 (Host.shrui counter (broadcastInDim S4096x16384000 ![] bcast_S_S4096x16384000 (constantI S_ 64 32#64))) natLt_32_64 (ValueIdx.ix2 d j)
      = BitVec.ofNat 32 ((d.val * 16384000 + j.val) / 2 ^ 32) from Draw.counter_hi d j,
    show trunci 32 counter natLt_32_64 (ValueIdx.ix2 d j) = BitVec.ofNat 32 (d.val * 16384000 + j.val) from Draw.counter_lo d j] at h
  obtain ⟨h1, h2⟩ := Prod.ext_iff.1 h
  dsimp only at h1 h2
  rw [h1, h2]
  rfl

end Cert.Proof.Pre
end
-- ==== Proof.PreValue.lean ====
module

public import proofs.«01_k».proof.Proof.PreUniform
public import proofs.«01_k».proof.Proof.Rows

@[expose] public section

set_option maxRecDepth 8192

noncomputable section

/-! What the precondition's two masks say. -/

namespace Cert.Proof.Pre

open Cert.Pre_clear_draws Idealize.ShloMosaic Cert.Pre_clear_draws.Facts
open Cert.Proof.Draw (place weight score Clear)

variable [Facts]
variable (x : FVec Ideal S16384x1000 .f32) (y : IVec S16384x1000 32)

attribute [local irreducible] IntOp.addi IntOp.xori IntOp.ori IntOp.shli IntOp.shrui IntOp.muli

/-- The weights. -/
def wts : FVec Ideal S16384000 .f32 :=
  shapeCast S16384000
    (Host.powf (Host.absf (mulf (subf (fn_clip (F := Ideal) x (constant S_ .f32 0x33D6BF95#32) (constant S_ .f32 0x3F7FFFFE#32)) (sitofp .f32 y))
        (fn_where (F := Ideal) (cmpi .eq y (broadcastInDim S16384x1000 ![] bcast_S_S16384x1000 (constantI S_ 32 4294967295#32)))
          (constant S_ .f32 0x00000000#32) (broadcastInDim S16384x1000 ![] bcast_S_S16384x1000 (constant S_ .f32 0x3F800000#32)))))
      (broadcastInDim S16384x1000 ![] bcast_S_S16384x1000 (constant S_ .f32 0x3F800000#32)))
    shapeCasts_S16384x1000_S16384000

/-- The uniform numbers. -/
def units : FVec Ideal S4096x16384000 .f32 :=
  fn_uniform (F := Ideal) (Draw.key bcast_S_S1 concatenates_S1_S1_S2_d0) (constant S_ .f32 0x00000000#32) (constant S_ .f32 0x3F800000#32)

/-- The scores. -/
def scores : FVec Ideal S4096x16384000 .f32 :=
  addf
    (Host.negf (Host.log (Host.negf (Host.log (maximumf (broadcastInDim S4096x16384000 ![] bcast_S_S4096x16384000 (constant S_ .f32 0x00800000#32))
      (addf (mulf units (broadcastInDim S4096x16384000 ![] bcast_S_S4096x16384000 (constant S_ .f32 0x3F800000#32)))
        (broadcastInDim S4096x16384000 ![] bcast_S_S4096x16384000 (constant S_ .f32 0x00800000#32))))))))
    (broadcastInDim S4096x16384000 ![0, 1] bcast_S1x16384000_S4096x16384000_0_1
      (broadcastInDim S1x16384000 ![1] bcast_S16384000_S1x16384000_1 (Host.log (wts x y))))

/-- The greatest score of each draw. -/
def best : FVec Ideal S4096 .f32 :=
  Host.reduce FloatOps.maximumf (scores x y) (constant (F := Ideal) S_ .f32 0xFF800000#32) reducesTo_S4096x16384000_S4096_d1 h_S_

/-- Where a score is its draw's greatest. -/
def winners : IVec S4096x16384000 1 :=
  cmpf .oeq (scores x y) (broadcastInDim S4096x16384000 ![0, 1] bcast_S4096x1_S4096x16384000_0_1
    (broadcastInDim S4096x1 ![0] bcast_S4096_S4096x1_0 (best x y)))

/-- The greatest weight of a winner. -/
def top : FVec Ideal S4096 .f32 :=
  Host.reduce FloatOps.maximumf (fn_where_0 (F := Ideal) (winners x y) (wts x y) (constant S_ .f32 0xFF800000#32))
    (constant (F := Ideal) S_ .f32 0xFF800000#32) reducesTo_S4096x16384000_S4096_d1 h_S_

/-- The least weight of a winner. -/
def bot : FVec Ideal S4096 .f32 :=
  Host.reduce FloatOps.minimumf (fn_where_0 (F := Ideal) (winners x y) (wts x y) (constant S_ .f32 0x7F800000#32))
    (constant (F := Ideal) S_ .f32 0x7F800000#32) reducesTo_S4096x16384000_S4096_d1 h_S_

/-- Where a probability is the first one. -/
def sameProb : IVec S16384x1000 1 :=
  cmpf .oeq x (broadcastInDim S16384x1000 ![] bcast_S_S16384x1000 (shapeCast S_ (extractStridedSlice S1x1 ![0, 0] x slices_S16384x1000_S1x1_0_0) shapeCasts_S1x1_S_))

/-- Where a target is the first one. -/
def sameTarg : IVec S16384x1000 1 :=
  cmpi .eq y (broadcastInDim S16384x1000 ![] bcast_S_S16384x1000 (shapeCast S_ (extractStridedSlice S1x1 ![0, 0] y slices_S16384x1000_S1x1_0_0) shapeCasts_S1x1_S_))

/-- Whether all the items are alike. -/
def flat : IVec S_ 1 :=
  andi (Host.reduce IntOp.andi (sameProb x) (constantI S_ 1 1#1) reducesTo_S16384x1000_S_d0_1 h_S_)
    (Host.reduce IntOp.andi (sameTarg y) (constantI S_ 1 1#1) reducesTo_S16384x1000_S_d0_1 h_S_)

/-- The two masks. -/
theorem fn_eq : fn (F := Ideal) x y
    = (ori (cmpi .eq y (broadcastInDim S16384x1000 ![] bcast_S_S16384x1000 (constantI S_ 32 0#32)))
        (cmpi .eq y (broadcastInDim S16384x1000 ![] bcast_S_S16384x1000 (constantI S_ 32 1#32))),
      ori (broadcastInDim S4096 ![] bcast_S_S4096 (flat x y)) (cmpf .oeq (top x y) (bot x y))) := rfl

theorem of_ori {a b : BitVec 1} (h : IntOp.ori a b = 1#1) : a = 1#1 ∨ b = 1#1 := by
  unfold IntOp.ori at h
  revert a b; decide

theorem of_andi {a b : BitVec 1} (h : IntOp.andi a b = 1#1) : a = 1#1 ∧ b = 1#1 := by
  unfold IntOp.andi at h
  revert a b; decide

theorem of_eq {a b : BitVec 32} (h : IntOp.cmpi .eq a b = 1#1) : a = b := by
  by_contra hne
  have : IntOp.cmpi .eq a b = 0#1 := by
    show BitVec.ofBool (a == b) = 0#1
    rw [beq_eq_false_iff_ne.2 hne]; rfl
  rw [this] at h
  exact absurd h (by decide)

theorem of_oeq {a b : EReal} (h : Ideal.cmp .oeq a b = 1#1) : a = b := by
  by_contra hne
  have : Ideal.cmp .oeq a b = 0#1 := by
    show BitVec.ofBool (decide (a = b)) = 0#1
    rw [decide_eq_false hne]; rfl
  rw [this] at h
  exact absurd h (by decide)

theorem oeq_self (a : EReal) : Ideal.cmp .oeq a a = 1#1 := by
  show BitVec.ofBool (decide (a = a)) = 1#1
  rw [decide_eq_true rfl]; rfl

attribute [local irreducible] units wts scores best winners top bot flat

/-- A scalar spread over the items is the scalar at each. -/
theorem spread {α : Type} (z : S_.Idx → α) (i : S16384x1000.Idx) :
    broadcastInDim S16384x1000 ![] bcast_S_S16384x1000 z i = z (fun a => a.elim0) :=
  broadcastInDim_apply _ _ _ _ _ (fun a => a.elim0)

theorem sameProb_apply : ∃ z : EReal, ∀ i, sameProb x i = Ideal.cmp .oeq (x i) z :=
  ⟨_, fun i => congrArg (Ideal.cmp .oeq (x i)) (spread _ i)⟩

theorem sameTarg_apply : ∃ z : BitVec 32, ∀ i, sameTarg y i = IntOp.cmpi .eq (y i) z :=
  ⟨_, fun i => congrArg (IntOp.cmpi .eq (y i)) (spread _ i)⟩

/-- Items all alike. -/
theorem of_flat (h : flat x y = fun _ => 1#1) : (∃ p, ∀ i, (x i : EReal) = p) ∧ ∃ t, ∀ i, y i = t := by
  have h0 := congrFun h (fun a => a.elim0)
  unfold flat at h0
  obtain ⟨hp, ht⟩ := of_andi (show IntOp.andi _ _ = 1#1 from h0)
  have : Subsingleton S_.Idx := ⟨fun a b => funext fun c => c.elim0⟩
  obtain ⟨p, ep⟩ := sameProb_apply x
  obtain ⟨t, et⟩ := sameTarg_apply y
  refine ⟨⟨p, fun i => of_oeq ?_⟩, t, fun i => of_eq ?_⟩
  · rw [← ep i]; exact Host.reduce_andi_all _ _ _ _ _ hp i
  · rw [← et i]; exact Host.reduce_andi_all _ _ _ _ _ ht i

/-- The weight of an item. -/
theorem wts_apply (hb : ∀ i, y i = 0#32 ∨ y i = 1#32) (j : Fin 16384000) :
    (wts x y (ValueIdx.ix1 j) : EReal) = weight (x (place j)) (y (place j)) := by
  unfold wts
  rw [Draw.flat_apply]
  exact Draw.weight_formula _ _ (hb _)

/-- The score of an item in a draw. -/
theorem scores_apply (hb : ∀ i, y i = 0#32 ∨ y i = 1#32) (d : Fin 4096) (j : Fin 16384000) :
    (scores x y (ValueIdx.ix2 d j) : EReal) = score d.val j.val (weight (x (place j)) (y (place j))) := by
  have hu : (units (ValueIdx.ix2 d j) : EReal) = Draw.unit (d.val * 16384000 + j.val) := by
    unfold units; exact uniform_apply d j
  have hl : broadcastInDim S4096x16384000 ![0, 1] bcast_S1x16384000_S4096x16384000_0_1
      (broadcastInDim S1x16384000 ![1] bcast_S16384000_S1x16384000_1 (Host.log (wts x y))) (ValueIdx.ix2 d j)
      = Ideal.log (weight (x (place j)) (y (place j))) := by
    rw [broadcastInDim_apply _ _ _ (ValueIdx.ix2 d j) (ValueIdx.ix2 (0 : Fin 1) j) (fun a => match a with | ⟨0, _⟩ => rfl | ⟨1, _⟩ => rfl),
      broadcastInDim_apply _ _ _ (ValueIdx.ix2 (0 : Fin 1) j) (ValueIdx.ix1 j) (fun a => match a with | ⟨0, _⟩ => rfl)]
    exact congrArg Ideal.log (wts_apply x y hb j)
  unfold scores
  rw [Draw.addf_at, hl, Draw.negf_at, Draw.log_at, Draw.negf_at, Draw.log_at, Draw.maximumf_at, Draw.addf_at, Draw.mulf_at,
    Draw.const_at, Draw.const_at, hu, Draw.gumbel_unit]
  rfl

/-- The greatest score of a draw, at an item that has it. -/
theorem best_eq (hb : ∀ i, y i = 0#32 ∨ y i = 1#32) (d : Fin 4096) (j : Fin 16384000)
    (hj : ∀ l : Fin 16384000, score d.val l.val (weight (x (place l)) (y (place l))) ≤ score d.val j.val (weight (x (place j)) (y (place j)))) :
    (best x y (ValueIdx.ix1 d) : EReal) = scores x y (ValueIdx.ix2 d j) := by
  unfold best
  refine le_antisymm ?_ ?_
  · refine Draw.rowMax_le _ _ _ _ _ _ Draw.neg_inf fun l => ?_
    rw [scores_apply x y hb, scores_apply x y hb]
    exact hj l
  · exact Draw.le_rowMax _ _ _ _ d j

/-- A winner is marked, -/
theorem winners_apply (hb : ∀ i, y i = 0#32 ∨ y i = 1#32) (d : Fin 4096) (j : Fin 16384000)
    (hj : ∀ l : Fin 16384000, score d.val l.val (weight (x (place l)) (y (place l))) ≤ score d.val j.val (weight (x (place j)) (y (place j)))) :
    winners x y (ValueIdx.ix2 d j) = 1#1 := by
  unfold winners
  rw [Draw.cmpf_at, broadcastInDim_apply _ _ _ (ValueIdx.ix2 d j) (ValueIdx.ix2 d (0 : Fin 1)) (fun a => match a with | ⟨0, _⟩ => rfl | ⟨1, _⟩ => rfl),
    broadcastInDim_apply _ _ _ (ValueIdx.ix2 d (0 : Fin 1)) (ValueIdx.ix1 d) (fun a => match a with | ⟨0, _⟩ => rfl), best_eq x y hb d j hj]
  exact oeq_self _

/-- and its weight kept. -/
theorem where_apply (hb : ∀ i, y i = 0#32 ∨ y i = 1#32) (d : Fin 4096) (j : Fin 16384000)
    (hj : ∀ l : Fin 16384000, score d.val l.val (weight (x (place l)) (y (place l))) ≤ score d.val j.val (weight (x (place j)) (y (place j))))
    (z : FVec Ideal S_ .f32) :
    (fn_where_0 (F := Ideal) (winners x y) (wts x y) z (ValueIdx.ix2 d j) : EReal) = weight (x (place j)) (y (place j)) := by
  unfold fn_where_0
  dsimp only
  rw [Draw.select_at, winners_apply x y hb d j hj,
    broadcastInDim_apply _ _ _ (ValueIdx.ix2 d j) (ValueIdx.ix1 j) (fun a => match a with | ⟨0, _⟩ => rfl)]
  exact wts_apply x y hb j

/-- The scores of the items `j` and `k` both being the draw's greatest, their weights agree where the least and the greatest winning weight do. -/
theorem tied (hb : ∀ i, y i = 0#32 ∨ y i = 1#32) (d : Fin 4096) (j k : Fin 16384000)
    (hj : ∀ l : Fin 16384000, score d.val l.val (weight (x (place l)) (y (place l))) ≤ score d.val j.val (weight (x (place j)) (y (place j))))
    (hk : ∀ l : Fin 16384000, score d.val l.val (weight (x (place l)) (y (place l))) ≤ score d.val k.val (weight (x (place k)) (y (place k))))
    (h : (top x y (ValueIdx.ix1 d) : EReal) = bot x y (ValueIdx.ix1 d)) :
    weight (x (place j)) (y (place j)) ≤ weight (x (place k)) (y (place k)) := by
  rw [← where_apply x y hb d j hj (constant S_ .f32 0xFF800000#32), ← where_apply x y hb d k hk (constant S_ .f32 0x7F800000#32)]
  refine le_trans ?_ (h.le.trans ?_)
  · unfold top; exact Draw.le_rowMax _ _ _ _ d j
  · unfold bot; exact Draw.rowMin_le _ _ _ _ d k

theorem mask_at (a : IVec S_ 1) (p q : FVec Ideal S4096 .f32) (d : Fin 4096)
    (h : ori (broadcastInDim S4096 ![] bcast_S_S4096 a) (cmpf .oeq p q) (ValueIdx.ix1 d) = 1#1) :
    (a = fun _ => 1#1) ∨ (p (ValueIdx.ix1 d) : EReal) = q (ValueIdx.ix1 d) := by
  rcases of_ori (show IntOp.ori (broadcastInDim S4096 ![] bcast_S_S4096 a (ValueIdx.ix1 d)) (cmpf .oeq p q (ValueIdx.ix1 d)) = 1#1 from h) with h | h
  · left
    funext z
    rw [broadcastInDim_apply _ _ _ (ValueIdx.ix1 d) z (fun a => a.elim0)] at h
    exact h
  · right
    rw [Draw.cmpf_at] at h
    exact of_oeq h

/-- The masks being one throughout is the condition of the proof. -/
theorem clear (h1 : (fn (F := Ideal) x y).1 = fun _ => 1#1) (h2 : (fn (F := Ideal) x y).2 = fun _ => 1#1) : Clear x y := by
  rw [fn_eq] at h1 h2
  dsimp only at h1 h2
  have hb : ∀ i, y i = 0#32 ∨ y i = 1#32 := fun i => by
    rcases of_ori (congrFun h1 i) with h | h
    · exact Or.inl (of_eq h)
    · exact Or.inr (of_eq h)
  refine ⟨hb, fun d j k hj hk => ?_⟩
  rcases mask_at _ _ _ d (congrFun h2 (ValueIdx.ix1 d)) with h | h
  · obtain ⟨⟨p, hx⟩, t, hy⟩ := of_flat x y h
    rw [hx (place k), hy (place k), hx (place j), hy (place j)]
  · exact le_antisymm (tied x y hb d j k hj hk h) (tied x y hb d k j hk hj h)

end Cert.Proof.Pre
end
-- ==== Proof.Single.lean ====
module

public import Idealize.ShloMosaic.Lib.StableHlo.Run

@[expose] public section

noncomputable section

/-! A line of operations in which every buffer is written once, after the buffers it is computed from: at the end each
    operation's equation holds among the final contents. The buffers are numbered in the order they are written. -/

namespace Cert.Proof.Single

open Idealize.ShloMosaic Idealize.ShloMosaic.StableHlo

variable {τ : Topo} {sig : RefSig} {Val : EltTy → Type}

/-- The reference's place in the order: its index in the device's memory. -/
def place (r : Ref sig .tc) : ℕ := r.idx.val

/-- The operation writes the buffer at place `n`, from buffers at earlier places, whatever that buffer held. -/
structure Writes (n : ℕ) (op : HloOp τ sig Val) : Prop where
  out : ∃ y : Ref sig .tc, place y = n ∧ op.writes = {Proc.devRef .tc y}
  fresh : op.fresh = ∅
  tc : op.bufs ⊆ tcRefs τ sig
  reads : ∀ F G : Valuation τ sig Val, (∀ r : Ref sig .tc, place r < n → F (Proc.devRef .tc r) = G (Proc.devRef .tc r)) →
    ∀ b ∈ op.writes, op.result F b = op.result G b

/-- The operations write the places `n`, `n + 1`, … in turn. -/
def Chain : ℕ → List (HloOp τ sig Val) → Prop
  | _, [] => True
  | n, op :: ops => Writes n op ∧ Chain (n + 1) ops

theorem Chain.append {n k : ℕ} {a b : List (HloOp τ sig Val)} (ha : Chain n a) (hk : a.length + n = k) (hb : Chain k b) :
    Chain n (a ++ b) := by
  induction a generalizing n with
  | nil => simp only [List.length_nil, Nat.zero_add] at hk; subst hk; exact hb
  | cons op a ih =>
    exact ⟨ha.1, ih ha.2 (by simp only [List.length_cons] at hk; omega)⟩

theorem Chain.bufs {n : ℕ} {ops : List (HloOp τ sig Val)} (h : Chain n ops) : ops.Forall fun op => op.bufs ⊆ tcRefs τ sig := by
  induction ops generalizing n with
  | nil => trivial
  | cons op ops ih => exact (List.forall_cons _ _ _).mpr ⟨h.1.tc, ih h.2⟩

theorem Chain.fresh {n : ℕ} {ops : List (HloOp τ sig Val)} (h : Chain n ops) : ∀ op ∈ ops, op.fresh = ∅ := by
  induction ops generalizing n with
  | nil => intro op ho; cases ho
  | cons op ops ih =>
    intro o ho
    rcases List.mem_cons.mp ho with rfl | ho
    · exact h.1.fresh
    · exact ih h.2 o ho

/-- A buffer before the first place written keeps its contents. -/
theorem Chain.keep {n : ℕ} {ops : List (HloOp τ sig Val)} (h : Chain n ops) (V : Valuation τ sig Val) {r : Ref sig .tc}
    (hr : place r < n) : after ops V (Proc.devRef .tc r) = V (Proc.devRef .tc r) := by
  induction ops generalizing n V with
  | nil => rfl
  | cons op ops ih =>
    rw [after_cons, ih h.2 (op.result V) (by omega)]
    obtain ⟨y, hy, hw⟩ := h.1.out
    exact result_of_writes_ne op V y r hw fun e => by subst e; omega

/-- The contents satisfy the operations' equations: none of them would change anything. -/
def Fixed (W : Valuation τ sig Val) (ops : List (HloOp τ sig Val)) : Prop := ops.Forall fun op => op.result W = W

theorem Fixed.append {W : Valuation τ sig Val} {a b : List (HloOp τ sig Val)} :
    Fixed W (a ++ b) ↔ Fixed W a ∧ Fixed W b := List.forall_append

/-- The contents at the end satisfy every operation's equation. -/
theorem Chain.fixed {n : ℕ} {ops : List (HloOp τ sig Val)} (h : Chain n ops) (V : Valuation τ sig Val) :
    Fixed (after ops V) ops := by
  induction ops generalizing n V with
  | nil => trivial
  | cons op ops ih =>
    refine (List.forall_cons _ _ _).mpr ⟨?_, ih h.2 (op.result V)⟩
    obtain ⟨y, hy, hw⟩ := h.1.out
    funext b
    by_cases hb : b ∈ op.writes
    · have hb' := hb
      rw [hw, Finset.mem_singleton] at hb'
      subst hb'
      rw [after_cons, h.2.keep (op.result V) (r := y) (by omega)]
      refine h.1.reads _ _ (fun r hr => ?_) _ hb
      rw [h.2.keep (op.result V) (r := r) (by omega)]
      exact result_of_writes_ne op V y r hw fun e => by subst e; omega
    · exact op.result_of_not_mem _ hb

/-! ## The builders -/

section Builders

variable {n : ℕ} (x a b c e y : Ref sig .tc)

theorem w_nullary (v : y.ty.Contents Val) (hy) (h : place y = n) : Writes n (nullary (τ := τ) y v hy) where
  out := ⟨y, h, rfl⟩
  fresh := rfl
  tc := nullary_bufs_sub y v hy
  reads F G _ d hd := by
    obtain rfl := Finset.mem_singleton.mp hd
    rw [nullary_result, nullary_result]

theorem w_unary (f : x.ty.Contents Val → y.ty.Contents Val) (hx hy) (h : place y = n) (h₁ : place x < n) :
    Writes n (unary (τ := τ) x y f hx hy) where
  out := ⟨y, h, rfl⟩
  fresh := rfl
  tc := unary_bufs_sub x y f hx hy
  reads F G hF d hd := by
    obtain rfl := Finset.mem_singleton.mp hd
    rw [unary_result, unary_result, hF x h₁]

theorem w_binary (f : a.ty.Contents Val → b.ty.Contents Val → y.ty.Contents Val) (ha hb hy) (h : place y = n)
    (h₁ : place a < n) (h₂ : place b < n) : Writes n (binary (τ := τ) a b y f ha hb hy) where
  out := ⟨y, h, rfl⟩
  fresh := rfl
  tc := binary_bufs_sub a b y f ha hb hy
  reads F G hF d hd := by
    obtain rfl := Finset.mem_singleton.mp hd
    rw [binary_result, binary_result, hF a h₁, hF b h₂]

theorem w_ternary (f : c.ty.Contents Val → a.ty.Contents Val → b.ty.Contents Val → y.ty.Contents Val) (hc ha hb hy)
    (h : place y = n) (h₀ : place c < n) (h₁ : place a < n) (h₂ : place b < n) :
    Writes n (ternary (τ := τ) c a b y f hc ha hb hy) where
  out := ⟨y, h, rfl⟩
  fresh := rfl
  tc := ternary_bufs_sub a b c y f hc ha hb hy
  reads F G hF d hd := by
    obtain rfl := Finset.mem_singleton.mp hd
    rw [ternary_result, ternary_result, hF a h₁, hF b h₂, hF c h₀]

theorem w_quaternary (f : a.ty.Contents Val → b.ty.Contents Val → c.ty.Contents Val → e.ty.Contents Val → y.ty.Contents Val)
    (ha hb hc he hy) (h : place y = n) (h₀ : place a < n) (h₁ : place b < n) (h₂ : place c < n) (h₃ : place e < n) :
    Writes n (quaternary (τ := τ) a b c e y f ha hb hc he hy) where
  out := ⟨y, h, rfl⟩
  fresh := rfl
  tc := quaternary_bufs_sub a b c e y f ha hb hc he hy
  reads F G hF d hd := by
    obtain rfl := Finset.mem_singleton.mp hd
    rw [quaternary_result, quaternary_result, hF a h₀, hF b h₁, hF c h₂, hF e h₃]

theorem w_reshape (he hn hx hy) (h : place y = n) (h₁ : place x < n) :
    Writes n (reshape (τ := τ) (Val := Val) x y he hn hx hy) where
  out := ⟨y, h, rfl⟩
  fresh := rfl
  tc := reshape_bufs_sub x y he hn hx hy
  reads F G hF d hd := by
    obtain rfl := Finset.mem_singleton.mp hd
    rw [reshape_result, reshape_result, hF x h₁]

end Builders

/-! ## Reading an equation -/

section Read

variable {T Tx Ta Tb Tc Te Ty : BufTy} {W : Valuation τ sig Val}

/-- What the valuation holds at a typed reference. -/
def get (W : Valuation τ sig Val) (x : TRef sig T) : T.Contents Val := x.ofBuf (W (Proc.devRef .tc x.ref))

theorem get_nullary {y : TRef sig Ty} {v : Ty.Contents Val} (h : (TRef.nullary (τ := τ) y v).result W = W) : get W y = v := by
  obtain ⟨y, hy, _, _⟩ := y
  subst hy
  exact (congrFun h.symm (Proc.devRef .tc y)).trans (nullary_result ..)

theorem get_unary {x : TRef sig Tx} {y : TRef sig Ty} {f : Tx.Contents Val → Ty.Contents Val}
    (h : (TRef.unary (τ := τ) x y f).result W = W) : get W y = f (get W x) := by
  obtain ⟨y, hy, _, _⟩ := y
  obtain ⟨x, hx, _, _⟩ := x
  subst hy hx
  exact (congrFun h.symm (Proc.devRef .tc y)).trans (unary_result ..)

theorem get_binary {a : TRef sig Ta} {b : TRef sig Tb} {y : TRef sig Ty} {f : Ta.Contents Val → Tb.Contents Val → Ty.Contents Val}
    (h : (TRef.binary (τ := τ) a b y f).result W = W) : get W y = f (get W a) (get W b) := by
  obtain ⟨y, hy, _, _⟩ := y
  obtain ⟨a, ha, _, _⟩ := a
  obtain ⟨b, hb, _, _⟩ := b
  subst hy ha hb
  exact (congrFun h.symm (Proc.devRef .tc y)).trans (binary_result ..)

theorem get_ternary {c : TRef sig Tc} {a : TRef sig Ta} {b : TRef sig Tb} {y : TRef sig Ty}
    {f : Tc.Contents Val → Ta.Contents Val → Tb.Contents Val → Ty.Contents Val}
    (h : (TRef.ternary (τ := τ) c a b y f).result W = W) : get W y = f (get W c) (get W a) (get W b) := by
  obtain ⟨y, hy, _, _⟩ := y
  obtain ⟨a, ha, _, _⟩ := a
  obtain ⟨b, hb, _, _⟩ := b
  obtain ⟨c, hc, _, _⟩ := c
  subst hy ha hb hc
  exact (congrFun h.symm (Proc.devRef .tc y)).trans (ternary_result ..)

theorem get_quaternary {a : TRef sig Ta} {b : TRef sig Tb} {c : TRef sig Tc} {e : TRef sig Te} {y : TRef sig Ty}
    {f : Ta.Contents Val → Tb.Contents Val → Tc.Contents Val → Te.Contents Val → Ty.Contents Val}
    (h : (TRef.quaternary (τ := τ) a b c e y f).result W = W) : get W y = f (get W a) (get W b) (get W c) (get W e) := by
  obtain ⟨y, hy, _, _⟩ := y
  obtain ⟨a, ha, _, _⟩ := a
  obtain ⟨b, hb, _, _⟩ := b
  obtain ⟨c, hc, _, _⟩ := c
  obtain ⟨e, he, _, _⟩ := e
  subst hy ha hb hc he
  exact (congrFun h.symm (Proc.devRef .tc y)).trans (quaternary_result ..)

theorem get_reshape {x : TRef sig Tx} {y : TRef sig Ty} {he : Tx.elt = Ty.elt} {hn : Tx.shape.ShapeCasts Ty.shape}
    (h : (TRef.reshape (τ := τ) (Val := Val) x y he hn).result W = W) :
    get W y = fun i => he ▸ shapeCast Ty.shape (get W x) hn i := by
  obtain ⟨y, hy, _, _⟩ := y
  obtain ⟨x, hx, _, _⟩ := x
  subst hy hx
  exact (congrFun h.symm (Proc.devRef .tc y)).trans (reshape_result ..)

end Read

end Cert.Proof.Single
-- ==== Proof.RefOps.lean ====
module

public import proofs.«01_k».proof.Proof.Gen.ReferenceIdeal
public import proofs.«01_k».proof.Proof.Single
public import Idealize.ShloMosaic.Lib.Claim

@[expose] public section

set_option maxRecDepth 8192

noncomputable section

/-! The reference's operations in the order they run: the lists of its functions, each over its arguments and its
    buffers, and the list of the whole. The generator's twenty rounds and five key additions are one list each. -/

namespace Cert.Proof.ReferenceIdeal

open Cert.ReferenceIdeal Cert.ReferenceIdeal.Gen
open Idealize.ShloMosaic Idealize.ShloMosaic.TcCoe Idealize.ShloMosaic.StableHlo
open Cert.Proof.Single

variable {F : FTy → Type} [FloatOps F]

/-- A rank-zero value at every draw and item. -/
abbrev wide {α : Type} : (S_.Idx → α) → S4096x16384000.Idx → α :=
  broadcastInDim S4096x16384000 ![] bcast_S_S4096x16384000

/-- The buffer of one word. -/
abbrev WordRef := TRef sig ⟨S_, .i32⟩
/-- The buffer of a word for every draw and item. -/
abbrev WideRef := TRef sig ⟨S4096x16384000, .i32⟩

/-- Bringing the probabilities into range. -/
abbrev clipOps (arg0 : TRef sig ⟨S16384x1000, .f32⟩) (arg1 arg2 : TRef sig ⟨S_, .f32⟩) (φ : fn_clip.Bufs) : List (HloOp τ sig (Elt F)) :=
  [TRef.unary arg1 φ.v0 id,
    TRef.unary φ.v0 φ.v1 (broadcastInDim S16384x1000 ![] bcast_S_S16384x1000),
    TRef.binary φ.v1 arg0 φ.v2 maximumf,
    TRef.unary arg2 φ.v3 id,
    TRef.unary φ.v3 φ.v4 (broadcastInDim S16384x1000 ![] bcast_S_S16384x1000),
    TRef.binary φ.v4 φ.v2 φ.v5 minimumf]

/-- The weight's mask. -/
abbrev whereOps (arg0 : TRef sig ⟨S16384x1000, .i1⟩) (arg1 : TRef sig ⟨S_, .f32⟩) (arg2 : TRef sig ⟨S16384x1000, .f32⟩) (φ : fn_where.Bufs) : List (HloOp τ sig (Elt F)) :=
  [TRef.unary arg1 φ.v0 id,
    TRef.unary φ.v0 φ.v1 (broadcastInDim S16384x1000 ![] bcast_S_S16384x1000),
    TRef.ternary arg0 φ.v1 arg2 φ.v2 select]

/-- One round of the generator: the words added, and the second turned by `k₁` places (the other way by `k₂`) and
    crossed with the sum. -/
abbrev roundOps (x₀ x₁ s : WideRef) (c₁ : WordRef) (b₁ l : WideRef) (c₂ : WordRef) (b₂ r o y : WideRef) (k₁ k₂ : BitVec 32) :
    List (HloOp τ sig (Elt F)) :=
  [TRef.binary x₀ x₁ s addi, TRef.nullary c₁ (constantI S_ 32 k₁), TRef.unary c₁ b₁ wide, TRef.binary x₁ b₁ l Host.shli,
    TRef.nullary c₂ (constantI S_ 32 k₂), TRef.unary c₂ b₂ wide, TRef.binary x₁ b₂ r Host.shrui, TRef.binary l r o ori,
    TRef.binary s o y xori]

/-- One addition of the key: a key word to each of the two words, and the count `n` to the second. -/
abbrev keyOps (ka kb : WordRef) (x₀ x₁ b₁ y₀ b₂ t : WideRef) (c : WordRef) (b₃ y₁ : WideRef) (n : BitVec 32) :
    List (HloOp τ sig (Elt F)) :=
  [TRef.unary ka b₁ wide, TRef.binary x₀ b₁ y₀ addi, TRef.unary kb b₂ wide, TRef.binary x₁ b₂ t addi,
    TRef.nullary c (constantI S_ 32 n), TRef.unary c b₃ wide, TRef.binary t b₃ y₁ addi]

/-- The key's third word and its first addition. -/
abbrev startOps (arg0 arg1 : WordRef) (arg2 arg3 : WideRef) (φ : fn_threefry2x32.Bufs) : List (HloOp τ sig (Elt F)) :=
  [TRef.binary arg0 arg1 φ.v0 xori,
    TRef.nullary φ.c (constantI S_ 32 466688986#32),
    TRef.binary φ.v0 φ.c φ.v1 xori,
    TRef.unary arg0 φ.v2 wide,
    TRef.binary arg2 φ.v2 φ.v3 addi,
    TRef.unary arg1 φ.v4 wide,
    TRef.binary arg3 φ.v4 φ.v5 addi]

/-- The generator. -/
def threefryOps (arg0 arg1 : WordRef) (arg2 arg3 : WideRef) (φ : fn_threefry2x32.Bufs) : List (HloOp τ sig (Elt F)) :=
  startOps arg0 arg1 arg2 arg3 φ ++ (roundOps φ.v3 φ.v5 φ.v6 φ.c_0 φ.v7 φ.v8 φ.c_1 φ.v9 φ.v10 φ.v11 φ.v12 13#32 19#32 ++ (
    roundOps φ.v6 φ.v12 φ.v13 φ.c_2 φ.v14 φ.v15 φ.c_3 φ.v16 φ.v17 φ.v18 φ.v19 15#32 17#32 ++ (
    roundOps φ.v13 φ.v19 φ.v20 φ.c_4 φ.v21 φ.v22 φ.c_5 φ.v23 φ.v24 φ.v25 φ.v26 26#32 6#32 ++ (
    roundOps φ.v20 φ.v26 φ.v27 φ.c_6 φ.v28 φ.v29 φ.c_7 φ.v30 φ.v31 φ.v32 φ.v33 6#32 26#32 ++ (
    keyOps arg1 φ.v1 φ.v27 φ.v33 φ.v34 φ.v35 φ.v36 φ.v37 φ.c_8 φ.v38 φ.v39 1#32 ++ (
    roundOps φ.v35 φ.v39 φ.v40 φ.c_9 φ.v41 φ.v42 φ.c_10 φ.v43 φ.v44 φ.v45 φ.v46 17#32 15#32 ++ (
    roundOps φ.v40 φ.v46 φ.v47 φ.c_11 φ.v48 φ.v49 φ.c_12 φ.v50 φ.v51 φ.v52 φ.v53 29#32 3#32 ++ (
    roundOps φ.v47 φ.v53 φ.v54 φ.c_13 φ.v55 φ.v56 φ.c_14 φ.v57 φ.v58 φ.v59 φ.v60 16#32 16#32 ++ (
    roundOps φ.v54 φ.v60 φ.v61 φ.c_15 φ.v62 φ.v63 φ.c_16 φ.v64 φ.v65 φ.v66 φ.v67 24#32 8#32 ++ (
    keyOps φ.v1 arg0 φ.v61 φ.v67 φ.v68 φ.v69 φ.v70 φ.v71 φ.c_17 φ.v72 φ.v73 2#32 ++ (
    roundOps φ.v69 φ.v73 φ.v74 φ.c_18 φ.v75 φ.v76 φ.c_19 φ.v77 φ.v78 φ.v79 φ.v80 13#32 19#32 ++ (
    roundOps φ.v74 φ.v80 φ.v81 φ.c_20 φ.v82 φ.v83 φ.c_21 φ.v84 φ.v85 φ.v86 φ.v87 15#32 17#32 ++ (
    roundOps φ.v81 φ.v87 φ.v88 φ.c_22 φ.v89 φ.v90 φ.c_23 φ.v91 φ.v92 φ.v93 φ.v94 26#32 6#32 ++ (
    roundOps φ.v88 φ.v94 φ.v95 φ.c_24 φ.v96 φ.v97 φ.c_25 φ.v98 φ.v99 φ.v100 φ.v101 6#32 26#32 ++ (
    keyOps arg0 arg1 φ.v95 φ.v101 φ.v102 φ.v103 φ.v104 φ.v105 φ.c_26 φ.v106 φ.v107 3#32 ++ (
    roundOps φ.v103 φ.v107 φ.v108 φ.c_27 φ.v109 φ.v110 φ.c_28 φ.v111 φ.v112 φ.v113 φ.v114 17#32 15#32 ++ (
    roundOps φ.v108 φ.v114 φ.v115 φ.c_29 φ.v116 φ.v117 φ.c_30 φ.v118 φ.v119 φ.v120 φ.v121 29#32 3#32 ++ (
    roundOps φ.v115 φ.v121 φ.v122 φ.c_31 φ.v123 φ.v124 φ.c_32 φ.v125 φ.v126 φ.v127 φ.v128 16#32 16#32 ++ (
    roundOps φ.v122 φ.v128 φ.v129 φ.c_33 φ.v130 φ.v131 φ.c_34 φ.v132 φ.v133 φ.v134 φ.v135 24#32 8#32 ++ (
    keyOps arg1 φ.v1 φ.v129 φ.v135 φ.v136 φ.v137 φ.v138 φ.v139 φ.c_35 φ.v140 φ.v141 4#32 ++ (
    roundOps φ.v137 φ.v141 φ.v142 φ.c_36 φ.v143 φ.v144 φ.c_37 φ.v145 φ.v146 φ.v147 φ.v148 13#32 19#32 ++ (
    roundOps φ.v142 φ.v148 φ.v149 φ.c_38 φ.v150 φ.v151 φ.c_39 φ.v152 φ.v153 φ.v154 φ.v155 15#32 17#32 ++ (
    roundOps φ.v149 φ.v155 φ.v156 φ.c_40 φ.v157 φ.v158 φ.c_41 φ.v159 φ.v160 φ.v161 φ.v162 26#32 6#32 ++ (
    roundOps φ.v156 φ.v162 φ.v163 φ.c_42 φ.v164 φ.v165 φ.c_43 φ.v166 φ.v167 φ.v168 φ.v169 6#32 26#32 ++ (
    keyOps φ.v1 arg0 φ.v163 φ.v169 φ.v170 φ.v171 φ.v172 φ.v173 φ.c_44 φ.v174 φ.v175 5#32)))))))))))))))))))))))))

/-- The generator's key and counters. -/
abbrev countOps (arg0 : TRef sig ⟨S2, .i32⟩) (arg1 arg2 : TRef sig ⟨S_, .f32⟩) (φ : fn_uniform.Bufs) : List (HloOp τ sig (Elt F)) :=
  [TRef.unary arg1 φ.v0 id,
    TRef.unary arg2 φ.v1 id,
    TRef.unary φ.v0 φ.v2 (broadcastInDim S1x1 ![] bcast_S_S1x1),
    TRef.unary φ.v1 φ.v3 (broadcastInDim S1x1 ![] bcast_S_S1x1),
    TRef.unary arg0 φ.v4 (extractStridedSlice S1 ![0] · slices_S2_S1_0),
    TRef.reshape φ.v4 φ.v5 (rfl : (.i32 : EltTy) = .i32) shapeCasts_S1_S_,
    TRef.unary arg0 φ.v6 (extractStridedSlice S1 ![1] · slices_S2_S1_1),
    TRef.reshape φ.v6 φ.v7 (rfl : (.i32 : EltTy) = .i32) shapeCasts_S1_S_,
    TRef.nullary φ.v8 (iotaInDim S4096x16384000 64 0),
    TRef.nullary φ.v9 (iotaInDim S4096x16384000 64 1),
    TRef.nullary φ.c (constantI S_ 64 16384000#64),
    TRef.unary φ.c φ.v10 wide,
    TRef.binary φ.v10 φ.v8 φ.v11 muli,
    TRef.nullary φ.c_0 (constantI S_ 64 1#64),
    TRef.unary φ.c_0 φ.v12 wide,
    TRef.binary φ.v12 φ.v9 φ.v13 muli,
    TRef.binary φ.v11 φ.v13 φ.v14 addi,
    TRef.nullary φ.c_1 (constantI S_ 64 32#64),
    TRef.unary φ.c_1 φ.v15 wide,
    TRef.binary φ.v14 φ.v15 φ.v16 Host.shrui,
    TRef.unary φ.v14 φ.v17 (trunci 32 · natLt_32_64),
    TRef.unary φ.v16 φ.v18 (trunci 32 · natLt_32_64)]

/-- The uniform numbers from the generator's words. -/
abbrev unitOps (φ : fn_uniform.Bufs) : List (HloOp τ sig (Elt F)) :=
  [TRef.binary φ.call0.v171 φ.call0.v175 φ.v20 xori,
    TRef.nullary φ.c_2 (constantI S_ 32 9#32),
    TRef.unary φ.c_2 φ.v21 wide,
    TRef.binary φ.v20 φ.v21 φ.v22 Host.shrui,
    TRef.nullary φ.c_3 (constantI S_ 32 1065353216#32),
    TRef.unary φ.c_3 φ.v23 wide,
    TRef.binary φ.v22 φ.v23 φ.v24 ori,
    TRef.unary φ.v24 φ.v25 (bitcastToFloat .f32),
    TRef.nullary φ.cst (constant S_ .f32 0x3F800000#32),
    TRef.unary φ.cst φ.v26 wide,
    TRef.binary φ.v25 φ.v26 φ.v27 subf,
    TRef.binary φ.v3 φ.v2 φ.v28 subf,
    TRef.unary φ.v28 φ.v29 (broadcastInDim S4096x16384000 ![0, 1] bcast_S1x1_S4096x16384000_0_1),
    TRef.binary φ.v27 φ.v29 φ.v30 mulf,
    TRef.unary φ.v2 φ.v31 (broadcastInDim S4096x16384000 ![0, 1] bcast_S1x1_S4096x16384000_0_1),
    TRef.binary φ.v30 φ.v31 φ.v32 addf,
    TRef.unary φ.v2 φ.v33 (broadcastInDim S4096x16384000 ![0, 1] bcast_S1x1_S4096x16384000_0_1),
    TRef.binary φ.v33 φ.v32 φ.v34 maximumf]

/-- The uniform numbers. -/
def uniformOps (arg0 : TRef sig ⟨S2, .i32⟩) (arg1 arg2 : TRef sig ⟨S_, .f32⟩) (φ : fn_uniform.Bufs) : List (HloOp τ sig (Elt F)) :=
  countOps arg0 arg1 arg2 φ ++ (threefryOps φ.v5 φ.v7 φ.v18 φ.v17 φ.call0 ++ unitOps φ)

/-- The first index of each row's maximum. -/
abbrev argmaxOps (arg0 : TRef sig ⟨S4096x16384000, .f32⟩) (φ : fn_argmax.Bufs) : List (HloOp τ sig (Elt F)) :=
  [TRef.nullary φ.v0 (iotaInDim S4096x16384000 32 1),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S4096x16384000_S4096_d1 h_S_ j).1),
    TRef.quaternary arg0 φ.v0 φ.cst φ.c φ.v1_1 (fun x y u v j => (Host.argReduce reducer_argmax_f32_i32 x y u v reducesTo_S4096x16384000_S4096_d1 h_S_ j).2)]

/-- The clip's bounds. -/
abbrev opsA : List (HloOp τ sig (Elt F)) :=
  [nullary main_cst (constant S_ .f32 0x33D6BF95#32),
    nullary main_cst_0 (constant S_ .f32 0x3F7FFFFE#32)]

/-- The targets as numbers, and the bounds again. -/
abbrev opsB : List (HloOp τ sig (Elt F)) :=
  [unary main_arg1 main_v1 (sitofp .f32 : (⟨S16384x1000, .i32⟩ : BufTy).Contents (Elt F) → (⟨S16384x1000, .f32⟩ : BufTy).Contents (Elt F)),
    nullary main_cst_1 (constant S_ .f32 0x33D6BF95#32),
    nullary main_cst_2 (constant S_ .f32 0x3F7FFFFE#32)]

/-- The mask's condition. -/
abbrev opsC : List (HloOp τ sig (Elt F)) :=
  [nullary main_cst_3 (constant S_ .f32 0x3F800000#32),
    unary main_cst_3 main_v3 (broadcastInDim S16384x1000 ![] bcast_S_S16384x1000 : (⟨S_, .f32⟩ : BufTy).Contents (Elt F) → (⟨S16384x1000, .f32⟩ : BufTy).Contents (Elt F)),
    nullary main_c (constantI S_ 32 4294967295#32),
    unary main_c main_v4 (broadcastInDim S16384x1000 ![] bcast_S_S16384x1000 : (⟨S_, .i32⟩ : BufTy).Contents (Elt F) → (⟨S16384x1000, .i32⟩ : BufTy).Contents (Elt F)),
    binary main_arg1 main_v4 main_v5 (cmpi .eq : (⟨S16384x1000, .i32⟩ : BufTy).Contents (Elt F) → (⟨S16384x1000, .i32⟩ : BufTy).Contents (Elt F) → (⟨S16384x1000, .i1⟩ : BufTy).Contents (Elt F)),
    nullary main_cst_4 (constant S_ .f32 0x00000000#32)]

/-- The weights and the key. -/
abbrev opsD : List (HloOp τ sig (Elt F)) :=
  [unary main_arg1 main_v7 (sitofp .f32 : (⟨S16384x1000, .i32⟩ : BufTy).Contents (Elt F) → (⟨S16384x1000, .f32⟩ : BufTy).Contents (Elt F)),
    binary main_v2 main_v7 main_v8 (subf : (⟨S16384x1000, .f32⟩ : BufTy).Contents (Elt F) → (⟨S16384x1000, .f32⟩ : BufTy).Contents (Elt F) → (⟨S16384x1000, .f32⟩ : BufTy).Contents (Elt F)),
    binary main_v8 main_v6 main_v9 (mulf : (⟨S16384x1000, .f32⟩ : BufTy).Contents (Elt F) → (⟨S16384x1000, .f32⟩ : BufTy).Contents (Elt F) → (⟨S16384x1000, .f32⟩ : BufTy).Contents (Elt F)),
    unary main_v9 main_v10 (Host.absf : (⟨S16384x1000, .f32⟩ : BufTy).Contents (Elt F) → (⟨S16384x1000, .f32⟩ : BufTy).Contents (Elt F)),
    nullary main_cst_5 (constant S_ .f32 0x3F800000#32),
    unary main_cst_5 main_v11 (broadcastInDim S16384x1000 ![] bcast_S_S16384x1000 : (⟨S_, .f32⟩ : BufTy).Contents (Elt F) → (⟨S16384x1000, .f32⟩ : BufTy).Contents (Elt F)),
    binary main_v10 main_v11 main_v12 (Host.powf : (⟨S16384x1000, .f32⟩ : BufTy).Contents (Elt F) → (⟨S16384x1000, .f32⟩ : BufTy).Contents (Elt F) → (⟨S16384x1000, .f32⟩ : BufTy).Contents (Elt F)),
    reshape main_v12 main_v13 (rfl : (.f32 : EltTy) = .f32) shapeCasts_S16384x1000_S16384000,
    nullary main_c_6 (constantI S_ 32 42#32),
    nullary main_c_7 (constantI S_ 32 32#32),
    binary main_c_6 main_c_7 main_v14 (Host.shrui : (⟨S_, .i32⟩ : BufTy).Contents (Elt F) → (⟨S_, .i32⟩ : BufTy).Contents (Elt F) → (⟨S_, .i32⟩ : BufTy).Contents (Elt F)),
    unary main_v14 main_v15 (id : (⟨S_, .i32⟩ : BufTy).Contents (Elt F) → (⟨S_, .i32⟩ : BufTy).Contents (Elt F)),
    unary main_v15 main_v16 (broadcastInDim S1 ![] bcast_S_S1 : (⟨S_, .i32⟩ : BufTy).Contents (Elt F) → (⟨S1, .i32⟩ : BufTy).Contents (Elt F)),
    nullary main_c_8 (constantI S_ 32 4294967295#32),
    binary main_c_6 main_c_8 main_v17 (andi : (⟨S_, .i32⟩ : BufTy).Contents (Elt F) → (⟨S_, .i32⟩ : BufTy).Contents (Elt F) → (⟨S_, .i32⟩ : BufTy).Contents (Elt F)),
    unary main_v17 main_v18 (id : (⟨S_, .i32⟩ : BufTy).Contents (Elt F) → (⟨S_, .i32⟩ : BufTy).Contents (Elt F)),
    unary main_v18 main_v19 (broadcastInDim S1 ![] bcast_S_S1 : (⟨S_, .i32⟩ : BufTy).Contents (Elt F) → (⟨S1, .i32⟩ : BufTy).Contents (Elt F)),
    binary main_v16 main_v19 main_v20 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst_9 (constant S_ .f32 0x00000000#32),
    nullary main_cst_10 (constant S_ .f32 0x3F800000#32)]

/-- The scores. -/
abbrev opsE : List (HloOp τ sig (Elt F)) :=
  [nullary main_cst_11 (constant S_ .f32 0x3F800000#32),
    unary main_cst_11 main_v22 (broadcastInDim S4096x16384000 ![] bcast_S_S4096x16384000 : (⟨S_, .f32⟩ : BufTy).Contents (Elt F) → (⟨S4096x16384000, .f32⟩ : BufTy).Contents (Elt F)),
    binary main_v21 main_v22 main_v23 (mulf : (⟨S4096x16384000, .f32⟩ : BufTy).Contents (Elt F) → (⟨S4096x16384000, .f32⟩ : BufTy).Contents (Elt F) → (⟨S4096x16384000, .f32⟩ : BufTy).Contents (Elt F)),
    nullary main_cst_12 (constant S_ .f32 0x00800000#32),
    unary main_cst_12 main_v24 (broadcastInDim S4096x16384000 ![] bcast_S_S4096x16384000 : (⟨S_, .f32⟩ : BufTy).Contents (Elt F) → (⟨S4096x16384000, .f32⟩ : BufTy).Contents (Elt F)),
    binary main_v23 main_v24 main_v25 (addf : (⟨S4096x16384000, .f32⟩ : BufTy).Contents (Elt F) → (⟨S4096x16384000, .f32⟩ : BufTy).Contents (Elt F) → (⟨S4096x16384000, .f32⟩ : BufTy).Contents (Elt F)),
    nullary main_cst_13 (constant S_ .f32 0x00800000#32),
    unary main_cst_13 main_v26 (broadcastInDim S4096x16384000 ![] bcast_S_S4096x16384000 : (⟨S_, .f32⟩ : BufTy).Contents (Elt F) → (⟨S4096x16384000, .f32⟩ : BufTy).Contents (Elt F)),
    binary main_v26 main_v25 main_v27 (maximumf : (⟨S4096x16384000, .f32⟩ : BufTy).Contents (Elt F) → (⟨S4096x16384000, .f32⟩ : BufTy).Contents (Elt F) → (⟨S4096x16384000, .f32⟩ : BufTy).Contents (Elt F)),
    unary main_v27 main_v28 (Host.log : (⟨S4096x16384000, .f32⟩ : BufTy).Contents (Elt F) → (⟨S4096x16384000, .f32⟩ : BufTy).Contents (Elt F)),
    unary main_v28 main_v29 (Host.negf : (⟨S4096x16384000, .f32⟩ : BufTy).Contents (Elt F) → (⟨S4096x16384000, .f32⟩ : BufTy).Contents (Elt F)),
    unary main_v29 main_v30 (Host.log : (⟨S4096x16384000, .f32⟩ : BufTy).Contents (Elt F) → (⟨S4096x16384000, .f32⟩ : BufTy).Contents (Elt F)),
    unary main_v30 main_v31 (Host.negf : (⟨S4096x16384000, .f32⟩ : BufTy).Contents (Elt F) → (⟨S4096x16384000, .f32⟩ : BufTy).Contents (Elt F)),
    unary main_v13 main_v32 (Host.log : (⟨S16384000, .f32⟩ : BufTy).Contents (Elt F) → (⟨S16384000, .f32⟩ : BufTy).Contents (Elt F)),
    unary main_v32 main_v33 (broadcastInDim S1x16384000 ![1] bcast_S16384000_S1x16384000_1 : (⟨S16384000, .f32⟩ : BufTy).Contents (Elt F) → (⟨S1x16384000, .f32⟩ : BufTy).Contents (Elt F)),
    unary main_v33 main_v34 (broadcastInDim S4096x16384000 ![0, 1] bcast_S1x16384000_S4096x16384000_0_1 : (⟨S1x16384000, .f32⟩ : BufTy).Contents (Elt F) → (⟨S4096x16384000, .f32⟩ : BufTy).Contents (Elt F)),
    binary main_v31 main_v34 main_v35 (addf : (⟨S4096x16384000, .f32⟩ : BufTy).Contents (Elt F) → (⟨S4096x16384000, .f32⟩ : BufTy).Contents (Elt F) → (⟨S4096x16384000, .f32⟩ : BufTy).Contents (Elt F))]

/-- The drawn index made non-negative. -/
abbrev opsG : List (HloOp τ sig (Elt F)) :=
  [reshape main_v1 main_v37 (rfl : (.f32 : EltTy) = .f32) shapeCasts_S16384x1000_S16384000,
    nullary main_c_14 (constantI S_ 32 0#32),
    unary main_c_14 main_v38 (broadcastInDim S4096 ![] bcast_S_S4096 : (⟨S_, .i32⟩ : BufTy).Contents (Elt F) → (⟨S4096, .i32⟩ : BufTy).Contents (Elt F)),
    binary main_v36 main_v38 main_v39 (cmpi .slt : (⟨S4096, .i32⟩ : BufTy).Contents (Elt F) → (⟨S4096, .i32⟩ : BufTy).Contents (Elt F) → (⟨S4096, .i1⟩ : BufTy).Contents (Elt F)),
    nullary main_c_15 (constantI S_ 32 16384000#32),
    unary main_c_15 main_v40 (broadcastInDim S4096 ![] bcast_S_S4096 : (⟨S_, .i32⟩ : BufTy).Contents (Elt F) → (⟨S4096, .i32⟩ : BufTy).Contents (Elt F)),
    binary main_v36 main_v40 main_v41 (addi : (⟨S4096, .i32⟩ : BufTy).Contents (Elt F) → (⟨S4096, .i32⟩ : BufTy).Contents (Elt F) → (⟨S4096, .i32⟩ : BufTy).Contents (Elt F))]

/-- The loss at the drawn items. -/
abbrev opsH : List (HloOp τ sig (Elt F)) :=
  [ternary main_v39 main_v41 main_v36 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v42 main_v43 (broadcastInDim S4096x1 ![0] bcast_S4096_S4096x1_0 : (⟨S4096, .i32⟩ : BufTy).Contents (Elt F) → (⟨S4096x1, .i32⟩ : BufTy).Contents (Elt F)),
    binary main_v37 main_v43 main_v44 ((fun x i => Host.gather gather_S16384000_S4096x1_S4096_n_0_n_n_0_1_1 x i) : (⟨S16384000, .f32⟩ : BufTy).Contents (Elt F) → (⟨S4096x1, .i32⟩ : BufTy).Contents (Elt F) → (⟨S4096, .f32⟩ : BufTy).Contents (Elt F)),
    reshape main_v0 main_v45 (rfl : (.f32 : EltTy) = .f32) shapeCasts_S16384x1000_S16384000,
    nullary main_c_16 (constantI S_ 32 0#32),
    unary main_c_16 main_v46 (broadcastInDim S4096 ![] bcast_S_S4096 : (⟨S_, .i32⟩ : BufTy).Contents (Elt F) → (⟨S4096, .i32⟩ : BufTy).Contents (Elt F)),
    binary main_v36 main_v46 main_v47 (cmpi .slt : (⟨S4096, .i32⟩ : BufTy).Contents (Elt F) → (⟨S4096, .i32⟩ : BufTy).Contents (Elt F) → (⟨S4096, .i1⟩ : BufTy).Contents (Elt F)),
    nullary main_c_17 (constantI S_ 32 16384000#32),
    unary main_c_17 main_v48 (broadcastInDim S4096 ![] bcast_S_S4096 : (⟨S_, .i32⟩ : BufTy).Contents (Elt F) → (⟨S4096, .i32⟩ : BufTy).Contents (Elt F)),
    binary main_v36 main_v48 main_v49 (addi : (⟨S4096, .i32⟩ : BufTy).Contents (Elt F) → (⟨S4096, .i32⟩ : BufTy).Contents (Elt F) → (⟨S4096, .i32⟩ : BufTy).Contents (Elt F)),
    ternary main_v47 main_v49 main_v36 main_v50 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v50 main_v51 (broadcastInDim S4096x1 ![0] bcast_S4096_S4096x1_0 : (⟨S4096, .i32⟩ : BufTy).Contents (Elt F) → (⟨S4096x1, .i32⟩ : BufTy).Contents (Elt F)),
    binary main_v45 main_v51 main_v52 ((fun x i => Host.gather gather_S16384000_S4096x1_S4096_n_0_n_n_0_1_1 x i) : (⟨S16384000, .f32⟩ : BufTy).Contents (Elt F) → (⟨S4096x1, .i32⟩ : BufTy).Contents (Elt F) → (⟨S4096, .f32⟩ : BufTy).Contents (Elt F)),
    unary main_v52 main_v53 (Host.log : (⟨S4096, .f32⟩ : BufTy).Contents (Elt F) → (⟨S4096, .f32⟩ : BufTy).Contents (Elt F)),
    binary main_v53 main_v44 main_v54 (mulf : (⟨S4096, .f32⟩ : BufTy).Contents (Elt F) → (⟨S4096, .f32⟩ : BufTy).Contents (Elt F) → (⟨S4096, .f32⟩ : BufTy).Contents (Elt F)),
    nullary main_cst_18 (constant S_ .f32 0x3F800000#32),
    unary main_cst_18 main_v55 (broadcastInDim S4096 ![] bcast_S_S4096 : (⟨S_, .f32⟩ : BufTy).Contents (Elt F) → (⟨S4096, .f32⟩ : BufTy).Contents (Elt F)),
    binary main_v55 main_v52 main_v56 (subf : (⟨S4096, .f32⟩ : BufTy).Contents (Elt F) → (⟨S4096, .f32⟩ : BufTy).Contents (Elt F) → (⟨S4096, .f32⟩ : BufTy).Contents (Elt F)),
    unary main_v56 main_v57 (Host.log : (⟨S4096, .f32⟩ : BufTy).Contents (Elt F) → (⟨S4096, .f32⟩ : BufTy).Contents (Elt F)),
    nullary main_cst_19 (constant S_ .f32 0x3F800000#32),
    unary main_cst_19 main_v58 (broadcastInDim S4096 ![] bcast_S_S4096 : (⟨S_, .f32⟩ : BufTy).Contents (Elt F) → (⟨S4096, .f32⟩ : BufTy).Contents (Elt F)),
    binary main_v58 main_v44 main_v59 (subf : (⟨S4096, .f32⟩ : BufTy).Contents (Elt F) → (⟨S4096, .f32⟩ : BufTy).Contents (Elt F) → (⟨S4096, .f32⟩ : BufTy).Contents (Elt F)),
    binary main_v57 main_v59 main_v60 (mulf : (⟨S4096, .f32⟩ : BufTy).Contents (Elt F) → (⟨S4096, .f32⟩ : BufTy).Contents (Elt F) → (⟨S4096, .f32⟩ : BufTy).Contents (Elt F)),
    binary main_v54 main_v60 main_v61 (addf : (⟨S4096, .f32⟩ : BufTy).Contents (Elt F) → (⟨S4096, .f32⟩ : BufTy).Contents (Elt F) → (⟨S4096, .f32⟩ : BufTy).Contents (Elt F)),
    unary main_v61 main_v62 (Host.negf : (⟨S4096, .f32⟩ : BufTy).Contents (Elt F) → (⟨S4096, .f32⟩ : BufTy).Contents (Elt F)),
    nullary main_cst_20 (constant S_ .f32 0x00000000#32),
    binary main_v62 main_cst_20 main_v63 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_21 (constant S_ .f32 0x45800000#32),
    binary main_v63 main_cst_21 main_v64 (Host.divf : (⟨S_, .f32⟩ : BufTy).Contents (Elt F) → (⟨S_, .f32⟩ : BufTy).Contents (Elt F) → (⟨S_, .f32⟩ : BufTy).Contents (Elt F))]

/-- The operations before the loss. -/
def ops₀ : List (HloOp τ sig (Elt F)) :=
  opsA ++ ((clipOps (.of main_arg0) (.of main_cst) (.of main_cst_0) main_call0) ++ (opsB ++ ((clipOps (.of main_arg0) (.of main_cst_1) (.of main_cst_2) main_call1) ++ (opsC ++ ((whereOps (.of main_v5) (.of main_cst_4) (.of main_v3) main_call2) ++ (opsD ++ ((uniformOps (.of main_v20) (.of main_cst_9) (.of main_cst_10) main_call3) ++ (opsE ++ ((argmaxOps (.of main_v35) main_call4) ++ (opsG))))))))))

/-- The whole program's operations. -/
def ops : List (HloOp τ sig (Elt F)) :=
  ops₀ ++ opsH

/-! ## The program is its list -/

theorem clip_eq (a b c φ) : fn_clip.body (F := F) a b c φ = seq (clipOps a b c φ) := rfl
theorem where_eq (a b c φ) : fn_where.body (F := F) a b c φ = seq (whereOps a b c φ) := rfl
theorem argmax_eq (a φ) : fn_argmax.body (F := F) a φ = seq (argmaxOps a φ) := rfl
theorem threefry_eq (a b c d φ) : fn_threefry2x32.body (F := F) a b c d φ = seq (threefryOps a b c d φ) := rfl
theorem uniform_eq (a b c φ) : fn_uniform.body (F := F) a b c φ = seq (uniformOps a b c φ) := by
  simp only [uniformOps, seq_append, ← threefry_eq]
  rfl
theorem part0_eq (c : Dev nD) : main_part0 (F := F) c = seq ops₀ := by
  simp only [ops₀, seq_append, ← clip_eq, ← where_eq, ← uniform_eq, ← argmax_eq]
  rfl
theorem part1_eq (c : Dev nD) : main_part1 (F := F) c = seq opsH := rfl
theorem main_eq (c : Dev nD) : main (F := F) c = seq ops := by
  simp only [ops, seq_append, ← part0_eq c, ← part1_eq c]
  rfl

end Cert.Proof.ReferenceIdeal
end
-- ==== Proof.RefThreefry.lean ====
module

public import proofs.«01_k».proof.Proof.Threefry
public import proofs.«01_k».proof.Proof.RefOps
public import Idealize.ShloMosaic.Lib.Pipeline.Value

@[expose] public section

set_option maxRecDepth 8192

noncomputable section

/-! The reference's generator at one draw and item. -/

namespace Cert.Proof.ReferenceIdeal

open Cert.ReferenceIdeal Cert.ReferenceIdeal.Gen
open Idealize.ShloMosaic Idealize.ShloMosaic.TcCoe Idealize.ShloMosaic.StableHlo
open Cert.Proof.Single

variable {F : FTy → Type} [FloatOps F] {W : Valuation τ sig (Elt F)}

/-- A rank-zero value is the same at every place. -/
theorem wide_apply {α : Type} (x : S_.Idx → α) (j : S4096x16384000.Idx) (k : S_.Idx) : wide x j = x k :=
  broadcastInDim_apply _ _ _ _ _ fun a => a.elim0

/-- The only index of a rank-zero value. -/
abbrev z : S_.Idx := fun a => a.elim0

/-- The two words two buffers hold at a place. -/
def pair (W : Valuation τ sig (Elt F)) (x y : WideRef) (j : S4096x16384000.Idx) : Words :=
  ((get W x : IVec S4096x16384000 32) j, (get W y : IVec S4096x16384000 32) j)

/-- The word a buffer holds. -/
def one (W : Valuation τ sig (Elt F)) (x : WordRef) : BitVec 32 := (get W x : IVec S_ 32) z

/-- A word given to every place. -/
theorem get_wide {x : WordRef} {y : WideRef} (h : (TRef.unary (τ := τ) (Val := Elt F) x y wide).result W = W) (j : S4096x16384000.Idx) :
    (get W y : IVec S4096x16384000 32) j = one W x :=
  (congrFun (get_unary h) j).trans (wide_apply _ j z)

/-- A constant given to every place. -/
theorem get_const {x : WordRef} {y : WideRef} {k : BitVec 32} (h₁ : (TRef.nullary (τ := τ) (Val := Elt F) x (constantI S_ 32 k)).result W = W)
    (h : (TRef.unary (τ := τ) (Val := Elt F) x y wide).result W = W) (j : S4096x16384000.Idx) : (get W y : IVec S4096x16384000 32) j = k :=
  (get_wide h j).trans (congrFun (get_nullary h₁) z)

theorem round_pair {x₀ x₁ s : WideRef} {c₁ : WordRef} {b₁ l : WideRef} {c₂ : WordRef} {b₂ r o y : WideRef} {k₁ k₂ : BitVec 32}
    (h : Fixed W (roundOps x₀ x₁ s c₁ b₁ l c₂ b₂ r o y k₁ k₂)) (j : S4096x16384000.Idx) :
    pair W s y j = rnd k₁ k₂ (pair W x₀ x₁ j) := by
  obtain ⟨hs, hc₁, hb₁, hl, hc₂, hb₂, hr, ho, hy⟩ := h
  have es := congrFun (get_binary hs) j
  have el := congrFun (get_binary hl) j
  have er := congrFun (get_binary hr) j
  have eo := congrFun (get_binary ho) j
  have ey := congrFun (get_binary hy) j
  simp only [addi, xori, ori, Host.shli, Host.shrui, get_const hc₁ hb₁ j, get_const hc₂ hb₂ j] at es el er eo ey
  unfold pair rnd
  rw [ey, eo, el, er, es]

theorem key_pair {ka kb : WordRef} {x₀ x₁ b₁ y₀ b₂ t : WideRef} {c : WordRef} {b₃ y₁ : WideRef} {n : BitVec 32}
    (h : Fixed W (keyOps ka kb x₀ x₁ b₁ y₀ b₂ t c b₃ y₁ n)) (j : S4096x16384000.Idx) :
    pair W y₀ y₁ j = keyed (one W ka) (one W kb) n (pair W x₀ x₁ j) := by
  obtain ⟨hb₁, hy₀, hb₂, ht, hc, hb₃, hy₁⟩ := h
  have e₀ := congrFun (get_binary hy₀) j
  have et := congrFun (get_binary ht) j
  have e₁ := congrFun (get_binary hy₁) j
  simp only [addi, get_wide hb₁ j, get_wide hb₂ j, get_const hc hb₃ j] at e₀ et e₁
  unfold pair keyed
  rw [e₁, et, e₀]

/-- The generator's words at a draw and item. -/
theorem threefry_pair {arg0 arg1 : WordRef} {arg2 arg3 : WideRef} {φ : fn_threefry2x32.Bufs}
    (h : Fixed W (threefryOps arg0 arg1 arg2 arg3 φ)) (j : S4096x16384000.Idx) :
    pair W φ.v171 φ.v175 j = threefry (one W arg0) (one W arg1) (pair W arg2 arg3 j).1 (pair W arg2 arg3 j).2 := by
  simp only [threefryOps, Fixed.append] at h
  obtain ⟨⟨hv0, hc, hv1, hv2, hv3, hv4, hv5⟩, a₁, a₂, a₃, a₄, ka, b₁, b₂, b₃, b₄, kb, c₁, c₂, c₃, c₄, kc, d₁, d₂, d₃, d₄, kd,
    e₁, e₂, e₃, e₄, ke⟩ := h
  have e1 : one W φ.v1 = IntOp.xori (IntOp.xori (one W arg0) (one W arg1)) 466688986#32 := by
    unfold one
    rw [get_binary hv1, get_binary hv0, get_nullary hc]
    rfl
  have e3 := congrFun (get_binary hv3) j
  have e5 := congrFun (get_binary hv5) j
  simp only [addi, get_wide hv2 j, get_wide hv4 j] at e3 e5
  rw [key_pair ke, round_pair e₄, round_pair e₃, round_pair e₂, round_pair e₁, key_pair kd, round_pair d₄, round_pair d₃,
    round_pair d₂, round_pair d₁, key_pair kc, round_pair c₄, round_pair c₃, round_pair c₂, round_pair c₁, key_pair kb, round_pair b₄,
    round_pair b₃, round_pair b₂, round_pair b₁, key_pair ka, round_pair a₄, round_pair a₃, round_pair a₂, round_pair a₁,
    show pair W φ.v3 φ.v5 j = (IntOp.addi (pair W arg2 arg3 j).1 (one W arg0), IntOp.addi (pair W arg2 arg3 j).2 (one W arg1)) from
      Prod.ext e3 e5, e1]
  rfl

end Cert.Proof.ReferenceIdeal
end
-- ==== Proof.RefUniform.lean ====
module

public import proofs.«01_k».proof.Proof.RefThreefry
public import proofs.«01_k».proof.Proof.Uniform

@[expose] public section

set_option maxRecDepth 8192

noncomputable section

/-! The reference's uniform numbers at one draw and item. -/

namespace Cert.Proof.ReferenceIdeal

open Cert.ReferenceIdeal Cert.ReferenceIdeal.Gen
open Idealize.ShloMosaic Idealize.ShloMosaic.TcCoe Idealize.ShloMosaic.StableHlo
open Cert.Proof.Single

variable {W : Valuation τ sig (Elt Ideal)}

attribute [local irreducible] IntOp.addi IntOp.xori IntOp.ori IntOp.shli IntOp.shrui IntOp.muli

/-- The reference's uniform number of a draw and item. -/
theorem uniform_apply {arg0 : TRef sig ⟨S2, .i32⟩} {arg1 arg2 : TRef sig ⟨S_, .f32⟩} {φ : fn_uniform.Bufs}
    (h : Fixed W (uniformOps (F := Ideal) arg0 arg1 arg2 φ)) (hk : get W arg0 = Draw.key bcast_S_S1 concatenates_S1_S1_S2_d0)
    (h0 : get W arg1 = (constant (F := Ideal) S_ .f32 0x00000000#32 : FVec Ideal S_ .f32))
    (h1 : get W arg2 = (constant (F := Ideal) S_ .f32 0x3F800000#32 : FVec Ideal S_ .f32)) (d : Fin 4096) (j : Fin 16384000) :
    (get W φ.v34 : FVec Ideal S4096x16384000 .f32) (ValueIdx.ix2 d j) = Draw.unit (d.val * 16384000 + j.val) := by
  simp only [uniformOps, Fixed.append] at h
  obtain ⟨⟨v0, v1, v2, v3, v4, v5, v6, v7, v8, v9, c, v10, v11, c0, v12, v13, v14, c1, v15, v16, v17, v18⟩, ht,
    v20, c2, v21, v22, c3, v23, v24, v25, cst, v26, v27, v28, v29, v30, v31, v32, v33, v34⟩ := h
  have k0 : one W φ.v5 = 0#32 := by
    unfold one
    rw [get_reshape v5, get_unary v4, hk]
    exact congrFun (Draw.key_fst bcast_S_S1 concatenates_S1_S1_S2_d0 slices_S2_S1_0 shapeCasts_S1_S_) z
  have k1 : one W φ.v7 = 42#32 := by
    unfold one
    rw [get_reshape v7, get_unary v6, hk]
    exact congrFun (Draw.key_snd bcast_S_S1 concatenates_S1_S1_S2_d0 slices_S2_S1_1 shapeCasts_S1_S_) z
  have e14 : (get W φ.v14 : IVec S4096x16384000 64) (ValueIdx.ix2 d j)
      = IntOp.addi (IntOp.muli 16384000#64 (BitVec.ofNat 64 d.val)) (IntOp.muli 1#64 (BitVec.ofNat 64 j.val)) := by
    rw [get_binary v14, get_binary v13, get_binary v11, get_unary v12, get_unary v10, get_nullary c, get_nullary c0, get_nullary v8, get_nullary v9]
    rfl
  have e17 : (get W φ.v17 : IVec S4096x16384000 32) (ValueIdx.ix2 d j) = BitVec.ofNat 32 (d.val * 16384000 + j.val) := by
    rw [get_unary v17]
    exact (congrArg (BitVec.setWidth 32) e14).trans (Draw.counter_lo d j)
  have e18 : (get W φ.v18 : IVec S4096x16384000 32) (ValueIdx.ix2 d j) = BitVec.ofNat 32 ((d.val * 16384000 + j.val) / 2 ^ 32) := by
    rw [get_unary v18, get_binary v16, get_unary v15, get_nullary c1]
    exact (congrArg (fun x => BitVec.setWidth 32 (IntOp.shrui .host x 32#64)) e14).trans (Draw.counter_hi d j)
  have hp := threefry_pair ht (ValueIdx.ix2 d j)
  rw [k0, k1, show pair W φ.v18 φ.v17 (ValueIdx.ix2 d j) = (_, _) from Prod.ext e18 e17] at hp
  have eb : (get W φ.v22 : IVec S4096x16384000 32) (ValueIdx.ix2 d j) = Draw.bits (d.val * 16384000 + j.val) := by
    rw [get_binary v22, get_binary v20, get_unary v21, get_nullary c2]
    show IntOp.shrui .host (IntOp.xori (pair W φ.call0.v171 φ.call0.v175 (ValueIdx.ix2 d j)).1 (pair W φ.call0.v171 φ.call0.v175 (ValueIdx.ix2 d j)).2) 9#32 = _
    rw [hp]
    rfl
  rw [get_binary v34, get_unary v33, get_binary v32, get_unary v31, get_binary v30, get_unary v29, get_binary v28, get_unary v2, get_unary v3,
    get_unary v0, get_unary v1, h0, h1, get_binary v27, get_unary v26, get_nullary cst, get_unary v25, get_binary v24, get_unary v23, get_nullary c3]
  unfold Draw.unit
  rw [← eb]
  rfl

end Cert.Proof.ReferenceIdeal
end
-- ==== Proof.RefValue.lean ====
module

public import proofs.«01_k».proof.Proof.RefUniform
public import proofs.«01_k».proof.Proof.Rows

@[expose] public section

set_option maxRecDepth 8192

noncomputable section

/-! The reference's result: the mean over the draws of the loss at an item whose score is the draw's greatest. -/

namespace Cert.Proof.ReferenceIdeal

open Cert.ReferenceIdeal Cert.ReferenceIdeal.Gen
open Idealize.ShloMosaic Idealize.ShloMosaic.TcCoe Idealize.ShloMosaic.StableHlo
open Cert.Proof.Single
open Cert.Proof.Draw (place weight score loss)

variable {W : Valuation τ sig (Elt Ideal)}

attribute [local irreducible] IntOp.addi IntOp.xori IntOp.ori IntOp.shli IntOp.shrui IntOp.muli

/-! ## An operation of the main program, read -/

section Raw
variable {x a b c y : Ref sig .tc}

theorem raw_nullary {v : y.ty.Contents (Elt Ideal)} {hy} (h : (nullary (τ := τ) y v hy).result W = W) : W (Proc.devRef .tc y) = v :=
  (congrFun h.symm (Proc.devRef .tc y)).trans (nullary_result ..)
theorem raw_unary {f : x.ty.Contents (Elt Ideal) → y.ty.Contents (Elt Ideal)} {hx hy} (h : (unary (τ := τ) x y f hx hy).result W = W) :
    W (Proc.devRef .tc y) = f (W (Proc.devRef .tc x)) := (congrFun h.symm (Proc.devRef .tc y)).trans (unary_result ..)
theorem raw_binary {f : a.ty.Contents (Elt Ideal) → b.ty.Contents (Elt Ideal) → y.ty.Contents (Elt Ideal)} {ha hb hy}
    (h : (binary (τ := τ) a b y f ha hb hy).result W = W) :
    W (Proc.devRef .tc y) = f (W (Proc.devRef .tc a)) (W (Proc.devRef .tc b)) := (congrFun h.symm (Proc.devRef .tc y)).trans (binary_result ..)
theorem raw_ternary {f : c.ty.Contents (Elt Ideal) → a.ty.Contents (Elt Ideal) → b.ty.Contents (Elt Ideal) → y.ty.Contents (Elt Ideal)} {hc ha hb hy}
    (h : (ternary (τ := τ) c a b y f hc ha hb hy).result W = W) :
    W (Proc.devRef .tc y) = f (W (Proc.devRef .tc c)) (W (Proc.devRef .tc a)) (W (Proc.devRef .tc b)) :=
  (congrFun h.symm (Proc.devRef .tc y)).trans (ternary_result ..)
theorem raw_reshape {he : x.ty.elt = y.ty.elt} {hn : x.ty.shape.ShapeCasts y.ty.shape} {hx hy}
    (h : (reshape (τ := τ) (Val := Elt Ideal) x y he hn hx hy).result W = W) :
    W (Proc.devRef .tc y) = fun i => he ▸ shapeCast y.ty.shape (W (Proc.devRef .tc x)) hn i :=
  (congrFun h.symm (Proc.devRef .tc y)).trans (reshape_result ..)

end Raw

/-! ## The functions called -/

theorem clip_at {arg0 : TRef sig ⟨S16384x1000, .f32⟩} {arg1 arg2 : TRef sig ⟨S_, .f32⟩} {φ : fn_clip.Bufs} {c₁ c₂ : BitVec 32}
    (h : Fixed W (clipOps (F := Ideal) arg0 arg1 arg2 φ)) (h1 : get W arg1 = (constant (F := Ideal) S_ .f32 c₁ : FVec Ideal S_ .f32))
    (h2 : get W arg2 = (constant (F := Ideal) S_ .f32 c₂ : FVec Ideal S_ .f32)) (i : S16384x1000.Idx) :
    (get W φ.v5 : FVec Ideal S16384x1000 .f32) i
      = min (Ideal.ofBits .f32 c₂) (max (Ideal.ofBits .f32 c₁) ((get W arg0 : FVec Ideal S16384x1000 .f32) i : EReal)) := by
  obtain ⟨v0, v1, v2, v3, v4, v5⟩ := h
  rw [get_binary v5, get_unary v4, get_unary v3, get_binary v2, get_unary v1, get_unary v0, h1, h2, Draw.minimumf_at, Draw.maximumf_at]
  rfl

theorem where_at {arg0 : TRef sig ⟨S16384x1000, .i1⟩} {arg1 : TRef sig ⟨S_, .f32⟩} {arg2 : TRef sig ⟨S16384x1000, .f32⟩} {φ : fn_where.Bufs}
    {c₁ : BitVec 32} (h : Fixed W (whereOps (F := Ideal) arg0 arg1 arg2 φ))
    (h1 : get W arg1 = (constant (F := Ideal) S_ .f32 c₁ : FVec Ideal S_ .f32)) (i : S16384x1000.Idx) :
    (get W φ.v2 : FVec Ideal S16384x1000 .f32) i
      = (Scalar.select ((get W arg0 : IVec S16384x1000 1) i) (Ideal.ofBits .f32 c₁) ((get W arg2 : FVec Ideal S16384x1000 .f32) i) : EReal) := by
  obtain ⟨v0, v1, v2⟩ := h
  rw [get_ternary v2, get_unary v1, get_unary v0, h1, Draw.select_at]
  rfl

/-- The comparison of the search for the greatest chooses one of its two. -/
theorem reducer_eq (a b : EReal × BitVec 32) :
    (reducer_argmax_f32_i32 (F := Ideal) a b = a ∨ reducer_argmax_f32_i32 (F := Ideal) a b = b)
      ∧ a.1 ≤ (reducer_argmax_f32_i32 (F := Ideal) a b).1 ∧ b.1 ≤ (reducer_argmax_f32_i32 (F := Ideal) a b).1 := by
  obtain ⟨a, i⟩ := a
  obtain ⟨b, j⟩ := b
  have h : reducer_argmax_f32_i32 (F := Ideal) (a, i) (b, j)
      = (Scalar.select (IntOp.ori (Ideal.cmp .ogt a b) (Ideal.cmp .une a a)) a b,
        Scalar.select (IntOp.ori (IntOp.ori (Ideal.cmp .ogt a b) (Ideal.cmp .une a a)) (IntOp.andi (Ideal.cmp .oeq a b) (IntOp.cmpi .slt i j))) i j) := rfl
  rw [h]
  have hne : Ideal.cmp .une a a = 0#1 := by simp [Ideal.cmp]
  rw [hne]
  rcases lt_trichotomy a b with hab | rfl | hab
  · have h1 : Ideal.cmp .ogt a b = 0#1 := by simp [Ideal.cmp, not_lt.2 hab.le]
    have h2 : Ideal.cmp .oeq a b = 0#1 := by simp [Ideal.cmp, hab.ne]
    rw [h1, h2]
    have e : ∀ u : BitVec 1, IntOp.ori (IntOp.ori 0#1 0#1) (IntOp.andi 0#1 u) = 0#1 := by unfold IntOp.ori IntOp.andi; decide
    rw [e, show IntOp.ori 0#1 0#1 = 0#1 by unfold IntOp.ori; decide]
    exact ⟨Or.inr rfl, hab.le, le_rfl⟩
  · have h1 : Ideal.cmp .ogt a a = 0#1 := by simp [Ideal.cmp]
    rw [h1, show IntOp.ori 0#1 0#1 = 0#1 by unfold IntOp.ori; decide]
    refine ⟨?_, le_rfl, le_rfl⟩
    rcases (show ∀ u : BitVec 1, u = 0#1 ∨ u = 1#1 by decide) (IntOp.ori 0#1 (IntOp.andi (Ideal.cmp .oeq a a) (IntOp.cmpi .slt i j))) with e | e
    · rw [e]; exact Or.inr rfl
    · rw [e]; exact Or.inl rfl
  · have h1 : Ideal.cmp .ogt a b = 1#1 := by simp [Ideal.cmp, hab]
    rw [h1, show IntOp.ori 1#1 0#1 = 1#1 by unfold IntOp.ori; decide]
    have e : ∀ u : BitVec 1, IntOp.ori 1#1 u = 1#1 := by unfold IntOp.ori; decide
    rw [e]
    exact ⟨Or.inl rfl, le_rfl, hab.le⟩

theorem argmax_at {arg0 : TRef sig ⟨S4096x16384000, .f32⟩} {φ : fn_argmax.Bufs} (h : Fixed W (argmaxOps (F := Ideal) arg0 φ)) (d : Fin 4096) :
    ∃ j : Fin 16384000, (get W φ.v1_1 : IVec S4096 32) (ValueIdx.ix1 d) = BitVec.ofNat 32 j.val
      ∧ ∀ k, ((get W arg0 : FVec Ideal S4096x16384000 .f32) (ValueIdx.ix2 d k) : EReal) ≤ (get W arg0 : FVec Ideal S4096x16384000 .f32) (ValueIdx.ix2 d j) := by
  obtain ⟨v0, cst, c, -, v1⟩ := h
  rw [get_quaternary v1]
  refine Draw.argmax_apply _ (fun a b => (reducer_eq a b).1) (fun a b => (reducer_eq a b).2.1) (fun a b => (reducer_eq a b).2.2) _ _ _ _ _ _ ?_ ?_ ?_ d
  · rw [get_nullary cst]; exact Draw.neg_inf
  · rw [get_nullary c]; rfl
  · intro d j; rw [get_nullary v0]; rfl

end Cert.Proof.ReferenceIdeal
end
-- ==== Proof.RefLoss.lean ====
module

public import proofs.«01_k».proof.Proof.RefValue

@[expose] public section

set_option maxRecDepth 8192

noncomputable section

/-! The reference's main program, value by value. -/

namespace Cert.Proof.ReferenceIdeal

open Cert.ReferenceIdeal Cert.ReferenceIdeal.Gen
open Idealize.ShloMosaic Idealize.ShloMosaic.TcCoe Idealize.ShloMosaic.StableHlo
open Cert.Proof.Single
open Cert.Proof.Draw (place weight score loss clipped)

variable {W : Valuation τ sig (Elt Ideal)}

attribute [local irreducible] IntOp.addi IntOp.xori IntOp.ori IntOp.shli IntOp.shrui IntOp.muli

variable (W) in
/-- The probabilities. -/
abbrev probs : FVec Ideal S16384x1000 .f32 := W (Proc.devRef .tc main_arg0)
variable (W) in
/-- The targets. -/
abbrev targs : IVec S16384x1000 32 := W (Proc.devRef .tc main_arg1)

/-- The program's equations, stretch by stretch. -/
structure Parts (W : Valuation τ sig (Elt Ideal)) : Prop where
  A : Fixed W (opsA (F := Ideal))
  clip0 : Fixed W (clipOps (F := Ideal) (.of main_arg0) (.of main_cst) (.of main_cst_0) main_call0)
  B : Fixed W (opsB (F := Ideal))
  clip1 : Fixed W (clipOps (F := Ideal) (.of main_arg0) (.of main_cst_1) (.of main_cst_2) main_call1)
  C : Fixed W (opsC (F := Ideal))
  mask : Fixed W (whereOps (F := Ideal) (.of main_v5) (.of main_cst_4) (.of main_v3) main_call2)
  D : Fixed W (opsD (F := Ideal))
  unif : Fixed W (uniformOps (F := Ideal) (.of main_v20) (.of main_cst_9) (.of main_cst_10) main_call3)
  E : Fixed W (opsE (F := Ideal))
  arg : Fixed W (argmaxOps (F := Ideal) (.of main_v35) main_call4)
  G : Fixed W (opsG (F := Ideal))
  H : Fixed W (opsH (F := Ideal))

theorem parts (h : Fixed W (ops (F := Ideal))) : Parts W := by
  unfold ops ops₀ at h
  obtain ⟨h, H⟩ := Fixed.append.1 h
  obtain ⟨A, h⟩ := Fixed.append.1 h
  obtain ⟨clip0, h⟩ := Fixed.append.1 h
  obtain ⟨B, h⟩ := Fixed.append.1 h
  obtain ⟨clip1, h⟩ := Fixed.append.1 h
  obtain ⟨C, h⟩ := Fixed.append.1 h
  obtain ⟨mask, h⟩ := Fixed.append.1 h
  obtain ⟨D, h⟩ := Fixed.append.1 h
  obtain ⟨unif, h⟩ := Fixed.append.1 h
  obtain ⟨E, h⟩ := Fixed.append.1 h
  obtain ⟨arg, G⟩ := Fixed.append.1 h
  exact ⟨A, clip0, B, clip1, C, mask, D, unif, E, arg, G, H⟩

variable (P : Parts W)
include P

/-- The probabilities in range, as the loss reads them, -/
theorem v0_at (i : S16384x1000.Idx) : ((W (Proc.devRef .tc main_v0) : FVec Ideal S16384x1000 .f32) i : EReal) = clipped (probs W i) := by
  obtain ⟨a, b⟩ := P.A
  exact clip_at P.clip0 (raw_nullary a) (raw_nullary b) i

/-- and as the weights do. -/
theorem v2_at (i : S16384x1000.Idx) : ((W (Proc.devRef .tc main_v2) : FVec Ideal S16384x1000 .f32) i : EReal) = clipped (probs W i) := by
  obtain ⟨-, a, b⟩ := P.B
  exact clip_at P.clip1 (raw_nullary a) (raw_nullary b) i

/-- The mask. -/
theorem v6_at (i : S16384x1000.Idx) : ((W (Proc.devRef .tc main_v6) : FVec Ideal S16384x1000 .f32) i : EReal)
    = Scalar.select (IntOp.cmpi .eq (targs W i) 4294967295#32) (Ideal.ofBits .f32 0x00000000#32) (Ideal.ofBits .f32 0x3F800000#32) := by
  obtain ⟨c3, v3, c, v4, v5, c4⟩ := P.C
  refine (where_at P.mask (raw_nullary c4) i).trans ?_
  show Scalar.select ((W (Proc.devRef .tc main_v5) : IVec S16384x1000 1) i) (Ideal.ofBits .f32 0x00000000#32)
    ((W (Proc.devRef .tc main_v3) : FVec Ideal S16384x1000 .f32) i) = _
  rw [raw_binary v5, raw_unary v4, raw_nullary c, raw_unary v3, raw_nullary c3, Draw.cmpi_at, Draw.constI_at, Draw.const_at]

/-- The weights. -/
theorem v13_at (hb : ∀ i, targs W i = 0#32 ∨ targs W i = 1#32) (j : Fin 16384000) :
    ((W (Proc.devRef .tc main_v13) : FVec Ideal S16384000 .f32) (ValueIdx.ix1 j) : EReal) = weight (probs W (place j)) (targs W (place j)) := by
  obtain ⟨v7, v8, v9, v10, c5, v11, v12, v13, -⟩ := P.D
  have e : (W (Proc.devRef .tc main_v13) : FVec Ideal S16384000 .f32)
      = shapeCast S16384000 (W (Proc.devRef .tc main_v12) : FVec Ideal S16384x1000 .f32) shapeCasts_S16384x1000_S16384000 := raw_reshape v13
  rw [e, Draw.flat_apply, raw_binary v12, Draw.powf_at, raw_unary v10, Draw.absf_at, raw_binary v9, Draw.mulf_at, v6_at P, raw_binary v8,
    Draw.subf_at, v2_at P, raw_unary v7, Draw.sitofp_at, raw_unary v11, raw_nullary c5, Draw.const_at]
  exact Draw.weight_formula _ _ (hb _)

/-- The uniform numbers. -/
theorem v21_at (d : Fin 4096) (j : Fin 16384000) :
    ((W (Proc.devRef .tc main_v21) : FVec Ideal S4096x16384000 .f32) (ValueIdx.ix2 d j) : EReal) = Draw.unit (d.val * 16384000 + j.val) := by
  obtain ⟨-, -, -, -, -, -, -, -, c6, c7, v14, v15, v16, c8, v17, v18, v19, v20, c9, c10⟩ := P.D
  refine uniform_apply P.unif ?_ (raw_nullary c9) (raw_nullary c10) d j
  show W (Proc.devRef .tc main_v20) = _
  rw [raw_binary v20, raw_unary v19, raw_unary v18, raw_binary v17, raw_nullary c8, raw_unary v16, raw_unary v15, raw_binary v14, raw_nullary c6, raw_nullary c7]
  rfl

/-- The scores. -/
theorem v35_at (hb : ∀ i, targs W i = 0#32 ∨ targs W i = 1#32) (d : Fin 4096) (j : Fin 16384000) :
    ((W (Proc.devRef .tc main_v35) : FVec Ideal S4096x16384000 .f32) (ValueIdx.ix2 d j) : EReal)
      = score d.val j.val (weight (probs W (place j)) (targs W (place j))) := by
  obtain ⟨c11, v22, v23, c12, v24, v25, c13, v26, v27, v28, v29, v30, v31, v32, v33, v34, v35⟩ := P.E
  have hl : (W (Proc.devRef .tc main_v34) : FVec Ideal S4096x16384000 .f32) (ValueIdx.ix2 d j)
      = Ideal.log (weight (probs W (place j)) (targs W (place j))) := by
    rw [raw_unary v34, broadcastInDim_apply _ _ _ (ValueIdx.ix2 d j) (ValueIdx.ix2 (0 : Fin 1) j) (fun a => match a with | ⟨0, _⟩ => rfl | ⟨1, _⟩ => rfl),
      raw_unary v33, broadcastInDim_apply _ _ _ (ValueIdx.ix2 (0 : Fin 1) j) (ValueIdx.ix1 j) (fun a => match a with | ⟨0, _⟩ => rfl),
      raw_unary v32, Draw.log_at, v13_at P hb]
  rw [raw_binary v35, Draw.addf_at, hl, raw_unary v31, Draw.negf_at, raw_unary v30, Draw.log_at, raw_unary v29, Draw.negf_at, raw_unary v28,
    Draw.log_at, raw_binary v27, Draw.maximumf_at, raw_binary v25, Draw.addf_at, raw_binary v23, Draw.mulf_at, v21_at P, raw_unary v26,
    raw_nullary c13, Draw.const_at, raw_unary v24, raw_nullary c12, Draw.const_at, raw_unary v22, raw_nullary c11, Draw.const_at, Draw.gumbel_unit]
  rfl

omit P in
/-- An item's number is not negative. -/
theorem slt_zero (j : Fin 16384000) : IntOp.cmpi .slt (BitVec.ofNat 32 j.val) 0#32 = 0#1 := by
  have hlt := j.isLt
  show BitVec.ofBool (decide ((BitVec.ofNat 32 j.val).toInt < (0#32 : BitVec 32).toInt)) = 0#1
  have e : (BitVec.ofNat 32 j.val).toInt = j.val := by
    rw [BitVec.toInt_eq_toNat_cond, BitVec.toNat_ofNat, Nat.mod_eq_of_lt (by omega), if_pos (by omega)]
  have e0 : (0#32 : BitVec 32).toInt = 0 := rfl
  rw [decide_eq_false (by rw [e, e0]; omega)]
  rfl

omit P in
/-- The number of the drawn item, made non-negative, is that number. -/
theorem index_at (v : IVec S4096 32) (hb : S_.BroadcastsInDim S4096 ![]) (hc : S4096.BroadcastsInDim S4096x1 ![0]) (n : BitVec 32)
    (d : Fin 4096) (j : Fin 16384000) (hv : v (ValueIdx.ix1 d) = BitVec.ofNat 32 j.val) :
    broadcastInDim S4096x1 ![0] hc (select (cmpi .slt v (broadcastInDim S4096 ![] hb (constantI S_ 32 0#32)))
      (addi v (broadcastInDim S4096 ![] hb (constantI S_ 32 n))) v) (ValueIdx.ix2 d (0 : Fin 1)) = BitVec.ofNat 32 j.val := by
  rw [broadcastInDim_apply _ _ _ (ValueIdx.ix2 d (0 : Fin 1)) (ValueIdx.ix1 d) (fun a => match a with | ⟨0, _⟩ => rfl),
    ValueIdx.select_apply, Draw.cmpi_at, Draw.constI_at, hv, slt_zero]
  rfl

/-- The loss of a draw is that of its drawn item. -/
theorem v62_at (hb : ∀ i, targs W i = 0#32 ∨ targs W i = 1#32) (d : Fin 4096) (j : Fin 16384000)
    (hj : (W (Proc.devRef .tc main_v36) : IVec S4096 32) (ValueIdx.ix1 d) = BitVec.ofNat 32 j.val) :
    ((W (Proc.devRef .tc main_v62) : FVec Ideal S4096 .f32) (ValueIdx.ix1 d) : EReal)
      = -Ideal.log (1 - weight (probs W (place j)) (targs W (place j))) := by
  obtain ⟨v1, -⟩ := P.B
  obtain ⟨v37, c14, v38, v39, c15, v40, v41⟩ := P.G
  obtain ⟨v42, v43, v44, v45, c16, v46, v47, c17, v48, v49, v50, v51, v52, v53, v54, c18, v55, v56, v57, c19, v58, v59, v60, v61, v62, -⟩ := P.H
  have e37 : (W (Proc.devRef .tc main_v37) : FVec Ideal S16384000 .f32)
      = shapeCast S16384000 (W (Proc.devRef .tc main_v1) : FVec Ideal S16384x1000 .f32) shapeCasts_S16384x1000_S16384000 := raw_reshape v37
  have e45 : (W (Proc.devRef .tc main_v45) : FVec Ideal S16384000 .f32)
      = shapeCast S16384000 (W (Proc.devRef .tc main_v0) : FVec Ideal S16384x1000 .f32) shapeCasts_S16384x1000_S16384000 := raw_reshape v45
  have i43 : (W (Proc.devRef .tc main_v43) : IVec S4096x1 32) (ValueIdx.ix2 d (0 : Fin 1)) = BitVec.ofNat 32 j.val := by
    rw [raw_unary v43, raw_ternary v42, raw_binary v39, raw_unary v38, raw_nullary c14, raw_binary v41, raw_unary v40, raw_nullary c15]
    exact index_at _ _ _ _ d j hj
  have i51 : (W (Proc.devRef .tc main_v51) : IVec S4096x1 32) (ValueIdx.ix2 d (0 : Fin 1)) = BitVec.ofNat 32 j.val := by
    rw [raw_unary v51, raw_ternary v50, raw_binary v47, raw_unary v46, raw_nullary c16, raw_binary v49, raw_unary v48, raw_nullary c17]
    exact index_at _ _ _ _ d j hj
  have e44 : ((W (Proc.devRef .tc main_v44) : FVec Ideal S4096 .f32) (ValueIdx.ix1 d) : EReal) = Draw.num (targs W (place j)) := by
    rw [raw_binary v44]
    refine (Draw.fetch_apply _ _ _ d j i43).trans ?_
    rw [e37, Draw.flat_apply, raw_unary v1, Draw.sitofp_at]
  have e52 : ((W (Proc.devRef .tc main_v52) : FVec Ideal S4096 .f32) (ValueIdx.ix1 d) : EReal) = clipped (probs W (place j)) := by
    rw [raw_binary v52]
    refine (Draw.fetch_apply _ _ _ d j i51).trans ?_
    rw [e45, Draw.flat_apply, v0_at P]
  rw [raw_unary v62, Draw.negf_at, raw_binary v61, Draw.addf_at, raw_binary v54, Draw.mulf_at, raw_unary v53, Draw.log_at, e52, e44,
    raw_binary v60, Draw.mulf_at, raw_unary v57, Draw.log_at, raw_binary v56, Draw.subf_at, e52, raw_binary v59, Draw.subf_at, e44,
    raw_unary v55, raw_nullary c18, Draw.const_at, raw_unary v58, raw_nullary c19, Draw.const_at, Ideal.ofBits_one_f32]
  exact Draw.loss_eq _ _ (hb _)

/-- The result: the mean loss of the items drawn, each with its draw's greatest score. -/
theorem value (hb : ∀ i, targs W i = 0#32 ∨ targs W i = 1#32) : ∃ J : Fin 4096 → Fin 16384000,
    (∀ (d : Fin 4096) (l : Fin 16384000), score d.val l.val (weight (probs W (place l)) (targs W (place l)))
      ≤ score d.val (J d).val (weight (probs W (place (J d))) (targs W (place (J d)))))
    ∧ (W (Proc.devRef .tc main_v64) : FVec Ideal S_ .f32) = fun _ => Ideal.div
        (∑ d : Fin 4096, -Ideal.log (1 - weight (probs W (place (J d))) (targs W (place (J d))))) (Ideal.ofBits .f32 0x45800000#32) := by
  choose J hJ using fun d => argmax_at P.arg d
  refine ⟨J, fun d l => ?_, ?_⟩
  · rw [← v35_at P hb, ← v35_at P hb]
    exact (hJ d).2 l
  · obtain ⟨-, -, -, -, -, -, -, -, -, -, -, -, -, -, -, -, -, -, -, -, -, -, -, -, -, c20, v63, c21, v64⟩ := P.H
    funext z
    rw [raw_binary v64, Draw.divf_at, raw_nullary c21, raw_binary v63]
    refine congrArg (fun u => Ideal.div u (Ideal.ofBits .f32 0x45800000#32)) ?_
    refine (Ideal.hostReduceAdd_total reducesTo_S4096_S_d0 (fun b => b.elim0) _ _ z).trans ?_
    rw [raw_nullary c20, Idealize.ShloMosaic.sum_idx1]
    refine (congrArg (· + _) Ideal.ofBits_zero_f32).trans ((zero_add _).trans ?_)
    exact Finset.sum_congr rfl fun d _ => v62_at P hb d (J d) (hJ d).1

end Cert.Proof.ReferenceIdeal
end
-- ==== Proof.RefRun.lean ====
module

public import proofs.«01_k».proof.Proof.RefOps
public import Idealize.ShloMosaic.Lib.Quiescent

@[expose] public section

set_option maxRecDepth 16384

noncomputable section

/-! The reference's run: it ends with every buffer at what the list of operations leaves there, which satisfies each
    operation's equation; the arguments are unchanged. -/

namespace Cert.Proof.ReferenceIdeal

open Cert.ReferenceIdeal Cert.ReferenceIdeal.Gen
open Idealize.ShloMosaic Idealize.ShloMosaic.TcCoe Idealize.ShloMosaic.StableHlo Idealize.SL.Sem
open Cert.Proof.Single

variable {F : FTy → Type} [FloatOps F]

set_option maxHeartbeats 2000000 in
/-- The operations write the buffers in the order they are numbered, each from earlier ones. -/
theorem chain : Chain 2 (ops (F := F)) := by
  repeat
    first
      | exact trivial
      | refine And.intro (w_nullary _ _ _ rfl) ?_
      | refine And.intro (w_unary _ _ _ _ _ rfl (by decide)) ?_
      | refine And.intro (w_binary _ _ _ _ _ _ _ rfl (by decide) (by decide)) ?_
      | refine And.intro (w_ternary _ _ _ _ _ _ _ _ _ rfl (by decide) (by decide) (by decide)) ?_
      | refine And.intro (w_quaternary _ _ _ _ _ _ _ _ _ _ _ rfl (by decide) (by decide) (by decide) (by decide)) ?_
      | refine And.intro (w_reshape _ _ _ _ _ _ rfl (by decide)) ?_

theorem scopedRefs_eq : (Finset.univ.filter fun b : Ref sig .tc => b.isScoped) = ∅ := by decide
theorem scopedSems_eq : (Finset.univ.filter fun sm : SemLoc sig => sm.isScoped .tc) = ∅ := by decide

/-- What the device's buffers hold at the end of a run from the memory `m`. -/
def final (m : (ℓ : Loc nD τ sig) → Buf (Elt F) ℓ) (c : Dev nD) : Valuation τ sig (Elt F) := after ops (launchContents m c)

/-- The final contents satisfy every operation's equation. -/
theorem final_fixed (m : (ℓ : Loc nD τ sig) → Buf (Elt F) ℓ) (c : Dev nD) : Fixed (final m c) ops := chain.fixed _

theorem final_arg0 (m : (ℓ : Loc nD τ sig) → Buf (Elt F) ℓ) (c : Dev nD) :
    final m c (Proc.devRef .tc main_arg0) = m ((c.tc : Thread nD τ).loc main_arg0) := chain.keep _ (by decide)

theorem final_arg1 (m : (ℓ : Loc nD τ sig) → Buf (Elt F) ℓ) (c : Dev nD) :
    final m c (Proc.devRef .tc main_arg1) = m ((c.tc : Thread nD τ).loc main_arg1) := chain.keep _ (by decide)

/-- Every run ends, with the result's buffer at its final contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = final m c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v64, (h c main_arg0).trans (final_arg0 m c), (h c main_arg1).trans (final_arg1 m c)⟩)
    (run_seq scopedRefs_eq scopedSems_eq defs main (fun _ => ops) main_eq (fun _ => chain.bufs) m ρ fun _ => chain.fresh)

/-- Every run ends with the arguments unchanged; there is no semaphore to count. -/
theorem quiescent (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => (h c).2, sem_eq_zero_of_no_sems rfl _⟩) (run m ρ)

end Cert.Proof.ReferenceIdeal
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_clear_draws
public import proofs.«01_k».proof.Proof.Frame
public import proofs.«01_k».proof.Proof.KernelFrame
public import proofs.«01_k».proof.Proof.KValue
public import proofs.«01_k».proof.Proof.PreValue
public import proofs.«01_k».proof.Proof.RefLoss
public import proofs.«01_k».proof.Proof.RefRun

@[expose] public section

/-! The certificate's claim, from the programs' runs. -/

namespace Cert.Proof

open Idealize.ShloMosaic Idealize.SL.Sem

/-- The mean loss of the items `J` draws. -/
noncomputable def mean (x : FVec Ideal Draw.Probs .f32) (y : IVec Draw.Probs 32) (J : Fin 4096 → Fin 16384000) : EReal :=
  Ideal.div (∑ d : Fin 4096, -Ideal.log (1 - Draw.weight (x (Draw.place (J d))) (y (Draw.place (J d))))) (Ideal.ofBits .f32 0x45800000#32)

/-- `J` draws in every draw an item of the largest score. -/
def Best (x : FVec Ideal Draw.Probs .f32) (y : IVec Draw.Probs 32) (J : Fin 4096 → Fin 16384000) : Prop :=
  ∀ (d : Fin 4096) (l : Fin 16384000), Draw.score d.val l.val (Draw.weight (x (Draw.place l)) (y (Draw.place l)))
    ≤ Draw.score d.val (J d).val (Draw.weight (x (Draw.place (J d))) (y (Draw.place (J d))))

/-- The reference's result, in the arguments. -/
theorem reference_value (m' : (ℓ : Loc Cert.ReferenceIdeal.nD Cert.ReferenceIdeal.τ Cert.ReferenceIdeal.sig) → Buf (Elt Ideal) ℓ)
    (c : Dev Cert.ReferenceIdeal.nD) (x : FVec Ideal Draw.Probs .f32) (y : IVec Draw.Probs 32)
    (hx : m' ((c.tc : Thread Cert.ReferenceIdeal.nD Cert.ReferenceIdeal.τ).loc Cert.ReferenceIdeal.main_arg0) = x)
    (hy : m' ((c.tc : Thread Cert.ReferenceIdeal.nD Cert.ReferenceIdeal.τ).loc Cert.ReferenceIdeal.main_arg1) = y)
    (hc : Draw.Clear x y) :
    ∃ J, Best x y J ∧ (ReferenceIdeal.final (F := Ideal) m' c (Proc.devRef .tc Cert.ReferenceIdeal.main_v64) : FVec Ideal Cert.ReferenceIdeal.S_ .f32) = fun _ => mean x y J := by
  have e0 : ReferenceIdeal.probs (ReferenceIdeal.final (F := Ideal) m' c) = x := (ReferenceIdeal.final_arg0 m' c).trans hx
  have e1 : ReferenceIdeal.targs (ReferenceIdeal.final (F := Ideal) m' c) = y := (ReferenceIdeal.final_arg1 m' c).trans hy
  have h := ReferenceIdeal.value (ReferenceIdeal.parts (ReferenceIdeal.final_fixed (F := Ideal) m' c)) (by rw [e1]; exact hc.binary)
  rw [e0, e1] at h
  exact h

/-- The kernel and the reference end with the same result. -/
theorem algebraic : Cert.algebraic_KernelIdeal_ReferenceIdeal_pre_clear_draws
    (hKernelIdeal := Cert.KernelIdeal.Gen.facts) (hReferenceIdeal := Cert.ReferenceIdeal.Gen.facts) (hPre_clear_draws := Cert.Pre_clear_draws.Gen.facts) := by
  intro m g m' g' hpre hargs
  have hc : ∀ c, Draw.Clear (KernelIdeal.probs m c) (KernelIdeal.targs m c) := fun c =>
    Pre.clear _ _ (hpre c).1 (hpre c).2
  have href := fun c => reference_value m' c (KernelIdeal.probs m c) (KernelIdeal.targs m c) (hargs c).1 (hargs c).2 (hc c)
  refine ⟨fun c => fun _ => mean (KernelIdeal.probs m c) (KernelIdeal.targs m c) (href c).choose, ?_, ?_⟩
  · exact KernelIdeal.run m g hc (fun c => (href c).choose) fun c d l => by
      rw [KernelIdeal.wtOf_eq, KernelIdeal.wtOf_eq]
      exact (href c).choose_spec.1 d l
  · exact (θ_run _ _ _).mono (fun _ h c => ⟨(h c).1.trans (href c).choose_spec.2, (h c).2⟩) (ReferenceIdeal.run m' g')

/-- The kernels and the reference run to the end and leave their arguments unchanged, and the kernel's result is the reference's. -/
theorem claim : Cert.Claim :=
  ⟨Cert.Kernel.Gen.facts, Cert.KernelIdeal.Gen.facts, Cert.ReferenceIdeal.Gen.facts, Cert.Pre_clear_draws.Gen.facts,
    fun m g _ => Cert.Proof.Kernel.quiescent m g,
    fun m g _ => Cert.Proof.KernelIdeal.quiescent m g,
    fun m g _ => Cert.Proof.KernelIdeal.quiescent m g,
    fun m g _ => Cert.Proof.ReferenceIdeal.quiescent m g,
    fun m g _ => Cert.Proof.ReferenceIdeal.quiescent m g,
    trivial,
    algebraic⟩

end Cert.Proof

end
